-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_groups [hPre_normal_groups : Cert.Pre_normal_groups.Facts] (m : (ℓ : Loc Cert.KernelIdeal.nD Cert.KernelIdeal.τ Cert.KernelIdeal.sig) → Buf (Elt Ideal) ℓ) : Prop :=
  ∀ c : Dev Cert.KernelIdeal.nD,
    (Cert.Pre_normal_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_groups [hPre_normal_groups : Cert.Pre_normal_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_groups [hKernelIdeal : Cert.KernelIdeal.Facts] [hPre_normal_groups : Cert.Pre_normal_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_groups [hReferenceIdeal : Cert.ReferenceIdeal.Facts] [hPre_normal_groups : Cert.Pre_normal_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal_groups [hKernelIdeal : Cert.KernelIdeal.Facts] [hReferenceIdeal : Cert.ReferenceIdeal.Facts] [hPre_normal_groups : Cert.Pre_normal_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_groups : Cert.Pre_normal_groups.Facts),
    quiescent_Kernel (hKernel := hKernel)
    ∧ quiescent_KernelIdeal (hKernelIdeal := hKernelIdeal)
    ∧ quiescent_KernelIdeal_pre_normal_groups (hKernelIdeal := hKernelIdeal) (hPre_normal_groups := hPre_normal_groups)
    ∧ quiescent_ReferenceIdeal (hReferenceIdeal := hReferenceIdeal)
    ∧ quiescent_ReferenceIdeal_pre_normal_groups (hReferenceIdeal := hReferenceIdeal) (hPre_normal_groups := hPre_normal_groups)
    ∧ preserves_Kernel_KernelIdeal
    ∧ algebraic_KernelIdeal_ReferenceIdeal_pre_normal_groups (hKernelIdeal := hKernelIdeal) (hReferenceIdeal := hReferenceIdeal) (hPre_normal_groups := hPre_normal_groups)
-- ==== Pre_normal_groups.lean ====
abbrev S256x1x3584 : Shape := ⟨3, ![256, 1, 3584]⟩
abbrev S38016x3584 : Shape := ⟨2, ![38016, 3584]⟩
abbrev S38016 : Shape := ⟨1, ![38016]⟩
abbrev S256x28x128 : Shape := ⟨3, ![256, 28, 128]⟩
abbrev S_ : Shape := ⟨0, ![]⟩
abbrev S256x28 : Shape := ⟨2, ![256, 28]⟩

class Facts : Prop where
  bitsLt_bf16_f32 : FTy.bits .bf16 < FTy.bits .f32
  shapeCasts_S256x1x3584_S256x28x128 : S256x1x3584.ShapeCasts S256x28x128
  reducesTo_S256x28x128_S256x28_d2 : S256x28x128.ReducesTo [2] S256x28
  h_S_ : 0 < S_.numel
  bcast_S_S256x28 : S_.BroadcastsInDim S256x28 (![] : Fin 0 → Fin S256x28.rank)

variable [Facts]

def fn {F : FTy → Type} [FloatOps F] (main_arg0 : FVec F S256x1x3584 .bf16) (main_arg1 : FVec F S38016x3584 .fp8e4m3) (main_arg2 : FVec F S38016 .f32) (main_arg3 : FVec F S38016 .f32) : IVec S256x28 1 :=
  let main_v0 : FVec F S256x1x3584 .f32 := (extf .f32 · bitsLt_bf16_f32) main_arg0
  let main_v1 : FVec F S256x28x128 .f32 := shapeCast S256x28x128 main_v0 shapeCasts_S256x1x3584_S256x28x128
  let main_v2 : FVec F S256x28x128 .f32 := Host.absf main_v1
  let main_cst : FVec F S_ .f32 := constant S_ .f32 0xFF800000#32
  let main_v3 : FVec F S256x28 .f32 := (fun x v => Host.reduce FloatOps.maximumf x v reducesTo_S256x28x128_S256x28_d2 h_S_) main_v2 main_cst
  let main_cst_0 : FVec F S_ .f32 := constant S_ .f32 0x00000000#32
  let main_v4 : FVec F S256x28 .f32 := broadcastInDim S256x28 ![] bcast_S_S256x28 main_cst_0
  let main_v5 : IVec S256x28 1 := cmpf .oeq main_v3 main_v4
  let main_cst_1 : FVec F S_ .f32 := constant S_ .f32 0x04E00000#32
  let main_v6 : FVec F S256x28 .f32 := broadcastInDim S256x28 ![] bcast_S_S256x28 main_cst_1
  let main_v7 : IVec S256x28 1 := cmpf .oge main_v3 main_v6
  let main_cst_2 : FVec F S_ .f32 := constant S_ .f32 0x7F7F0000#32
  let main_v8 : FVec F S256x28 .f32 := broadcastInDim S256x28 ![] bcast_S_S256x28 main_cst_2
  let main_v9 : IVec S256x28 1 := cmpf .ole main_v3 main_v8
  let main_v10 : IVec S256x28 1 := andi main_v7 main_v9
  let main_v11 : IVec S256x28 1 := ori main_v5 main_v10
  main_v11
-- ==== Kernel.lean ====
abbrev S256x1x3584 : Shape := ⟨3, ![256, 1, 3584]⟩
abbrev S38016x3584 : Shape := ⟨2, ![38016, 3584]⟩
abbrev S38016 : Shape := ⟨1, ![38016]⟩
abbrev S256x3584 : Shape := ⟨2, ![256, 3584]⟩
abbrev S1x38016 : Shape := ⟨2, ![1, 38016]⟩
abbrev S8x256 : Shape := ⟨2, ![8, 256]⟩
abbrev S28x1x256 : Shape := ⟨3, ![28, 1, 256]⟩
abbrev S512x3584 : Shape := ⟨2, ![512, 3584]⟩
abbrev S1x512 : Shape := ⟨2, ![1, 512]⟩
abbrev S256x512 : Shape := ⟨2, ![256, 512]⟩
abbrev S16x256x128 : Shape := ⟨3, ![16, 256, 128]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S28x256 : Shape := ⟨2, ![28, 256]⟩
abbrev S8x128 : Shape := ⟨2, ![8, 128]⟩
abbrev S1x8x128 : Shape := ⟨3, ![1, 8, 128]⟩
abbrev S1x256x128 : Shape := ⟨3, ![1, 256, 128]⟩
abbrev S256x8 : Shape := ⟨2, ![256, 8]⟩
abbrev S256x1x8 : Shape := ⟨3, ![256, 1, 8]⟩
abbrev S256x1x28 : Shape := ⟨3, ![256, 1, 28]⟩
abbrev S256x1x8x1 : Shape := ⟨4, ![256, 1, 8, 1]⟩
abbrev S256x1x1x8 : Shape := ⟨4, ![256, 1, 1, 8]⟩
abbrev S256x1x8x8 : Shape := ⟨4, ![256, 1, 8, 8]⟩
abbrev S_ : Shape := ⟨0, ![]⟩

abbrev nBuf : Space → Nat
  | .hbm => 36
  | .vmem => 15
  | .smem => 0
  | _ => 0

abbrev bufTy : (tb : Table) → Fin (tcTables nBuf tb) → BufTy
  | .hbm, ⟨0, _⟩ => ⟨S256x1x3584, .bf16⟩
  | .hbm, ⟨1, _⟩ => ⟨S38016x3584, .fp8e4m3⟩
  | .hbm, ⟨2, _⟩ => ⟨S38016, .f32⟩
  | .hbm, ⟨3, _⟩ => ⟨S38016, .f32⟩
  | .hbm, ⟨4, _⟩ => ⟨S256x3584, .bf16⟩
  | .hbm, ⟨5, _⟩ => ⟨S1x38016, .f32⟩
  | .hbm, ⟨6, _⟩ => ⟨S1x38016, .f32⟩
  | .hbm, ⟨7, _⟩ => ⟨S8x256, .f32⟩
  | .hbm, ⟨8, _⟩ => ⟨S8x256, .i32⟩
  | .hbm, ⟨9, _⟩ => ⟨S256x3584, .fp8e4m3⟩
  | .hbm, ⟨10, _⟩ => ⟨S28x1x256, .f32⟩
  | .hbm, ⟨11, _⟩ => ⟨S256x8, .f32⟩
  | .hbm, ⟨12, _⟩ => ⟨S256x1x8, .f32⟩
  | .hbm, ⟨13, _⟩ => ⟨S256x8, .i32⟩
  | .hbm, ⟨14, _⟩ => ⟨S256x1x8, .i32⟩
  | .hbm, ⟨15, _⟩ => ⟨S256x1x3584, .fp8e4m3⟩
  | .hbm, ⟨16, _⟩ => ⟨S256x1x28, .f32⟩
  | .hbm, ⟨17, _⟩ => ⟨S256x1x8x1, .f32⟩
  | .hbm, ⟨18, _⟩ => ⟨S256x1x1x8, .f32⟩
  | .hbm, ⟨19, _⟩ => ⟨S256x1x8x8, .f32⟩
  | .hbm, ⟨20, _⟩ => ⟨S256x1x8x8, .f32⟩
  | .hbm, ⟨21, _⟩ => ⟨S256x1x8x8, .i1⟩
  | .hbm, ⟨22, _⟩ => ⟨S256x1x8x8, .i32⟩
  | .hbm, ⟨23, _⟩ => ⟨S256x1x8x8, .i32⟩
  | .hbm, ⟨24, _⟩ => ⟨S256x1x8x8, .i1⟩
  | .hbm, ⟨25, _⟩ => ⟨S256x1x8x8, .i1⟩
  | .hbm, ⟨26, _⟩ => ⟨S_, .i1⟩
  | .hbm, ⟨27, _⟩ => ⟨S256x1x8, .i1⟩
  | .hbm, ⟨28, _⟩ => ⟨S256x1x8, .i32⟩
  | .hbm, ⟨29, _⟩ => ⟨S_, .i32⟩
  | .hbm, ⟨30, _⟩ => ⟨S256x1x8, .i32⟩
  | .hbm, ⟨31, _⟩ => ⟨S256x1x8, .i1⟩
  | .hbm, ⟨32, _⟩ => ⟨S256x1x8, .i1⟩
  | .hbm, ⟨33, _⟩ => ⟨S_, .i32⟩
  | .hbm, ⟨34, _⟩ => ⟨S256x1x8, .i32⟩
  | .hbm, ⟨35, _⟩ => ⟨S256x1x8, .i32⟩
  | .local _ .vmem, ⟨0, _⟩ => ⟨S256x3584, .bf16⟩
  | .local _ .vmem, ⟨1, _⟩ => ⟨S512x3584, .fp8e4m3⟩
  | .local _ .vmem, ⟨2, _⟩ => ⟨S512x3584, .fp8e4m3⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S8x256, .f32⟩
  | .local _ .vmem, ⟨8, _⟩ => ⟨S8x256, .i32⟩
  | .local _ .vmem, ⟨9, _⟩ => ⟨S256x3584, .fp8e4m3⟩
  | .local _ .vmem, ⟨10, _⟩ => ⟨S28x1x256, .f32⟩
  | .local _ .vmem, ⟨11, _⟩ => ⟨S256x3584, .bf16⟩
  | .local _ .vmem, ⟨12, _⟩ => ⟨S256x512, .f32⟩
  | .local _ .vmem, ⟨13, _⟩ => ⟨S16x256x128, .f32⟩
  | .local _ .vmem, ⟨14, _⟩ => ⟨S16x256x128, .f32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![75], ![false]⟩

@[reducible] def k0_t1_loop : Scf.Loop 32 :=
  let c0_i32_10 : BitVec 32 := 0#32
  let c32_i32 : BitVec 32 := 32#32
  let v19 : BitVec 32 := Scalar.addi c0_i32_10 c32_i32
  let c1_i32 : BitVec 32 := 1#32
  ⟨c0_i32_10, v19, c1_i32⟩
def k0_mult1 (k0_t1 : Fin k0_t1_loop.trips) : BitVec 32 :=
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  v23
def k0_off1 (k0_t1 : Fin k0_t1_loop.trips) : Fin 2 → Nat :=
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v25 : Index := Scalar.indexCast v24
  let c0_13 : Index := 0#32
  ![v25.toNat, 0]
def k0_off2 (k0_t1 : Fin k0_t1_loop.trips) : Fin 2 → Nat :=
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v34 : Index := Scalar.indexCast v24
  let c128 : Index := 128#32
  ![v34.toNat, 128]
def k0_off3 (k0_t1 : Fin k0_t1_loop.trips) : Fin 2 → Nat :=
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v43 : Index := Scalar.indexCast v24
  let c256 : Index := 256#32
  ![v43.toNat, 256]
def k0_off4 (k0_t1 : Fin k0_t1_loop.trips) : Fin 2 → Nat :=
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v52 : Index := Scalar.indexCast v24
  let c384 : Index := 384#32
  ![v52.toNat, 384]
def k0_off5 (k0_t1 : Fin k0_t1_loop.trips) : Fin 3 → Nat :=
  let c0_29 : Index := 0#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v91 : Index := Scalar.indexCast v24
  let c0_30 : Index := 0#32
  ![0, v91.toNat, 0]
def k0_off6 (k0_t1 : Fin k0_t1_loop.trips) : Fin 3 → Nat :=
  let c1 : Index := 1#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v110 : Index := Scalar.indexCast v24
  let c0_37 : Index := 0#32
  ![1, v110.toNat, 0]
def k0_off7 (k0_t1 : Fin k0_t1_loop.trips) : Fin 3 → Nat :=
  let c2 : Index := 2#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v129 : Index := Scalar.indexCast v24
  let c0_44 : Index := 0#32
  ![2, v129.toNat, 0]
def k0_off8 (k0_t1 : Fin k0_t1_loop.trips) : Fin 3 → Nat :=
  let c3 : Index := 3#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v148 : Index := Scalar.indexCast v24
  let c0_51 : Index := 0#32
  ![3, v148.toNat, 0]
def k0_off9 (k0_t1 : Fin k0_t1_loop.trips) : Fin 3 → Nat :=
  let c4 : Index := 4#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v167 : Index := Scalar.indexCast v24
  let c0_58 : Index := 0#32
  ![4, v167.toNat, 0]
def k0_off10 (k0_t1 : Fin k0_t1_loop.trips) : Fin 3 → Nat :=
  let c5 : Index := 5#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v186 : Index := Scalar.indexCast v24
  let c0_65 : Index := 0#32
  ![5, v186.toNat, 0]
def k0_off11 (k0_t1 : Fin k0_t1_loop.trips) : Fin 3 → Nat :=
  let c6 : Index := 6#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v205 : Index := Scalar.indexCast v24
  let c0_72 : Index := 0#32
  ![6, v205.toNat, 0]
def k0_off12 (k0_t1 : Fin k0_t1_loop.trips) : Fin 3 → Nat :=
  let c7 : Index := 7#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v224 : Index := Scalar.indexCast v24
  let c0_79 : Index := 0#32
  ![7, v224.toNat, 0]
def k0_off13 (k0_t1 : Fin k0_t1_loop.trips) : Fin 3 → Nat :=
  let c8 : Index := 8#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v241 : Index := Scalar.indexCast v24
  let c0_86 : Index := 0#32
  ![8, v241.toNat, 0]
def k0_off14 (k0_t1 : Fin k0_t1_loop.trips) : Fin 3 → Nat :=
  let c9 : Index := 9#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v260 : Index := Scalar.indexCast v24
  let c0_93 : Index := 0#32
  ![9, v260.toNat, 0]
def k0_off15 (k0_t1 : Fin k0_t1_loop.trips) : Fin 3 → Nat :=
  let c10 : Index := 10#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v279 : Index := Scalar.indexCast v24
  let c0_100 : Index := 0#32
  ![10, v279.toNat, 0]
def k0_off16 (k0_t1 : Fin k0_t1_loop.trips) : Fin 3 → Nat :=
  let c11 : Index := 11#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v298 : Index := Scalar.indexCast v24
  let c0_107 : Index := 0#32
  ![11, v298.toNat, 0]
def k0_off17 (k0_t1 : Fin k0_t1_loop.trips) : Fin 3 → Nat :=
  let c12 : Index := 12#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v315 : Index := Scalar.indexCast v24
  let c0_114 : Index := 0#32
  ![12, v315.toNat, 0]
def k0_off18 (k0_t1 : Fin k0_t1_loop.trips) : Fin 3 → Nat :=
  let c13 : Index := 13#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v334 : Index := Scalar.indexCast v24
  let c0_121 : Index := 0#32
  ![13, v334.toNat, 0]
def k0_off19 (k0_t1 : Fin k0_t1_loop.trips) : Fin 3 → Nat :=
  let c14 : Index := 14#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v351 : Index := Scalar.indexCast v24
  let c0_128 : Index := 0#32
  ![14, v351.toNat, 0]
def k0_off20 (k0_t1 : Fin k0_t1_loop.trips) : Fin 3 → Nat :=
  let c15 : Index := 15#32
  let c0_i32_10 : BitVec 32 := 0#32
  let c1_i32 : BitVec 32 := 1#32
  let arg13 : BitVec 32 := Scf.iv c0_i32_10 c1_i32 k0_t1
  let c8_i32 : BitVec 32 := 8#32
  let v23 : BitVec 32 := Scalar.muli arg13 c8_i32
  let v24 : BitVec 32 := v23
  let v370 : Index := Scalar.indexCast v24
  let c0_135 : Index := 0#32
  ![15, v370.toNat, 0]
def k0_cond2 (i : grid0.Coords) : BitVec 1 :=
  let arg0 : BitVec 32 := BitVec.ofNat 32 (i 0).val
  let c74_i32 : BitVec 32 := 74#32
  let v20 : BitVec 1 := Scalar.cmpi .eq arg0 c74_i32
  let v21 : BitVec 32 := Scalar.extui v20
  let c0_i32_12 : BitVec 32 := 0#32
  let v22 : BitVec 1 := Scalar.cmpi .ne v21 c0_i32_12
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S28x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x1x3584 : Shape := ⟨3, ![256, 1, 3584]⟩
abbrev S38016x3584 : Shape := ⟨2, ![38016, 3584]⟩
abbrev S38016 : Shape := ⟨1, ![38016]⟩
abbrev S256x1x28x128 : Shape := ⟨4, ![256, 1, 28, 128]⟩
abbrev S_ : Shape := ⟨0, ![]⟩
abbrev S256x1x28 : Shape := ⟨3, ![256, 1, 28]⟩
abbrev S278 : Shape := ⟨1, ![278]⟩
abbrev S256x1x28x1 : Shape := ⟨4, ![256, 1, 28, 1]⟩
abbrev S1x1x1x278 : Shape := ⟨4, ![1, 1, 1, 278]⟩
abbrev S256x1x28x278 : Shape := ⟨4, ![256, 1, 28, 278]⟩
abbrev S256x3584 : Shape := ⟨2, ![256, 3584]⟩
abbrev S256x38016 : Shape := ⟨2, ![256, 38016]⟩
abbrev S1x38016 : Shape := ⟨2, ![1, 38016]⟩
abbrev S256x8 : Shape := ⟨2, ![256, 8]⟩
abbrev S256x1x8 : Shape := ⟨3, ![256, 1, 8]⟩
abbrev S256x1x8x1 : Shape := ⟨4, ![256, 1, 8, 1]⟩
abbrev S256x1x1x8 : Shape := ⟨4, ![256, 1, 1, 8]⟩
abbrev S256x1x8x8 : Shape := ⟨4, ![256, 1, 8, 8]⟩

abbrev nBuf : Space → Nat
  | .hbm => 92
  | .vmem => 4
  | .smem => 0
  | _ => 0

abbrev bufTy : (tb : Table) → Fin (tcTables nBuf tb) → BufTy
  | .hbm, ⟨0, _⟩ => ⟨S256x1x3584, .bf16⟩
  | .hbm, ⟨1, _⟩ => ⟨S38016x3584, .fp8e4m3⟩
  | .hbm, ⟨2, _⟩ => ⟨S38016, .f32⟩
  | .hbm, ⟨3, _⟩ => ⟨S38016, .f32⟩
  | .hbm, ⟨4, _⟩ => ⟨S256x1x3584, .f32⟩
  | .hbm, ⟨5, _⟩ => ⟨S256x1x28x128, .f32⟩
  | .hbm, ⟨6, _⟩ => ⟨S256x1x28x128, .f32⟩
  | .hbm, ⟨7, _⟩ => ⟨S_, .f32⟩
  | .hbm, ⟨8, _⟩ => ⟨S256x1x28, .f32⟩
  | .hbm, ⟨9, _⟩ => ⟨S_, .f32⟩
  | .hbm, ⟨10, _⟩ => ⟨S256x1x28, .f32⟩
  | .hbm, ⟨11, _⟩ => ⟨S256x1x28, .f32⟩
  | .hbm, ⟨12, _⟩ => ⟨S278, .f32⟩
  | .hbm, ⟨13, _⟩ => ⟨S_, .f32⟩
  | .hbm, ⟨14, _⟩ => ⟨S278, .f32⟩
  | .hbm, ⟨15, _⟩ => ⟨S278, .f32⟩
  | .hbm, ⟨16, _⟩ => ⟨S_, .f32⟩
  | .hbm, ⟨17, _⟩ => ⟨S278, .f32⟩
  | .hbm, ⟨18, _⟩ => ⟨S278, .f32⟩
  | .hbm, ⟨19, _⟩ => ⟨S256x1x28x1, .f32⟩
  | .hbm, ⟨20, _⟩ => ⟨S1x1x1x278, .f32⟩
  | .hbm, ⟨21, _⟩ => ⟨S256x1x28x278, .f32⟩
  | .hbm, ⟨22, _⟩ => ⟨S256x1x28x278, .f32⟩
  | .hbm, ⟨23, _⟩ => ⟨S256x1x28x278, .i1⟩
  | .hbm, ⟨24, _⟩ => ⟨S_, .f32⟩
  | .hbm, ⟨25, _⟩ => ⟨S_, .f32⟩
  | .hbm, ⟨26, _⟩ => ⟨S256x1x28x278, .f32⟩
  | .hbm, ⟨27, _⟩ => ⟨S256x1x28x278, .f32⟩
  | .hbm, ⟨28, _⟩ => ⟨S256x1x28x278, .f32⟩
  | .hbm, ⟨29, _⟩ => ⟨S_, .f32⟩
  | .hbm, ⟨30, _⟩ => ⟨S256x1x28, .f32⟩
  | .hbm, ⟨31, _⟩ => ⟨S_, .f32⟩
  | .hbm, ⟨32, _⟩ => ⟨S256x1x28, .f32⟩
  | .hbm, ⟨33, _⟩ => ⟨S256x1x28, .i1⟩
  | .hbm, ⟨34, _⟩ => ⟨S_, .f32⟩
  | .hbm, ⟨35, _⟩ => ⟨S_, .f32⟩
  | .hbm, ⟨36, _⟩ => ⟨S256x1x28, .f32⟩
  | .hbm, ⟨37, _⟩ => ⟨S256x1x28, .f32⟩
  | .hbm, ⟨38, _⟩ => ⟨S_, .f32⟩
  | .hbm, ⟨39, _⟩ => ⟨S256x1x28, .f32⟩
  | .hbm, ⟨40, _⟩ => ⟨S256x1x28, .f32⟩
  | .hbm, ⟨41, _⟩ => ⟨S_, .f32⟩
  | .hbm, ⟨42, _⟩ => ⟨S256x1x28, .f32⟩
  | .hbm, ⟨43, _⟩ => ⟨S256x1x28, .f32⟩
  | .hbm, ⟨44, _⟩ => ⟨S256x1x28, .f32⟩
  | .hbm, ⟨45, _⟩ => ⟨S256x1x28x1, .f32⟩
  | .hbm, ⟨46, _⟩ => ⟨S256x1x28x128, .f32⟩
  | .hbm, ⟨47, _⟩ => ⟨S256x1x28x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S256x1x28x128, .f32⟩
  | .hbm, ⟨52, _⟩ => ⟨S256x1x28x128, .f32⟩
  | .hbm, ⟨53, _⟩ => ⟨S_, .f32⟩
  | .hbm, ⟨54, _⟩ => ⟨S256x1x28x128, .f32⟩
  | .hbm, ⟨55, _⟩ => ⟨S256x1x28x128, .f32⟩
  | .hbm, ⟨56, _⟩ => ⟨S256x1x28x128, .fp8e4m3⟩
  | .hbm, ⟨57, _⟩ => ⟨S256x1x3584, .fp8e4m3⟩
  | .hbm, ⟨58, _⟩ => ⟨S256x1x28x1, .f32⟩
  | .hbm, ⟨59, _⟩ => ⟨S256x1x28x128, .f32⟩
  | .hbm, ⟨60, _⟩ => ⟨S256x3584, .fp8e4m3⟩
  | .hbm, ⟨61, _⟩ => ⟨S256x3584, .f32⟩
  | .hbm, ⟨62, _⟩ => ⟨S256x38016, .f32⟩
  | .hbm, ⟨63, _⟩ => ⟨S1x38016, .f32⟩
  | .hbm, ⟨64, _⟩ => ⟨S256x38016, .f32⟩
  | .hbm, ⟨65, _⟩ => ⟨S256x38016, .f32⟩
  | .hbm, ⟨66, _⟩ => ⟨S1x38016, .f32⟩
  | .hbm, ⟨67, _⟩ => ⟨S256x38016, .f32⟩
  | .hbm, ⟨68, _⟩ => ⟨S256x38016, .f32⟩
  | .hbm, ⟨69, _⟩ => ⟨S256x8, .f32⟩
  | .hbm, ⟨70, _⟩ => ⟨S256x8, .i32⟩
  | .hbm, ⟨71, _⟩ => ⟨S256x1x8, .f32⟩
  | .hbm, ⟨72, _⟩ => ⟨S256x1x8, .i32⟩
  | .hbm, ⟨73, _⟩ => ⟨S256x1x8x1, .f32⟩
  | .hbm, ⟨74, _⟩ => ⟨S256x1x1x8, .f32⟩
  | .hbm, ⟨75, _⟩ => ⟨S256x1x8x8, .f32⟩
  | .hbm, ⟨76, _⟩ => ⟨S256x1x8x8, .f32⟩
  | .hbm, ⟨77, _⟩ => ⟨S256x1x8x8, .i1⟩
  | .hbm, ⟨78, _⟩ => ⟨S256x1x8x8, .i32⟩
  | .hbm, ⟨79, _⟩ => ⟨S256x1x8x8, .i32⟩
  | .hbm, ⟨80, _⟩ => ⟨S256x1x8x8, .i1⟩
  | .hbm, ⟨81, _⟩ => ⟨S256x1x8x8, .i1⟩
  | .hbm, ⟨82, _⟩ => ⟨S_, .i1⟩
  | .hbm, ⟨83, _⟩ => ⟨S256x1x8, .i1⟩
  | .hbm, ⟨84, _⟩ => ⟨S256x1x8, .i32⟩
  | .hbm, ⟨85, _⟩ => ⟨S_, .i32⟩
  | .hbm, ⟨86, _⟩ => ⟨S256x1x8, .i32⟩
  | .hbm, ⟨87, _⟩ => ⟨S256x1x8, .i1⟩
  | .hbm, ⟨88, _⟩ => ⟨S256x1x8, .i1⟩
  | .hbm, ⟨89, _⟩ => ⟨S_, .i32⟩
  | .hbm, ⟨90, _⟩ => ⟨S256x1x8, .i32⟩
  | .hbm, ⟨91, _⟩ => ⟨S256x1x8, .i32⟩
  | .local _ .vmem, ⟨0, _⟩ => ⟨S256x3584, .fp8e4m3⟩
  | .local _ .vmem, ⟨1, _⟩ => ⟨S256x3584, .f32⟩
  | .local _ .vmem, ⟨2, _⟩ => ⟨S38016x3584, .fp8e4m3⟩
  | .local _ .vmem, ⟨3, _⟩ => ⟨S256x38016, .f32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_cst_10 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_values : Ref sig .tc := ⟨.hbm, 69, rfl⟩
abbrev main_indices : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S38016x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x38016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- The kernel's body, written as structured programs: the quantiser of one group, the ranking of one
   block of eight rows, and the selection of one result from the lists. Each program is written in
   continuation form over arbitrary buffers, so that the printed body unfolds to it. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

universe u

namespace Cert.Head

open Idealize.ShloMosaic Idealize.SL.Sem

/-- The lists' slots: slot, token, lane. -/
abbrev SL : Shape := ⟨3, ![16, 256, 128]⟩
/-- One slot. -/
abbrev S1 : Shape := ⟨3, ![1, 256, 128]⟩
/-- Tokens by lanes. -/
abbrev ST : Shape := ⟨2, ![256, 128]⟩
/-- One number a token, as a column, -/
abbrev SC : Shape := ⟨2, ![256, 1]⟩
/-- and as a row. -/
abbrev SV : Shape := ⟨1, ![256]⟩
/-- The results of the selection: rank by token. -/
abbrev SO : Shape := ⟨2, ![8, 256]⟩
/-- Lanes by tokens. -/
abbrev STt : Shape := ⟨2, ![128, 256]⟩

theorem pos1 : 0 < S1.numel := by decide
theorem posO : 0 < SO.numel := by decide
theorem iotaT : ST.Iotas .tc 32 [1] := by decide
theorem cast1T : S1.ShapeCasts ST := by decide
theorem castT1 : ST.ShapeCasts S1 := by decide
theorem castVC : SV.ShapeCasts SC := by decide
theorem castCC : SC.ShapeCasts SC := by decide
theorem bcCT : SC.Broadcasts ST := by decide
theorem redTV : ST.Reduces [1] SV := by decide
theorem trT : ST.Transposes [1, 0] STt := by decide
theorem slO : STt.Slices ![0, 0] SO := by decide
theorem inbO : ∀ a, (![0, 0] : Fin 2 → Nat) a + SO.size a ≤ SO.size a := by decide
theorem inbS {s : Nat} (hs : s < 16) : ∀ a, (![s, 0, 0] : Fin 3 → Nat) a + S1.size a ≤ SL.size a := by
  intro a
  fin_cases a <;> simp <;> omega

variable {nD : Nat} {τ : Topo} {sig : RefSig} {Λ₀ : Labels} {F : FTy → Type} [FloatOps F]

/-- A program of the kernel's body. -/
abbrev PR (nD : Nat) (τ : Topo) (sig : RefSig) (Λ₀ : Labels) (F : FTy → Type) :=
  Prog (TpuEff nD τ sig (Elt F) Λ₀ .tc) PUnit

/-- The rectangle of one slot. -/
abbrev slotR {s : Nat} (hs : s < 16) : Rect SL := Rect.unit (s := SL) ![s, 0, 0] S1.size (inbS hs)

/-- Read one slot. -/
def rdS (m : Memref sig .tc .vmem SL .f32) (s : Nat) (hs : s < 16)
    (K : FVec F ST .f32 → PR nD τ sig Λ₀ F) : PR nD τ sig Λ₀ F :=
  .op (.load m (slotR hs).toLoadRect (View.loadsAt_vmem pos1)) fun v =>
    K (shapeCast ST (v : Vec F S1 .f32) cast1T)

/-- Write one slot, after a read whose value is not used. -/
def wrS (m : Memref sig .tc .vmem SL .f32) (s : Nat) (hs : s < 16) (x : FVec F ST .f32)
    (K : PR nD τ sig Λ₀ F) : PR nD τ sig Λ₀ F :=
  .op (.load m (slotR hs).toLoadRect (View.loadsAt_vmem pos1)) fun _ =>
    .op (.store m (slotR hs) (shapeCast S1 x castT1) Finset.univ (View.stores_vmem_bits_univ pos1 rfl) (.inl rfl)) fun _ => K

/-- Where the entry is the one selected, move the next slot's entry up. -/
def popMid (lv li : Memref sig .tc .vmem SL .f32) (hit : IVec ST 1) (s : Nat) (hs : s + 1 < 16)
    (K : PR nD τ sig Λ₀ F) : PR nD τ sig Λ₀ F :=
  rdS lv (s + 1) hs fun nv => rdS li (s + 1) hs fun ni =>
  rdS lv s (Nat.lt_of_succ_lt hs) fun hv => wrS lv s (Nat.lt_of_succ_lt hs) (select hit nv hv) <|
  rdS li s (Nat.lt_of_succ_lt hs) fun hi => wrS li s (Nat.lt_of_succ_lt hs) (select hit ni hi) K

/-- The last slot of a list is emptied. -/
def popLast (lv li : Memref sig .tc .vmem SL .f32) (hit : IVec ST 1) (s : Nat) (hs : s < 16)
    (K : PR nD τ sig Λ₀ F) : PR nD τ sig Λ₀ F :=
  rdS lv s hs fun hv =>
  wrS lv s hs (select hit (broadcast ST (Scalar.ofBits .f32 0xFF800000#32)) hv) <|
  rdS li s hs fun hi =>
  wrS li s hs (select hit (broadcast ST (Scalar.ofBits .f32 0x00000000#32)) hi) K

/-- Pop the list of `n + 1` slots from slot `s`. -/
def popList (lv li : Memref sig .tc .vmem SL .f32) (hit : IVec ST 1) :
    (n s : Nat) → s + n < 16 → PR nD τ sig Λ₀ F → PR nD τ sig Λ₀ F
  | 0, s, hs, K => popLast lv li hit s hs K
  | n + 1, s, hs, K => popMid lv li hit s (by omega) (popList lv li hit n (s + 1) (by omega) K)

/-- The lane of an element. -/
def laneI : IVec ST 32 := iota .tc ST 32 [1] iotaT
/-- The lane as a float. -/
def laneF : FVec F ST .f32 := sitofp .f32 laneI
/-- A vector of one float. -/
def bcf (b : BitVec 32) : FVec F ST .f32 := broadcast ST (Scalar.ofBits .f32 b)
/-- The index of an entry: its tile's first column plus the lane. -/
def idxOf (li : FVec F ST .f32) : FVec F ST .f32 := addf (mulf li (bcf 0x43000000#32)) laneF
/-- The greatest of four heads in each row. -/
def bestOf (a b c d : FVec F ST .f32) : FVec F SC .f32 :=
  shapeCast SC (multiReduction .maximumf [1] SV (maximumf (maximumf (maximumf a b) c) d) 0xFF800000#32 redTV (.inl rfl) rfl) castVC
/-- The least of four candidates in each row. -/
def leastOf (a b c d : FVec F ST .f32) : FVec F SC .f32 :=
  shapeCast SC (multiReduction .minimumf [1] SV (minimumf (minimumf (minimumf a b) c) d) 0x7F800000#32 redTV (.inl rfl) rfl) castVC
/-- The index where the head is the row's best, otherwise +inf. -/
def whereOf (h i : FVec F ST .f32) (best : FVec F SC .f32) : FVec F ST .f32 :=
  select (cmpf .oeq h (broadcastTo ST best bcCT)) i (bcf 0x7F800000#32)
/-- Put a column into lane `k`. -/
def putLane (k : BitVec 32) (x : FVec F SC .f32) (o : FVec F ST .f32) : FVec F ST .f32 :=
  select (cmpi .eq laneI (broadcast ST k)) (broadcastTo ST (shapeCast SC x castCC) bcCT) o
/-- Where a candidate is the selected index. -/
def hitOf (w : FVec F ST .f32) (x : FVec F SC .f32) : IVec ST 1 := cmpf .oeq w (broadcastTo ST x bcCT)

/-- One round of the selection, from the four heads. -/
def roundH (lv li : Memref sig .tc .vmem SL .f32) (k : BitVec 32) (ov oi : FVec F ST .f32)
    (v0 i0 v1 i1 v2 i2 v3 i3 : FVec F ST .f32)
    (K : FVec F ST .f32 → FVec F ST .f32 → PR nD τ sig Λ₀ F) : PR nD τ sig Λ₀ F :=
  let best := bestOf v0 v1 v2 v3
  let w0 := whereOf v0 (idxOf i0) best
  let w1 := whereOf v1 (idxOf i1) best
  let w2 := whereOf v2 (idxOf i2) best
  let w3 := whereOf v3 (idxOf i3) best
  let ix := leastOf w0 w1 w2 w3
  popList lv li (hitOf w0 ix) 7 0 (by omega) <|
  popList lv li (hitOf w1 ix) 3 8 (by omega) <|
  popList lv li (hitOf w2 ix) 1 12 (by omega) <|
  popList lv li (hitOf w3 ix) 1 14 (by omega) <|
  K (putLane k best ov) (putLane k ix oi)

/-- One round of the selection. -/
def round (lv li : Memref sig .tc .vmem SL .f32) (k : BitVec 32) (ov oi : FVec F ST .f32)
    (K : FVec F ST .f32 → FVec F ST .f32 → PR nD τ sig Λ₀ F) : PR nD τ sig Λ₀ F :=
  rdS lv 0 (by omega) fun v0 => rdS li 0 (by omega) fun i0 =>
  rdS lv 8 (by omega) fun v1 => rdS li 8 (by omega) fun i1 =>
  rdS lv 12 (by omega) fun v2 => rdS li 12 (by omega) fun i2 =>
  rdS lv 14 (by omega) fun v3 => rdS li 14 (by omega) fun i3 =>
  roundH lv li k ov oi v0 i0 v1 i1 v2 i2 v3 i3 K

/-- The rounds from the `k`-th, `n` of them. -/
def rounds (lv li : Memref sig .tc .vmem SL .f32) (K : FVec F ST .f32 → FVec F ST .f32 → PR nD τ sig Λ₀ F) :
    (n k : Nat) → FVec F ST .f32 → FVec F ST .f32 → PR nD τ sig Λ₀ F
  | 0, _, ov, oi => K ov oi
  | n + 1, k, ov, oi => round lv li (BitVec.ofNat 32 k) ov oi fun ov' oi' => rounds lv li K n (k + 1) ov' oi'

/-- The first eight lanes, as rows. -/
def rowsO {α : EltTy} (x : Vec F ST α) : Vec F SO α :=
  extractStridedSlice SO ![0, 0] (transpose STt [1, 0] x trT) slO

/-- The results are written, each after a read whose value is not used. -/
def emit (tv : Memref sig .tc .vmem SO .f32) (ti : Memref sig .tc .vmem SO .i32) (ov oi : FVec F ST .f32) (K : PR nD τ sig Λ₀ F) : PR nD τ sig Λ₀ F :=
  .op (.load tv (Rect.unit (s := SO) ![0, 0] SO.size inbO).toLoadRect (View.loadsAt_vmem posO)) fun _ =>
  .op (.store tv (Rect.unit (s := SO) ![0, 0] SO.size inbO) (rowsO (α := .f32) ov) Finset.univ (View.stores_vmem_bits_univ posO rfl) (.inl rfl)) fun _ =>
  .op (.load ti (Rect.unit (s := SO) ![0, 0] SO.size inbO).toLoadRect (View.loadsAt_vmem posO)) fun _ =>
  .op (.store ti (Rect.unit (s := SO) ![0, 0] SO.size inbO) (fptosi 32 (rowsO (α := .f32) oi : FVec F SO .f32)) Finset.univ (View.stores_vmem_bits_univ posO rfl) (.inl rfl)) fun _ =>
  K

/-- The selection. -/
def selection (tv : Memref sig .tc .vmem SO .f32) (ti : Memref sig .tc .vmem SO .i32)
    (lv li : Memref sig .tc .vmem SL .f32) (K : PR nD τ sig Λ₀ F) : PR nD τ sig Λ₀ F :=
  rounds lv li (fun ov oi => emit tv ti ov oi K) 8 0 (bcf 0x00000000#32) (bcf 0x00000000#32)

/-! ## The quantiser -/

/-- The tokens' features, -/
abbrev SX : Shape := ⟨2, ![256, 3584]⟩
/-- the scales, group by token, -/
abbrev SG : Shape := ⟨3, ![28, 1, 256]⟩
/-- and the same without the middle axis. -/
abbrev SGt : Shape := ⟨2, ![28, 256]⟩

theorem posT : 0 < ST.numel := by decide
theorem posG : 0 < SG.numel := by decide
theorem posL : 0 < SL.numel := by decide
theorem castTT : ST.ShapeCasts ST := by decide
theorem castGt : SGt.ShapeCasts SG := by decide
theorem castLL : SL.ShapeCasts SL := by decide
theorem slG : STt.Slices ![0, 0] SGt := by decide
theorem inbG : ∀ a, (![0, 0, 0] : Fin 3 → Nat) a + SG.size a ≤ SG.size a := by decide
theorem inbL : ∀ a, (![0, 0, 0] : Fin 3 → Nat) a + SL.size a ≤ SL.size a := by decide
theorem inbX {g : Nat} (hg : g < 28) : ∀ a, (![0, 128 * g] : Fin 2 → Nat) a + ST.size a ≤ SX.size a := by
  intro a
  fin_cases a <;> simp <;> omega
theorem bitsBf : (FTy.bf16).bits < (FTy.f32).bits := by decide
theorem bitsF8 : (FTy.fp8e4m3).bits < (FTy.f32).bits := by decide
theorem bitsF8Bf : (FTy.fp8e4m3).bits < (FTy.bf16).bits := by decide

/-- The rectangle of one group. -/
abbrev grpR {g : Nat} (hg : g < 28) : Rect SX := Rect.unit (s := SX) ![0, 128 * g] ST.size (inbX hg)

theorem rankX : 2 ≤ SX.rank := by decide

theorem packR (p : Nat) (hp : p ∣ 256) {g : Nat} (hg : g < 28) : (grpR hg).PackedRows p :=
  .inr ⟨rankX, rfl, .inl ⟨dvd_zero p, hp⟩⟩

/-- The float whose exponent field is `f` and whose other bits are zero. -/
def ofField (f : IVec ST 32) : FVec F ST .f32 := bitcastToFloat .f32 (shli f (broadcast ST 23#32))
/-- One bit of the exponent field is tried: it stays set if the power of two it makes is no greater. -/
def fieldStep (y : FVec F ST .f32) (n : BitVec 32) (f : IVec ST 32) : IVec ST 32 :=
  select (cmpf .oge y (ofField (F := F) (addi f (broadcast ST n)))) (addi f (broadcast ST n)) f
/-- The exponent field, bit after bit. -/
def fieldOf (y : FVec F ST .f32) : IVec ST 32 :=
  fieldStep y 1#32 <| fieldStep y 2#32 <| fieldStep y 4#32 <| fieldStep y 8#32 <|
  fieldStep y 16#32 <| fieldStep y 32#32 <| fieldStep y 64#32 <| fieldStep y 128#32 (broadcast ST 0#32)
/-- The exponent of the scale. -/
def expOf (f : IVec ST 32) : IVec ST 32 :=
  select (cmpi .eq f (broadcast ST 0#32)) (broadcast ST 0#32) (subi f (broadcast ST 126#32))
/-- The scale, -/
def scaleOf (e : IVec ST 32) : FVec F ST .f32 := ofField (addi e (broadcast ST 127#32))
/-- and its reciprocal. -/
def invOf (e : IVec ST 32) : FVec F ST .f32 := ofField (subi (broadcast ST 127#32) e)
/-- The features of one group as the quantiser reads them. -/
def xfOf (v : Vec F ST .bf16) : FVec F ST .f32 := extf .f32 (shapeCast ST v castTT : FVec F ST .bf16) bitsBf
/-- The greatest magnitude of the group, over the codes' greatest. -/
def amaxOf (xf : FVec F ST .f32) : FVec F ST .f32 :=
  broadcastTo ST (shapeCast SC (mulf
    (shapeCast SC (multiReduction .maximumf [1] SV (absf xf) 0xFF800000#32 redTV (.inl rfl) rfl) castVC)
    (broadcast SC (Scalar.ofBits .f32 0x3B124925#32))) castCC) bcCT
/-- The exponent of the group's scale. -/
def grpExp (xf : FVec F ST .f32) : IVec ST 32 := expOf (fieldOf (amaxOf xf))
/-- The codes of the group. -/
def codesOf (xf : FVec F ST .f32) (e : IVec ST 32) : FVec F ST .fp8e4m3 :=
  truncf .fp8e4m3 (minimumf (bcf 0x43E00000#32) (maximumf (bcf 0xC3E00000#32) (mulf xf (invOf e)))) bitsF8
/-- The dequantised group. -/
def xbOf (xf : FVec F ST .f32) (e : IVec ST 32) : FVec F ST .bf16 :=
  mulf (extf .bf16 (codesOf xf e) bitsF8Bf) (truncf .bf16 (scaleOf e : FVec F ST .f32) bitsBf)
/-- Put the scale into lane `g`. -/
def putScale (g : BitVec 32) (s o : FVec F ST .f32) : FVec F ST .f32 :=
  select (cmpi .eq laneI (broadcast ST g)) s o

/-- One group. -/
def quant (x : Memref sig .tc .vmem SX .bf16) (c : Memref sig .tc .vmem SX .fp8e4m3) (hc : c.IsWhole)
    (xb : Memref sig .tc .vmem SX .bf16) (hxb : xb.IsWhole) (g : Nat) (hg : g < 28) (sc : FVec F ST .f32)
    (K : FVec F ST .f32 → PR nD τ sig Λ₀ F) : PR nD τ sig Λ₀ F :=
  .op (.load x (grpR hg).toLoadRect (View.loadsAt_vmem posT)) fun v =>
  .op (.load c (grpR hg).toLoadRect (View.loadsAt_vmem posT)) fun _ =>
  .op (.store c (grpR hg) (codesOf (xfOf v) (grpExp (xfOf v))) Finset.univ
    (View.stores_vmem posT (hc.storeExact_slice rfl _ (packR _ (by decide) hg)) (fun _ => rfl)) (.inl rfl)) fun _ =>
  .op (.load xb (grpR hg).toLoadRect (View.loadsAt_vmem posT)) fun _ =>
  .op (.store xb (grpR hg) (shapeCast ST (xbOf (xfOf v) (grpExp (xfOf v))) castTT) Finset.univ
    (View.stores_vmem posT (hxb.storeExact_slice rfl _ (packR _ (by decide) hg)) (fun _ => rfl)) (.inl rfl)) fun _ =>
  K (putScale (BitVec.ofNat 32 g) (scaleOf (grpExp (xfOf v))) sc)

/-- The groups from the `g`-th, `n` of them. -/
def quants (x : Memref sig .tc .vmem SX .bf16) (c : Memref sig .tc .vmem SX .fp8e4m3) (hc : c.IsWhole)
    (xb : Memref sig .tc .vmem SX .bf16) (hxb : xb.IsWhole) (K : FVec F ST .f32 → PR nD τ sig Λ₀ F) :
    (n g : Nat) → g + n = 28 → FVec F ST .f32 → PR nD τ sig Λ₀ F
  | 0, _, _, sc => K sc
  | n + 1, g, h, sc => quant x c hc xb hxb g (by omega) sc fun sc' => quants x c hc xb hxb K n (g + 1) (by omega) sc'

/-- Write the whole of the lists' values or indices, after a read whose value is not used. -/
def fillL (m : Memref sig .tc .vmem SL .f32) (b : BitVec 32) (K : PR nD τ sig Λ₀ F) : PR nD τ sig Λ₀ F :=
  .op (.load m (Rect.unit (s := SL) ![0, 0, 0] SL.size inbL).toLoadRect (View.loadsAt_vmem posL)) fun _ =>
  .op (.store m (Rect.unit (s := SL) ![0, 0, 0] SL.size inbL) (shapeCast SL (broadcast SL (Scalar.ofBits .f32 b) : FVec F SL .f32) castLL) Finset.univ
    (View.stores_vmem_bits_univ posL rfl) (.inl rfl)) fun _ => K

/-- The scales as they are written: group by token. -/
def scalesOut (sc : FVec F ST .f32) : FVec F SG .f32 :=
  shapeCast SG (extractStridedSlice SGt ![0, 0] (transpose STt [1, 0] sc trT) slG : FVec F SGt .f32) castGt

/-- The first step's part of the body: the quantiser, and the lists emptied. -/
def setup (x : Memref sig .tc .vmem SX .bf16) (c : Memref sig .tc .vmem SX .fp8e4m3) (hc : c.IsWhole)
    (s : Memref sig .tc .vmem SG .f32)
    (xb : Memref sig .tc .vmem SX .bf16) (hxb : xb.IsWhole) (lv li : Memref sig .tc .vmem SL .f32)
    (K : PR nD τ sig Λ₀ F) : PR nD τ sig Λ₀ F :=
  quants x c hc xb hxb (fun sc =>
    .op (.load s (Rect.unit (s := SG) ![0, 0, 0] SG.size inbG).toLoadRect (View.loadsAt_vmem posG)) fun _ =>
    .op (.store s (Rect.unit (s := SG) ![0, 0, 0] SG.size inbG) (scalesOut sc) Finset.univ (View.stores_vmem_bits_univ posG rfl) (.inl rfl)) fun _ =>
    fillL lv 0xFF800000#32 <| fillL li 0x00000000#32 K) 28 0 rfl (bcf 0x00000000#32)

/-! ## The ranking of eight rows -/

/-- The logits of one unit. -/
abbrev SU : Shape := ⟨2, ![256, 512]⟩
/-- Eight rows of a tile, -/
abbrev SB : Shape := ⟨2, ![8, 128]⟩
/-- and of a slot. -/
abbrev SB1 : Shape := ⟨3, ![1, 8, 128]⟩

theorem posB : 0 < SB.numel := by decide
theorem posB1 : 0 < SB1.numel := by decide
theorem castB : SB1.ShapeCasts SB := by decide
theorem castB1 : SB.ShapeCasts SB1 := by decide

/-- The loop over the blocks of eight rows. -/
@[reducible] def blkLoop : Scf.Loop 32 := ⟨0#32, 32#32, 1#32⟩
theorem blkTrips : blkLoop.trips = 32 := by decide
theorem blkOK : blkLoop.OK := by decide
/-- The first row of a block. -/
def rowOf (r : Fin blkLoop.trips) : BitVec 32 := Scalar.indexCast (Scalar.muli (Scf.iv 0#32 1#32 r) 8#32)
theorem rowOf_toNat : ∀ r : Fin blkLoop.trips, (rowOf r).toNat = 8 * r.val := by decide +kernel

theorem inbU (r : Fin blkLoop.trips) {t : Nat} (ht : t < 4) :
    ∀ a, (![(rowOf r).toNat, 128 * t] : Fin 2 → Nat) a + SB.size a ≤ SU.size a := by
  have h := rowOf_toNat r
  have h' : r.val < 32 := Nat.lt_of_lt_of_eq r.isLt blkTrips
  intro a
  fin_cases a <;> simp [h] <;> omega
theorem inbB (r : Fin blkLoop.trips) {s : Nat} (hs : s < 16) :
    ∀ a, (![s, (rowOf r).toNat, 0] : Fin 3 → Nat) a + SB1.size a ≤ SL.size a := by
  have h := rowOf_toNat r
  have h' : r.val < 32 := Nat.lt_of_lt_of_eq r.isLt blkTrips
  intro a
  fin_cases a <;> simp [h] <;> omega

/-- Eight rows of a slot. -/
abbrev blkR (r : Fin blkLoop.trips) {s : Nat} (hs : s < 16) : Rect SL :=
  Rect.unit (s := SL) ![s, (rowOf r).toNat, 0] SB1.size (inbB r hs)
/-- Eight rows of a tile of the logits. -/
abbrev tileR (r : Fin blkLoop.trips) {t : Nat} (ht : t < 4) : Rect SU :=
  Rect.unit (s := SU) ![(rowOf r).toNat, 128 * t] SB.size (inbU r ht)

/-- Of two entries the greater's tiles, the first's where they are equal, -/
def hiT (av at' bv bt : FVec F SB .f32) : FVec F SB .f32 := select (cmpf .ogt bv av) bt at'
/-- and the other's. -/
def loT (av at' bv bt : FVec F SB .f32) : FVec F SB .f32 := select (cmpf .ogt bv av) at' bt

/-- Read eight rows of a slot. -/
def rdB (m : Memref sig .tc .vmem SL .f32) (r : Fin blkLoop.trips) (s : Nat) (hs : s < 16)
    (K : FVec F SB .f32 → PR nD τ sig Λ₀ F) : PR nD τ sig Λ₀ F :=
  .op (.load m (blkR r hs).toLoadRect (View.loadsAt_vmem posB1)) fun v =>
  K (shapeCast SB (v : Vec F SB1 .f32) castB)

/-- Write eight rows of a slot, after a read whose value is not used. -/
def wrB (m : Memref sig .tc .vmem SL .f32) (r : Fin blkLoop.trips) (s : Nat) (hs : s < 16) (x : FVec F SB .f32)
    (K : PR nD τ sig Λ₀ F) : PR nD τ sig Λ₀ F :=
  .op (.load m (blkR r hs).toLoadRect (View.loadsAt_vmem posB1)) fun _ =>
  .op (.store m (blkR r hs) (shapeCast SB1 x castB1) Finset.univ (View.stores_vmem_bits_univ posB1 rfl) (.inl rfl)) fun _ => K

/-- Insert an entry into the list of `n` slots from slot `s`: each slot keeps the greater and passes on the other. -/
def insert (lv li : Memref sig .tc .vmem SL .f32) (r : Fin blkLoop.trips) (K : PR nD τ sig Λ₀ F) :
    (n s : Nat) → s + n ≤ 16 → FVec F SB .f32 → FVec F SB .f32 → PR nD τ sig Λ₀ F
  | 0, _, _, _, _ => K
  | n + 1, s, hs, xv, xt => rdB lv r s (by omega) fun hv => rdB li r s (by omega) fun ht =>
      wrB lv r s (by omega) (maximumf hv xv) <| wrB li r s (by omega) (hiT hv ht xv xt) <|
      insert lv li r K n (s + 1) (by omega) (minimumf hv xv) (loT hv ht xv xt)

/-- A tile's values: -inf where the tile lies past the last column. -/
def tileV (step : BitVec 32) (t : Nat) (v : FVec F SB .f32) : FVec F SB .f32 :=
  Scalar.select (Scalar.cmpi .slt (Scalar.addi (Scalar.muli step 512#32) (BitVec.ofNat 32 (128 * t))) 38016#32)
    v (broadcast SB (Scalar.ofBits .f32 0xFF800000#32))
/-- A tile's number. -/
def tileT (step : BitVec 32) (b : BitVec 32) : FVec F SB .f32 :=
  broadcast SB (Scalar.addf (Scalar.sitofp .f32 (Scalar.muli step 4#32)) (Scalar.ofBits .f32 b))

/-- Read a tile's rows. -/
def rdT (lg : Memref sig .tc .vmem SU .f32) (r : Fin blkLoop.trips) (t : Nat) (ht : t < 4)
    (K : FVec F SB .f32 → PR nD τ sig Λ₀ F) : PR nD τ sig Λ₀ F :=
  .op (.load lg (tileR r ht).toLoadRect (View.loadsAt_vmem posB)) fun v => K (v : Vec F SB .f32)

/-- Four entries in order, the greatest first; of equal ones, the earlier first. Here the last three
    exchanges, -/
def rank4b {A : Type u} (av at' bv bt cv ct : FVec F SB .f32)
    (K : (p0v p0t p1v p1t p2v p2t : FVec F SB .f32) → A) : A :=
  let a2v := maximumf av bv; let a2t := hiT av at' bv bt
  let b3v := minimumf av bv; let b3t := loT av at' bv bt
  let b4v := maximumf b3v cv; let b4t := hiT b3v b3t cv ct
  let c3v := minimumf b3v cv; let c3t := loT b3v b3t cv ct
  K (maximumf a2v b4v) (hiT a2v a2t b4v b4t) (minimumf a2v b4v) (loT a2v a2t b4v b4t) c3v c3t

/-- and all six. -/
def rank4 {A : Type u} (av at' bv bt cv ct dv dt : FVec F SB .f32)
    (K : (p0v p0t p1v p1t p2v p2t p3v p3t : FVec F SB .f32) → A) : A :=
  let a1v := maximumf av bv; let a1t := hiT av at' bv bt
  let b1v := minimumf av bv; let b1t := loT av at' bv bt
  let b2v := maximumf b1v cv; let b2t := hiT b1v b1t cv ct
  let c1v := minimumf b1v cv; let c1t := loT b1v b1t cv ct
  let c2v := maximumf c1v dv; let c2t := hiT c1v c1t dv dt
  let d1v := minimumf c1v dv; let d1t := loT c1v c1t dv dt
  rank4b a1v a1t b2v b2t c2v c2t fun p0v p0t p1v p1t p2v p2t => K p0v p0t p1v p1t p2v p2t d1v d1t

/-- Each rank's entry goes into its list. -/
def insert4 (lv li : Memref sig .tc .vmem SL .f32) (r : Fin blkLoop.trips)
    (p0v p0t p1v p1t p2v p2t p3v p3t : FVec F SB .f32) : PR nD τ sig Λ₀ F :=
  insert lv li r (insert lv li r (insert lv li r (insert lv li r (.ret ⟨⟩)
    2 14 (by omega) p3v p3t) 2 12 (by omega) p2v p2t) 4 8 (by omega) p1v p1t) 8 0 (by omega) p0v p0t

/-- The ranking of one block of rows, and the insertion of each rank's entry into its list. -/
def rankRows (lg : Memref sig .tc .vmem SU .f32) (lv li : Memref sig .tc .vmem SL .f32) (step : BitVec 32)
    (r : Fin blkLoop.trips) : PR nD τ sig Λ₀ F :=
  rdT lg r 0 (by omega) fun a => rdT lg r 1 (by omega) fun b =>
  rdT lg r 2 (by omega) fun c => rdT lg r 3 (by omega) fun d =>
  rank4 (tileV step 0 a) (tileT step 0x00000000#32) (tileV step 1 b) (tileT step 0x3F800000#32)
    (tileV step 2 c) (tileT step 0x40000000#32) (tileV step 3 d) (tileT step 0x40400000#32) (insert4 lv li r)

/-! ## The whole body -/

/-- One unit of the weights, -/
abbrev SW : Shape := ⟨2, ![512, 3584]⟩
/-- and of the scales and offsets. -/
abbrev SR : Shape := ⟨2, ![1, 512]⟩

theorem posX : 0 < SX.numel := by decide
theorem posW : 0 < SW.numel := by decide
theorem posR : 0 < SR.numel := by decide
theorem posU : 0 < SU.numel := by decide
theorem castRR : SR.ShapeCasts SR := by decide
theorem castUU : SU.ShapeCasts SU := by decide
theorem bcRU : SR.Broadcasts SU := by decide
theorem inbXX : ∀ a, (![0, 0] : Fin 2 → Nat) a + SX.size a ≤ SX.size a := by decide
theorem inbWW : ∀ a, (![0, 0] : Fin 2 → Nat) a + SW.size a ≤ SW.size a := by decide
theorem inbRR : ∀ a, (![0, 0] : Fin 2 → Nat) a + SR.size a ≤ SR.size a := by decide
theorem inbUU : ∀ a, (![0, 0] : Fin 2 → Nat) a + SU.size a ≤ SU.size a := by decide

/-- The product contracts the features. -/
def dotU : DotDims SX SW SU where
  lhsContracting := [1]
  rhsContracting := [1]
  lhsNonContracting := [0]
  rhsNonContracting := [0]
  lhsBatch := []
  rhsBatch := []
  wf := by decide

/-- The logits of one unit. -/
def logitsOf (xb : Vec F SX .bf16) (w : Vec F SW .fp8e4m3) (ws b : Vec F SR .f32) : FVec F SU .f32 :=
  shapeCast SU (addf (mulf (matmul dotU none (xb : FVec F SX .bf16) (w : FVec F SW .fp8e4m3) (constant SU .f32 0x00000000#32))
    (broadcastTo SU (shapeCast SR ws castRR) bcRU)) (broadcastTo SU (shapeCast SR b castRR) bcRU)) castUU

/-- The product of one step, into the logits' buffer. -/
def product (xb : Memref sig .tc .vmem SX .bf16) (w : Memref sig .tc .vmem SW .fp8e4m3)
    (ws b : Memref sig .tc .vmem SR .f32) (lg : Memref sig .tc .vmem SU .f32) (K : PR nD τ sig Λ₀ F) : PR nD τ sig Λ₀ F :=
  .op (.load xb (Rect.unit (s := SX) ![0, 0] SX.size inbXX).toLoadRect (View.loadsAt_vmem posX)) fun xv =>
  .op (.load w (Rect.unit (s := SW) ![0, 0] SW.size inbWW).toLoadRect (View.loadsAt_vmem posW)) fun wv =>
  .op (.load ws (Rect.unit (s := SR) ![0, 0] SR.size inbRR).toLoadRect (View.loadsAt_vmem posR)) fun sv =>
  .op (.load b (Rect.unit (s := SR) ![0, 0] SR.size inbRR).toLoadRect (View.loadsAt_vmem posR)) fun bv =>
  .op (.load lg (Rect.unit (s := SU) ![0, 0] SU.size inbUU).toLoadRect (View.loadsAt_vmem posU)) fun _ =>
  .op (.store lg (Rect.unit (s := SU) ![0, 0] SU.size inbUU) (logitsOf (xv : Vec F SX .bf16) wv sv bv) Finset.univ
    (View.stores_vmem_bits_univ posU rfl) (.inl rfl)) fun _ => K

/-- The condition of a branch, as the kernel computes it. -/
def isStep (step n : BitVec 32) : BitVec 1 := Scalar.cmpi .ne (Scalar.extui (Scalar.cmpi .eq step n) : BitVec 32) 0#32

/-- The product, the ranking and, at the last step, the selection. -/
def stepBody (w : Memref sig .tc .vmem SW .fp8e4m3)
    (ws b : Memref sig .tc .vmem SR .f32) (tv : Memref sig .tc .vmem SO .f32) (ti : Memref sig .tc .vmem SO .i32)
    (xb : Memref sig .tc .vmem SX .bf16) (lg : Memref sig .tc .vmem SU .f32) (lv li : Memref sig .tc .vmem SL .f32)
    (step : BitVec 32) : PR nD τ sig Λ₀ F :=
  product xb w ws b lg <|
  (Scf.Loop.for blkLoop blkOK ⟨⟩ fun r _ => rankRows lg lv li step r).bind fun _ =>
  if _h : isStep step 74#32 = 1#1 then selection tv ti lv li (.ret ⟨⟩) else .ret ⟨⟩

/-- The kernel's body at one step. -/
def body (x : Memref sig .tc .vmem SX .bf16) (w : Memref sig .tc .vmem SW .fp8e4m3)
    (ws b : Memref sig .tc .vmem SR .f32) (tv : Memref sig .tc .vmem SO .f32) (ti : Memref sig .tc .vmem SO .i32)
    (c : Memref sig .tc .vmem SX .fp8e4m3) (hc : c.IsWhole) (s : Memref sig .tc .vmem SG .f32)
    (xb : Memref sig .tc .vmem SX .bf16) (hxb : xb.IsWhole) (lg : Memref sig .tc .vmem SU .f32)
    (lv li : Memref sig .tc .vmem SL .f32) (step : BitVec 32) : PR nD τ sig Λ₀ F :=
  if _h : isStep step 0#32 = 1#1 then setup x c hc s xb hxb lv li (stepBody w ws b tv ti xb lg lv li step)
  else stepBody w ws b tv ti xb lg lv li step

end Cert.Head
-- ==== Proof.KBodyEq.lean ====
/- The printed kernel body is the body in its plain form (Body.lean): the two are the same program. -/
module
public import proofs.«01_k».proof.Proof.Body
public import proofs.«01_k».proof.Proof.Gen.Kernel
@[expose] public section
set_option maxRecDepth 65536
noncomputable section
namespace Cert.Kernel.Hand
open Cert.Kernel
open Idealize.ShloMosaic Idealize.SL.Sem
variable {F : FTy → Type} [FloatOps F]
variable [Facts]
open Facts₀ Facts

set_option maxHeartbeats 0 in
/-- The printed body is `Cert.Head.body`. -/
theorem body_eq (i : grid0.Coords) (arg1 : Memref sig .tc .vmem S256x3584 .bf16) (harg1 : arg1.IsWhole) (arg2 : Memref sig .tc .vmem S512x3584 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S8x256 .f32) (harg5 : arg5.IsWhole) (arg6 : Memref sig .tc .vmem S8x256 .i32) (harg6 : arg6.IsWhole) (arg7 : Memref sig .tc .vmem S256x3584 .fp8e4m3) (harg7 : arg7.IsWhole) (arg8 : Memref sig .tc .vmem S28x1x256 .f32) (harg8 : arg8.IsWhole) (arg9 : Memref sig .tc .vmem S256x3584 .bf16) (harg9 : arg9.IsWhole) (arg10 : Memref sig .tc .vmem S256x512 .f32) (harg10 : arg10.IsWhole) (arg11 : Memref sig .tc .vmem S16x256x128 .f32) (harg11 : arg11.IsWhole) (arg12 : Memref sig .tc .vmem S16x256x128 .f32) (harg12 : arg12.IsWhole) :
    cc0_head_topk (F := F) i arg1 harg1 arg2 harg2 arg3 harg3 arg4 harg4 arg5 harg5 arg6 harg6 arg7 harg7 arg8 harg8 arg9 harg9 arg10 harg10 arg11 harg11 arg12 harg12 = Cert.Head.body arg1 arg2 arg3 arg4 arg5 arg6 arg7 harg7 arg8 arg9 harg9 arg10 arg11 arg12 (BitVec.ofNat 32 (i 0).val) := by
  rfl
end Cert.Kernel.Hand
-- ==== Proof.Steps.lean ====
/- One load and one store at the head of a program, stated of the contents a memref's owner reads
   through it: a load continues at those contents under its rectangle, a store leaves them with the
   payload put under its rectangle. -/
module

public import proofs.«01_k».proof.Proof.Body
public import Idealize.ShloMosaic.Lib.Memref
public import Idealize.ShloMosaic.Lib.Writes

@[expose] public section

noncomputable section

namespace Cert.Head

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

/-- Contents `X` with `w` put under the rectangle. -/
def put {s : Shape} {A : Type} (r : Rect s) (w : r.shape.Idx → A) (X : s.Idx → A) : s.Idx → A :=
  Function.extend r.emb w X

theorem put_emb {s : Shape} {A : Type} (r : Rect s) (w : r.shape.Idx → A) (X : s.Idx → A) (x : r.shape.Idx) :
    put r w X (r.emb x) = w x := r.emb.injective.extend_apply _ _ _

theorem put_miss {s : Shape} {A : Type} (r : Rect s) (w : r.shape.Idx → A) (X : s.Idx → A) (y : s.Idx)
    (h : ∀ x, r.emb x ≠ y) : put r w X y = X y :=
  Function.extend_apply' _ _ _ (fun ⟨x, hx⟩ => h x hx)

/-- Contents under the rectangle. -/
def under {s : Shape} {A : Type} (r : Rect s) (X : s.Idx → A) : r.shape.Idx → A := fun x => X (r.emb x)

theorem emb_full {s : Shape} {off : Fin s.rank → ℕ} (h0 : ∀ a, off a = 0) (inb : ∀ a, off a + s.size a ≤ s.size a)
    (z : (Rect.unit off s.size inb).shape.Idx) : (Rect.unit off s.size inb).emb z = z := by
  funext a
  apply Fin.ext
  have h := Rect.emb_apply (Rect.unit off s.size inb) z a
  simp only [Rect.unit, h0, Nat.zero_add, Nat.one_mul] at h
  exact h

theorem put_full {s : Shape} {A : Type} {off : Fin s.rank → ℕ} (h0 : ∀ a, off a = 0) (inb : ∀ a, off a + s.size a ≤ s.size a)
    (w X : s.Idx → A) : put (Rect.unit off s.size inb) w X = w := by
  funext y
  have h := put_emb (Rect.unit off s.size inb) w X y
  rwa [emb_full h0] at h

theorem under_full {s : Shape} {A : Type} {off : Fin s.rank → ℕ} (h0 : ∀ a, off a = 0) (inb : ∀ a, off a + s.size a ≤ s.size a)
    (X : s.Idx → A) : under (Rect.unit off s.size inb) X = X := by
  funext y
  exact congrArg X (emb_full h0 inb y)

variable {nD : Nat} {τ : Topo} {sig : RefSig} {F : FTy → Type} {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)
variable {sp : CoreSpace} {s : Shape} {e : EltTy} {α : Type}

theorem read_put {sp : Space} (m : Memref sig .tc sp s e) (r : Rect s) (f : m.view.ty.Contents (Elt F)) (w : r.shape.Idx → Elt F e) :
    m.view.read (Elt F) ((m.access r).write (Elt F) f w Finset.univ) = put r w (m.view.read (Elt F) f) := by
  funext y
  by_cases h : ∃ x, r.emb x = y
  · obtain ⟨x, rfl⟩ := h
    rw [put_emb]
    exact View.read_slice_write_emb r f w (Finset.mem_univ x)
  · rw [put_miss _ _ _ _ (fun x hx => h ⟨x, hx⟩)]
    refine View.read_slice_write_of_not_mem r f w Finset.univ ?_
    simpa using h

/-- A load continues at what the owner reads under the rectangle. -/
theorem load_wp {Q : α → sProp 𝕄} {m : Memref sig .tc sp s e} {r : Rect s} {hl : m.view.LoadsAt r.toLoadRect}
    {k : (r.shape.Idx → Elt F e) → Prog (TpuEff nD τ sig (Elt F) Λ .tc) α} (q : PosShare TreeShare) (X : s.Idx → Elt F e) :
    (owns (c.tc : Thread nD τ) m q X : sProp 𝕄)
      ⊢ iprop((owns (c.tc : Thread nD τ) m q X -∗ wp frame (wpE defs 𝒱 (c.tc : Thread nD τ) bd) E (k (under r X)) Q)
        -∗ wp frame (wpE defs 𝒱 (c.tc : Thread nD τ) bd) E (.op (.load m r.toLoadRect hl) k) Q) := by
  unfold owns
  iintro ⟨%f, %hf, H⟩ HK
  subst hf
  iapply (wp_load_rect (defs := defs) 𝒱 (c.tc : Thread nD τ) bd E (m := m) (r := r) (hl := hl) (k := k) (Q := Q) (q := q) (f := f)
    (S := m.view.set) (m.view.set_slice_subset r)) $$ H
  iintro H
  iapply HK
  iexists f
  isplitr
  · ipureintro; rfl
  · iexact H

/-- A store leaves the contents with the payload put under the rectangle. -/
theorem store_wp {Q : α → sProp 𝕄} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ .tc) α} (X : s.Idx → Elt F e) :
    (owns (c.tc : Thread nD τ) m fullShare X : sProp 𝕄)
      ⊢ iprop((owns (c.tc : Thread nD τ) m fullShare (put r w X) -∗ wp frame (wpE defs 𝒱 (c.tc : Thread nD τ) bd) E (k ⟨⟩) Q)
        -∗ wp frame (wpE defs 𝒱 (c.tc : Thread nD τ) bd) E (.op (.store m r w Finset.univ hx hm) k) Q) := by
  unfold owns
  iintro ⟨%f, %hf, H⟩ HK
  subst hf
  iapply (wp_store (defs := defs) 𝒱 (c.tc : Thread nD τ) bd E (m := m) (r := r) (w := w) (hx := hx) (hm := hm) (k := k) (Q := Q) (f := f)
    (Mk := Finset.univ) (S := m.view.set) (m.view.set_slice_subset r)) $$ H
  iintro H
  iapply HK
  iexists ((m.access r).write (Elt F) f w Finset.univ)
  isplitr
  · ipureintro; exact read_put m r f w
  · iexact H

end Cert.Head
-- ==== Proof.SelRun.lean ====
/- What the selection leaves: a pure account of the lists' slots, round by round, and the proof that
   the program follows it. -/
module

public import proofs.«01_k».proof.Proof.Steps

@[expose] public section

noncomputable section

namespace Cert.Head

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

section Pure

variable {F : FTy → Type} [FloatOps F]

/-- The lists' values and tiles. -/
abbrev LL (F : FTy → Type) := Vec F SL .f32 × Vec F SL .f32

/-- One slot's contents. -/
def slot (X : Vec F SL .f32) (s : Nat) (hs : s < 16) : FVec F ST .f32 :=
  shapeCast ST (under (slotR hs) X) cast1T
/-- Contents with one slot replaced. -/
def setS (X : Vec F SL .f32) (s : Nat) (hs : s < 16) (v : FVec F ST .f32) : Vec F SL .f32 :=
  put (slotR hs) (shapeCast S1 v castT1) X

def popMidP (hit : IVec ST 1) (s : Nat) (hs : s + 1 < 16) (L : LL F) : LL F :=
  (setS L.1 s (Nat.lt_of_succ_lt hs) (select hit (slot L.1 (s + 1) hs) (slot L.1 s (Nat.lt_of_succ_lt hs))),
   setS L.2 s (Nat.lt_of_succ_lt hs) (select hit (slot L.2 (s + 1) hs) (slot L.2 s (Nat.lt_of_succ_lt hs))))

def popLastP (hit : IVec ST 1) (s : Nat) (hs : s < 16) (L : LL F) : LL F :=
  (setS L.1 s hs (select hit (broadcast ST (Scalar.ofBits .f32 0xFF800000#32)) (slot L.1 s hs)),
   setS L.2 s hs (select hit (broadcast ST (Scalar.ofBits .f32 0x00000000#32)) (slot L.2 s hs)))

def popListP (hit : IVec ST 1) : (n s : Nat) → s + n < 16 → LL F → LL F
  | 0, s, hs, L => popLastP hit s hs L
  | n + 1, s, hs, L => popListP hit n (s + 1) (by omega) (popMidP hit s (by omega) L)

/-- The row's best head. -/
def bestP (L : LL F) : FVec F SC .f32 :=
  bestOf (slot L.1 0 (by omega)) (slot L.1 8 (by omega)) (slot L.1 12 (by omega)) (slot L.1 14 (by omega))
/-- Where the head of the list at slot `s` is the row's best: its index, otherwise +inf. -/
def whereP (L : LL F) (s : Nat) (hs : s < 16) : FVec F ST .f32 :=
  whereOf (slot L.1 s hs) (idxOf (slot L.2 s hs)) (bestP L)
/-- The least index of a best head. -/
def leastP (L : LL F) : FVec F SC .f32 :=
  leastOf (whereP L 0 (by omega)) (whereP L 8 (by omega)) (whereP L 12 (by omega)) (whereP L 14 (by omega))
/-- The lists after one round. -/
def roundP (L : LL F) : LL F :=
  popListP (hitOf (whereP L 14 (by omega)) (leastP L)) 1 14 (by omega) <|
  popListP (hitOf (whereP L 12 (by omega)) (leastP L)) 1 12 (by omega) <|
  popListP (hitOf (whereP L 8 (by omega)) (leastP L)) 3 8 (by omega) <|
  popListP (hitOf (whereP L 0 (by omega)) (leastP L)) 7 0 (by omega) L

/-- The results of `n` rounds from the `k`-th, put into their lanes. -/
def roundsV : (n k : Nat) → FVec F ST .f32 → LL F → FVec F ST .f32
  | 0, _, ov, _ => ov
  | n + 1, k, ov, L => roundsV n (k + 1) (putLane (BitVec.ofNat 32 k) (bestP L) ov) (roundP L)
def roundsI : (n k : Nat) → FVec F ST .f32 → LL F → FVec F ST .f32
  | 0, _, oi, _ => oi
  | n + 1, k, oi, L => roundsI n (k + 1) (putLane (BitVec.ofNat 32 k) (leastP L) oi) (roundP L)

/-- The values selected, -/
def selV (L : LL F) : FVec F SO .f32 := rowsO (α := .f32) (roundsV 8 0 (bcf 0x00000000#32) L)
/-- and their indices. -/
def selI (L : LL F) : IVec SO 32 := fptosi 32 (rowsO (α := .f32) (roundsI 8 0 (bcf 0x00000000#32) L) : FVec F SO .f32)

end Pure

variable {nD : Nat} {τ : Topo} {sig : RefSig} {F : FTy → Type} [FloatOps F] {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)

/-- The weakest precondition of a program of the body. -/
abbrev W {defs : Defs nD τ sig (Elt F) Λ} (𝒱 : Variants) (c : Dev nD) (bd : Option 𝒱.V) (E : Set ℕ)
    (P : PR nD τ sig Λ F) (Q : PUnit → sProp 𝕄) : sProp 𝕄 := wp frame (wpE defs 𝒱 (c.tc : Thread nD τ) bd) E P Q

/-- The whole of a memref, at contents `X`. -/
abbrev own (c : Dev nD) {sp : CoreSpace} {s : Shape} {e : EltTy} (m : Memref sig .tc sp s e) (X : Vec F s e) : sProp 𝕄 :=
  owns (c.tc : Thread nD τ) m fullShare X

theorem rdS_wp {Q : PUnit → sProp 𝕄} {m : Memref sig .tc .vmem SL .f32} {s : Nat} {hs : s < 16} {K : FVec F ST .f32 → PR nD τ sig Λ F} (X : Vec F SL .f32) :
    (own c m X : sProp 𝕄) ⊢ iprop((own c m X -∗ W (defs := defs) 𝒱 c bd E (K (slot X s hs)) Q) -∗ W (defs := defs) 𝒱 c bd E (rdS m s hs K) Q) := by
  unfold rdS
  exact load_wp 𝒱 c bd E (r := slotR hs) (k := fun v => K (shapeCast ST (v : Vec F S1 .f32) cast1T)) fullShare X

theorem wrS_wp {Q : PUnit → sProp 𝕄} {m : Memref sig .tc .vmem SL .f32} {s : Nat} {hs : s < 16} {x : FVec F ST .f32} {K : PR nD τ sig Λ F} (X : Vec F SL .f32) :
    (own c m X : sProp 𝕄) ⊢ iprop((own c m (setS X s hs x) -∗ W (defs := defs) 𝒱 c bd E K Q) -∗ W (defs := defs) 𝒱 c bd E (wrS m s hs x K) Q) := by
  unfold wrS
  iintro H HK
  iapply (load_wp 𝒱 c bd E (r := slotR hs) fullShare X) $$ H
  iintro H
  iapply (store_wp 𝒱 c bd E (r := slotR hs) X) $$ H
  iintro H
  iapply HK
  iexact H

/-- Both halves of the lists. -/
abbrev held (c : Dev nD) (lv li : Memref sig .tc .vmem SL .f32) (L : LL F) : sProp 𝕄 :=
  iprop(own c lv L.1 ∗ own c li L.2)

variable {lv li : Memref sig .tc .vmem SL .f32}

theorem popMid_wp {Q : PUnit → sProp 𝕄} {hit : IVec ST 1} {s : Nat} {hs : s + 1 < 16} {K : PR nD τ sig Λ F} (L : LL F) :
    (held c lv li L : sProp 𝕄) ⊢ iprop((held c lv li (popMidP hit s hs L) -∗ W (defs := defs) 𝒱 c bd E K Q)
      -∗ W (defs := defs) 𝒱 c bd E (popMid lv li hit s hs K) Q) := by
  unfold popMid
  iintro ⟨H1, H2⟩ HK
  iapply (rdS_wp 𝒱 c bd E L.1) $$ H1
  iintro H1
  iapply (rdS_wp 𝒱 c bd E L.2) $$ H2
  iintro H2
  iapply (rdS_wp 𝒱 c bd E L.1) $$ H1
  iintro H1
  iapply (wrS_wp 𝒱 c bd E L.1) $$ H1
  iintro H1
  iapply (rdS_wp 𝒱 c bd E L.2) $$ H2
  iintro H2
  iapply (wrS_wp 𝒱 c bd E L.2) $$ H2
  iintro H2
  iapply HK
  isplitl [H1]
  · iexact H1
  · iexact H2

theorem popLast_wp {Q : PUnit → sProp 𝕄} {hit : IVec ST 1} {s : Nat} {hs : s < 16} {K : PR nD τ sig Λ F} (L : LL F) :
    (held c lv li L : sProp 𝕄) ⊢ iprop((held c lv li (popLastP hit s hs L) -∗ W (defs := defs) 𝒱 c bd E K Q)
      -∗ W (defs := defs) 𝒱 c bd E (popLast lv li hit s hs K) Q) := by
  unfold popLast
  iintro ⟨H1, H2⟩ HK
  iapply (rdS_wp 𝒱 c bd E L.1) $$ H1
  iintro H1
  iapply (wrS_wp 𝒱 c bd E L.1) $$ H1
  iintro H1
  iapply (rdS_wp 𝒱 c bd E L.2) $$ H2
  iintro H2
  iapply (wrS_wp 𝒱 c bd E L.2) $$ H2
  iintro H2
  iapply HK
  isplitl [H1]
  · iexact H1
  · iexact H2

theorem popList_wp {Q : PUnit → sProp 𝕄} {hit : IVec ST 1} {K : PR nD τ sig Λ F} :
    ∀ (n s : Nat) (hs : s + n < 16) (L : LL F),
    (held c lv li L : sProp 𝕄) ⊢ iprop((held c lv li (popListP hit n s hs L) -∗ W (defs := defs) 𝒱 c bd E K Q)
      -∗ W (defs := defs) 𝒱 c bd E (popList lv li hit n s hs K) Q) := by
  intro n
  induction n with
  | zero => intro s hs L; exact popLast_wp 𝒱 c bd E L
  | succ n ih =>
    intro s hs L
    unfold popList popListP
    iintro H HK
    iapply (popMid_wp 𝒱 c bd E L) $$ H
    iintro H
    iapply (ih (s + 1) _ _) $$ H
    iexact HK

theorem round_wp {Q : PUnit → sProp 𝕄} {k : BitVec 32} {ov oi : FVec F ST .f32} {K : FVec F ST .f32 → FVec F ST .f32 → PR nD τ sig Λ F} (L : LL F) :
    (held c lv li L : sProp 𝕄) ⊢ iprop((held c lv li (roundP L)
        -∗ W (defs := defs) 𝒱 c bd E (K (putLane k (bestP L) ov) (putLane k (leastP L) oi)) Q)
      -∗ W (defs := defs) 𝒱 c bd E (round lv li k ov oi K) Q) := by
  unfold round
  iintro ⟨H1, H2⟩ HK
  iapply (rdS_wp 𝒱 c bd E L.1) $$ H1
  iintro H1
  iapply (rdS_wp 𝒱 c bd E L.2) $$ H2
  iintro H2
  iapply (rdS_wp 𝒱 c bd E L.1) $$ H1
  iintro H1
  iapply (rdS_wp 𝒱 c bd E L.2) $$ H2
  iintro H2
  iapply (rdS_wp 𝒱 c bd E L.1) $$ H1
  iintro H1
  iapply (rdS_wp 𝒱 c bd E L.2) $$ H2
  iintro H2
  iapply (rdS_wp 𝒱 c bd E L.1) $$ H1
  iintro H1
  iapply (rdS_wp 𝒱 c bd E L.2) $$ H2
  iintro H2
  unfold roundH
  icombine H1 H2 as H
  iapply (popList_wp 𝒱 c bd E 7 0 _ L) $$ H
  iintro H
  iapply (popList_wp 𝒱 c bd E 3 8 _ _) $$ H
  iintro H
  iapply (popList_wp 𝒱 c bd E 1 12 _ _) $$ H
  iintro H
  iapply (popList_wp 𝒱 c bd E 1 14 _ _) $$ H
  iintro H
  iapply HK
  iexact H

theorem rounds_wp {Q : PUnit → sProp 𝕄} {K : FVec F ST .f32 → FVec F ST .f32 → PR nD τ sig Λ F} :
    ∀ (n k : Nat) (ov oi : FVec F ST .f32) (L : LL F),
    (held c lv li L : sProp 𝕄) ⊢ iprop((∀ L', held c lv li L'
        -∗ W (defs := defs) 𝒱 c bd E (K (roundsV n k ov L) (roundsI n k oi L)) Q)
      -∗ W (defs := defs) 𝒱 c bd E (rounds lv li K n k ov oi) Q) := by
  intro n
  induction n with
  | zero =>
    intro k ov oi L
    iintro H HK
    iapply HK $$ %L
    iexact H
  | succ n ih =>
    intro k ov oi L
    unfold rounds roundsV roundsI
    iintro H HK
    iapply (round_wp 𝒱 c bd E L) $$ H
    iintro H
    iapply (ih (k + 1) _ _ _) $$ H
    iexact HK

theorem emit_wp {Q : PUnit → sProp 𝕄} {tv : Memref sig .tc .vmem SO .f32} {ti : Memref sig .tc .vmem SO .i32}
    {ov oi : FVec F ST .f32} {K : PR nD τ sig Λ F} (T : Vec F SO .f32) (I : Vec F SO .i32) :
    (iprop(own c tv T ∗ own c ti I) : sProp 𝕄) ⊢ iprop((iprop(own c tv (rowsO (F := F) (α := .f32) ov)
        ∗ own c ti (fptosi 32 (rowsO (F := F) (α := .f32) oi : FVec F SO .f32) : IVec SO 32)) -∗ W (defs := defs) 𝒱 c bd E K Q)
      -∗ W (defs := defs) 𝒱 c bd E (emit tv ti ov oi K) Q) := by
  unfold emit
  iintro ⟨H1, H2⟩ HK
  iapply (load_wp 𝒱 c bd E (r := Rect.unit (s := SO) ![0, 0] SO.size inbO) fullShare T) $$ H1
  iintro H1
  iapply (store_wp 𝒱 c bd E (r := Rect.unit (s := SO) ![0, 0] SO.size inbO) T) $$ H1
  iintro H1
  iapply (load_wp 𝒱 c bd E (r := Rect.unit (s := SO) ![0, 0] SO.size inbO) fullShare I) $$ H2
  iintro H2
  iapply (store_wp 𝒱 c bd E (r := Rect.unit (s := SO) ![0, 0] SO.size inbO) I) $$ H2
  iintro H2
  iapply HK
  isplitl [H1]
  · rw [put_full (by decide)] at *
    iexact H1
  · rw [put_full (by decide)] at *
    iexact H2

/-- The selection writes the results of its eight rounds. -/
theorem selection_wp {Q : PUnit → sProp 𝕄} {tv : Memref sig .tc .vmem SO .f32} {ti : Memref sig .tc .vmem SO .i32}
    {K : PR nD τ sig Λ F} (T : Vec F SO .f32) (I : Vec F SO .i32) (L : LL F) :
    (iprop(own c tv T ∗ own c ti I ∗ held c lv li L) : sProp 𝕄) ⊢ iprop((iprop(own c tv (selV L)
        ∗ own c ti (selI L) ∗ ∃ L', held c lv li L') -∗ W (defs := defs) 𝒱 c bd E K Q)
      -∗ W (defs := defs) 𝒱 c bd E (selection tv ti lv li K) Q) := by
  unfold selection
  iintro ⟨H1, H2, H3⟩ HK
  iapply (rounds_wp 𝒱 c bd E 8 0 _ _ L) $$ H3
  iintro %L' H3
  icombine H1 H2 as H
  iapply (emit_wp 𝒱 c bd E T I) $$ H
  iintro ⟨H1, H2⟩
  iapply HK
  isplitl [H1]
  · iexact H1
  isplitl [H2]
  · iexact H2
  iexists L'
  iexact H3

end Cert.Head
-- ==== Proof.QuantRun.lean ====
/- What the first step leaves: the codes, the dequantised tokens, the scales and the empty lists. -/
module

public import proofs.«01_k».proof.Proof.SelRun

@[expose] public section

noncomputable section

namespace Cert.Head

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

section Pure

variable {F : FTy → Type} [FloatOps F]

/-- The features of group `g`. -/
def grpX (X : Vec F SX .bf16) (g : Nat) (hg : g < 28) : FVec F ST .f32 := xfOf (under (grpR hg) X)
/-- The exponent of the scale of group `g`. -/
def grpE (X : Vec F SX .bf16) (g : Nat) (hg : g < 28) : IVec ST 32 := grpExp (grpX X g hg)

/-- The codes after `n` groups from the `g`-th, -/
def codesP (X : Vec F SX .bf16) : (n g : Nat) → g + n = 28 → Vec F SX .fp8e4m3 → Vec F SX .fp8e4m3
  | 0, _, _, C => C
  | n + 1, g, h, C => codesP X n (g + 1) (by omega) (put (grpR (g := g) (by omega)) (codesOf (grpX X g (by omega)) (grpE X g (by omega))) C)
/-- the dequantised tokens, -/
def xbP (X : Vec F SX .bf16) : (n g : Nat) → g + n = 28 → Vec F SX .bf16 → Vec F SX .bf16
  | 0, _, _, B => B
  | n + 1, g, h, B => xbP X n (g + 1) (by omega) (put (grpR (g := g) (by omega)) (shapeCast ST (xbOf (grpX X g (by omega)) (grpE X g (by omega))) castTT) B)
/-- and the scales. -/
def scP (X : Vec F SX .bf16) : (n g : Nat) → g + n = 28 → FVec F ST .f32 → FVec F ST .f32
  | 0, _, _, S => S
  | n + 1, g, h, S => scP X n (g + 1) (by omega) (putScale (BitVec.ofNat 32 g) (scaleOf (grpE X g (by omega))) S)

/-- One number everywhere. -/
def fillP (b : BitVec 32) : Vec F SL .f32 := shapeCast SL (broadcast SL (Scalar.ofBits .f32 b) : FVec F SL .f32) castLL

end Pure

variable {nD : Nat} {τ : Topo} {sig : RefSig} {F : FTy → Type} [FloatOps F] {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)

variable {x xb : Memref sig .tc .vmem SX .bf16} {cd : Memref sig .tc .vmem SX .fp8e4m3} {hc : cd.IsWhole} {hxb : xb.IsWhole}

theorem quant_wp {Q : PUnit → sProp 𝕄} {g : Nat} {hg : g < 28} {sc : FVec F ST .f32} {K : FVec F ST .f32 → PR nD τ sig Λ F}
    (X : Vec F SX .bf16) (C : Vec F SX .fp8e4m3) (B : Vec F SX .bf16) :
    (iprop(own c x X ∗ own c cd C ∗ own c xb B) : sProp 𝕄) ⊢ iprop((iprop(own c x X
        ∗ own c cd (put (grpR hg) (codesOf (grpX X g hg) (grpE X g hg)) C)
        ∗ own c xb (put (grpR hg) (shapeCast ST (xbOf (grpX X g hg) (grpE X g hg)) castTT) B))
        -∗ W (defs := defs) 𝒱 c bd E (K (putScale (BitVec.ofNat 32 g) (scaleOf (grpE X g hg)) sc)) Q)
      -∗ W (defs := defs) 𝒱 c bd E (quant x cd hc xb hxb g hg sc K) Q) := by
  unfold quant
  iintro ⟨H1, H2, H3⟩ HK
  iapply (load_wp 𝒱 c bd E (r := grpR hg) fullShare X) $$ H1
  iintro H1
  iapply (load_wp 𝒱 c bd E (r := grpR hg) fullShare C) $$ H2
  iintro H2
  iapply (store_wp 𝒱 c bd E (r := grpR hg) C) $$ H2
  iintro H2
  iapply (load_wp 𝒱 c bd E (r := grpR hg) fullShare B) $$ H3
  iintro H3
  iapply (store_wp 𝒱 c bd E (r := grpR hg) B) $$ H3
  iintro H3
  iapply HK
  isplitl [H1]
  · iexact H1
  isplitl [H2]
  · iexact H2
  · iexact H3

theorem quants_wp {Q : PUnit → sProp 𝕄} {K : FVec F ST .f32 → PR nD τ sig Λ F} (X : Vec F SX .bf16) :
    ∀ (n g : Nat) (h : g + n = 28) (sc : FVec F ST .f32) (C : Vec F SX .fp8e4m3) (B : Vec F SX .bf16),
    (iprop(own c x X ∗ own c cd C ∗ own c xb B) : sProp 𝕄) ⊢ iprop((iprop(own c x X
        ∗ own c cd (codesP X n g h C) ∗ own c xb (xbP X n g h B))
        -∗ W (defs := defs) 𝒱 c bd E (K (scP X n g h sc)) Q)
      -∗ W (defs := defs) 𝒱 c bd E (quants x cd hc xb hxb K n g h sc) Q) := by
  intro n
  induction n with
  | zero =>
    intro g h sc C B
    iintro H HK
    iapply HK
    iexact H
  | succ n ih =>
    intro g h sc C B
    unfold quants codesP xbP scP
    iintro H HK
    iapply (quant_wp 𝒱 c bd E X C B) $$ H
    iintro H
    iapply (ih (g + 1) _ _ _ _) $$ H
    iexact HK

theorem fillL_wp {Q : PUnit → sProp 𝕄} {m : Memref sig .tc .vmem SL .f32} {b : BitVec 32} {K : PR nD τ sig Λ F} (X : Vec F SL .f32) :
    (own c m X : sProp 𝕄) ⊢ iprop((own c m (fillP b) -∗ W (defs := defs) 𝒱 c bd E K Q)
      -∗ W (defs := defs) 𝒱 c bd E (fillL m b K) Q) := by
  unfold fillL
  iintro H HK
  iapply (load_wp 𝒱 c bd E (r := Rect.unit (s := SL) ![0, 0, 0] SL.size inbL) fullShare X) $$ H
  iintro H
  iapply (store_wp 𝒱 c bd E (r := Rect.unit (s := SL) ![0, 0, 0] SL.size inbL) X) $$ H
  iintro H
  iapply HK
  rw [put_full (by decide)]
  iexact H

/-- The first step's part of the body. -/
theorem setup_wp {Q : PUnit → sProp 𝕄} {s : Memref sig .tc .vmem SG .f32} {lv li : Memref sig .tc .vmem SL .f32} {K : PR nD τ sig Λ F}
    (X : Vec F SX .bf16) (C : Vec F SX .fp8e4m3) (S : Vec F SG .f32) (B : Vec F SX .bf16) (L : LL F) :
    (iprop(own c x X ∗ own c cd C ∗ own c s S ∗ own c xb B ∗ held c lv li L) : sProp 𝕄)
      ⊢ iprop((iprop(own c x X ∗ own c cd (codesP X 28 0 rfl C) ∗ own c s (scalesOut (scP X 28 0 rfl (bcf 0x00000000#32)))
        ∗ own c xb (xbP X 28 0 rfl B) ∗ held c lv li (fillP 0xFF800000#32, fillP 0x00000000#32))
        -∗ W (defs := defs) 𝒱 c bd E K Q)
      -∗ W (defs := defs) 𝒱 c bd E (setup x cd hc s xb hxb lv li K) Q) := by
  unfold setup
  iintro ⟨H1, H2, H3, H4, H5, H6⟩ HK
  icombine H2 H4 as H
  icombine H1 H as H
  iapply (quants_wp 𝒱 c bd E X 28 0 rfl _ C B) $$ H
  iintro ⟨H1, H2, H4⟩
  iapply (load_wp 𝒱 c bd E (r := Rect.unit (s := SG) ![0, 0, 0] SG.size inbG) fullShare S) $$ H3
  iintro H3
  iapply (store_wp 𝒱 c bd E (r := Rect.unit (s := SG) ![0, 0, 0] SG.size inbG) S) $$ H3
  iintro H3
  rw [put_full (by decide)]
  iapply (fillL_wp 𝒱 c bd E L.1) $$ H5
  iintro H5
  iapply (fillL_wp 𝒱 c bd E L.2) $$ H6
  iintro H6
  iapply HK
  isplitl [H1]
  · iexact H1
  isplitl [H2]
  · iexact H2
  isplitl [H3]
  · iexact H3
  isplitl [H4]
  · iexact H4
  isplitl [H5]
  · iexact H5
  · iexact H6

end Cert.Head
-- ==== Proof.RankRun.lean ====
/- What one step leaves: the logits of its unit and, block of rows after block of rows, the lists with each rank inserted. -/
module

public import proofs.«01_k».proof.Proof.SelRun

@[expose] public section

noncomputable section

namespace Cert.Head

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

section Pure

variable {F : FTy → Type} [FloatOps F]

/-- Eight rows of a slot's contents. -/
def blk (X : Vec F SL .f32) (r : Fin blkLoop.trips) (s : Nat) (hs : s < 16) : FVec F SB .f32 :=
  shapeCast SB (under (blkR r hs) X) castB
/-- Contents with eight rows of a slot replaced. -/
def setB (X : Vec F SL .f32) (r : Fin blkLoop.trips) (s : Nat) (hs : s < 16) (v : FVec F SB .f32) : Vec F SL .f32 :=
  put (blkR r hs) (shapeCast SB1 v castB1) X

/-- The lists after an insertion. -/
def insertP (r : Fin blkLoop.trips) : (n s : Nat) → s + n ≤ 16 → FVec F SB .f32 → FVec F SB .f32 → LL F → LL F
  | 0, _, _, _, _, L => L
  | n + 1, s, hs, xv, xt, L =>
    insertP r n (s + 1) (by omega) (minimumf (blk L.1 r s (by omega)) xv)
      (loT (blk L.1 r s (by omega)) (blk L.2 r s (by omega)) xv xt)
      (setB L.1 r s (by omega) (maximumf (blk L.1 r s (by omega)) xv),
       setB L.2 r s (by omega) (hiT (blk L.1 r s (by omega)) (blk L.2 r s (by omega)) xv xt))

/-- The lists after the four ranks' insertions. -/
def insert4P (r : Fin blkLoop.trips) (L : LL F) (p0v p0t p1v p1t p2v p2t p3v p3t : FVec F SB .f32) : LL F :=
  insertP r 2 14 (by omega) p3v p3t <| insertP r 2 12 (by omega) p2v p2t <|
  insertP r 4 8 (by omega) p1v p1t <| insertP r 8 0 (by omega) p0v p0t L

/-- The values of a tile's eight rows. -/
def tileOf (lg : Vec F SU .f32) (step : BitVec 32) (r : Fin blkLoop.trips) (t : Nat) (ht : t < 4) : FVec F SB .f32 :=
  tileV step t (under (tileR r ht) lg)

/-- The lists after one block of rows. -/
def rankRowsP (lg : Vec F SU .f32) (step : BitVec 32) (r : Fin blkLoop.trips) (L : LL F) : LL F :=
  rank4 (tileOf lg step r 0 (by omega)) (tileT step 0x00000000#32) (tileOf lg step r 1 (by omega)) (tileT step 0x3F800000#32)
    (tileOf lg step r 2 (by omega)) (tileT step 0x40000000#32) (tileOf lg step r 3 (by omega)) (tileT step 0x40400000#32) (insert4P r L)

/-- The lists after `k` blocks of rows. -/
def blocksP (lg : Vec F SU .f32) (step : BitVec 32) (L : LL F) : Nat → LL F
  | 0 => L
  | k + 1 => if h : k < blkLoop.trips then rankRowsP lg step ⟨k, h⟩ (blocksP lg step L k) else blocksP lg step L k

end Pure

variable {nD : Nat} {τ : Topo} {sig : RefSig} {F : FTy → Type} [FloatOps F] {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)

variable {lv li : Memref sig .tc .vmem SL .f32}

theorem ret_wp {Q : PUnit → sProp 𝕄} : (Q ⟨⟩ : sProp 𝕄) ⊢ W (defs := defs) 𝒱 c bd E (.ret ⟨⟩) Q := by
  unfold W
  rw [wp_ret]
  iintro H
  imodintro
  iexact H

theorem rdB_wp {Q : PUnit → sProp 𝕄} {m : Memref sig .tc .vmem SL .f32} {r : Fin blkLoop.trips} {s : Nat} {hs : s < 16}
    {K : FVec F SB .f32 → PR nD τ sig Λ F} (X : Vec F SL .f32) :
    (own c m X : sProp 𝕄) ⊢ iprop((own c m X -∗ W (defs := defs) 𝒱 c bd E (K (blk X r s hs)) Q) -∗ W (defs := defs) 𝒱 c bd E (rdB m r s hs K) Q) := by
  unfold rdB
  exact load_wp 𝒱 c bd E (r := blkR r hs) (k := fun v => K (shapeCast SB (v : Vec F SB1 .f32) castB)) fullShare X

theorem wrB_wp {Q : PUnit → sProp 𝕄} {m : Memref sig .tc .vmem SL .f32} {r : Fin blkLoop.trips} {s : Nat} {hs : s < 16}
    {x : FVec F SB .f32} {K : PR nD τ sig Λ F} (X : Vec F SL .f32) :
    (own c m X : sProp 𝕄) ⊢ iprop((own c m (setB X r s hs x) -∗ W (defs := defs) 𝒱 c bd E K Q) -∗ W (defs := defs) 𝒱 c bd E (wrB m r s hs x K) Q) := by
  unfold wrB
  iintro H HK
  iapply (load_wp 𝒱 c bd E (r := blkR r hs) fullShare X) $$ H
  iintro H
  iapply (store_wp 𝒱 c bd E (r := blkR r hs) X) $$ H
  iintro H
  iapply HK
  iexact H

theorem insert_wp {Q : PUnit → sProp 𝕄} {r : Fin blkLoop.trips} {K : PR nD τ sig Λ F} :
    ∀ (n s : Nat) (hs : s + n ≤ 16) (xv xt : FVec F SB .f32) (L : LL F),
    (held c lv li L : sProp 𝕄) ⊢ iprop((held c lv li (insertP r n s hs xv xt L) -∗ W (defs := defs) 𝒱 c bd E K Q)
      -∗ W (defs := defs) 𝒱 c bd E (insert lv li r K n s hs xv xt) Q) := by
  intro n
  induction n with
  | zero =>
    intro s hs xv xt L
    iintro H HK
    iapply HK
    iexact H
  | succ n ih =>
    intro s hs xv xt L
    unfold insert insertP
    iintro ⟨H1, H2⟩ HK
    iapply (rdB_wp 𝒱 c bd E L.1) $$ H1
    iintro H1
    iapply (rdB_wp 𝒱 c bd E L.2) $$ H2
    iintro H2
    iapply (wrB_wp 𝒱 c bd E L.1) $$ H1
    iintro H1
    iapply (wrB_wp 𝒱 c bd E L.2) $$ H2
    iintro H2
    icombine H1 H2 as H
    iapply (ih (s + 1) _ _ _ (_, _)) $$ H
    iexact HK

theorem rdT_wp {Q : PUnit → sProp 𝕄} {lg : Memref sig .tc .vmem SU .f32} {r : Fin blkLoop.trips} {t : Nat} {ht : t < 4}
    {K : FVec F SB .f32 → PR nD τ sig Λ F} (G : Vec F SU .f32) :
    (own c lg G : sProp 𝕄) ⊢ iprop((own c lg G -∗ W (defs := defs) 𝒱 c bd E (K (under (tileR r ht) G)) Q) -∗ W (defs := defs) 𝒱 c bd E (rdT lg r t ht K) Q) := by
  unfold rdT
  exact load_wp 𝒱 c bd E (r := tileR r ht) (k := fun v => K (v : Vec F SB .f32)) fullShare G

theorem insert4_wp {Q : PUnit → sProp 𝕄} {r : Fin blkLoop.trips} (p0v p0t p1v p1t p2v p2t p3v p3t : FVec F SB .f32) (L : LL F) :
    (held c lv li L : sProp 𝕄) ⊢ iprop((held c lv li (insert4P r L p0v p0t p1v p1t p2v p2t p3v p3t) -∗ Q ⟨⟩)
      -∗ W (defs := defs) 𝒱 c bd E (insert4 lv li r p0v p0t p1v p1t p2v p2t p3v p3t) Q) := by
  unfold insert4 insert4P
  iintro H HK
  iapply (insert_wp 𝒱 c bd E 8 0 _ _ _ L) $$ H
  iintro H
  iapply (insert_wp 𝒱 c bd E 4 8 _ _ _ _) $$ H
  iintro H
  iapply (insert_wp 𝒱 c bd E 2 12 _ _ _ _) $$ H
  iintro H
  iapply (insert_wp 𝒱 c bd E 2 14 _ _ _ _) $$ H
  iintro H
  iapply (ret_wp 𝒱 c bd E)
  iapply HK
  iexact H

theorem rankRows_wp {Q : PUnit → sProp 𝕄} {lg : Memref sig .tc .vmem SU .f32} {step : BitVec 32} {r : Fin blkLoop.trips} (G : Vec F SU .f32) (L : LL F) :
    (iprop(own c lg G ∗ held c lv li L) : sProp 𝕄)
      ⊢ iprop((iprop(own c lg G ∗ held c lv li (rankRowsP G step r L)) -∗ Q ⟨⟩)
      -∗ W (defs := defs) 𝒱 c bd E (rankRows lg lv li step r) Q) := by
  unfold rankRows
  iintro ⟨H1, H⟩ HK
  iapply (rdT_wp 𝒱 c bd E G) $$ H1
  iintro H1
  iapply (rdT_wp 𝒱 c bd E G) $$ H1
  iintro H1
  iapply (rdT_wp 𝒱 c bd E G) $$ H1
  iintro H1
  iapply (rdT_wp 𝒱 c bd E G) $$ H1
  iintro H1
  unfold rank4 rank4b
  iapply (insert4_wp 𝒱 c bd E _ _ _ _ _ _ _ _ L) $$ H
  iintro H
  iapply HK
  isplitl [H1]
  · iexact H1
  · iexact H

theorem blocks_wp {Q : PUnit → sProp 𝕄} {lg : Memref sig .tc .vmem SU .f32} {step : BitVec 32} {K : PR nD τ sig Λ F} (G : Vec F SU .f32) (L : LL F) :
    (iprop(own c lg G ∗ held c lv li L) : sProp 𝕄)
      ⊢ iprop((iprop(own c lg G ∗ held c lv li (blocksP G step L 32)) -∗ W (defs := defs) 𝒱 c bd E K Q)
      -∗ W (defs := defs) 𝒱 c bd E ((Scf.Loop.for blkLoop blkOK ⟨⟩ fun r _ => rankRows lg lv li step r).bind fun _ => K) Q) := by
  have hb := Scf.wp_for_bind frame (wpE defs 𝒱 (c.tc : Thread nD τ) bd) E blkLoop.lb blkLoop.ub blkLoop.st blkOK (⟨⟩ : PUnit)
    (fun r _ => rankRows lg lv li step r)
    (fun k _ => (iprop(own c lg G ∗ held c lv li (blocksP G step L k)) : sProp 𝕄))
    (fun k _ => by
      have h : blocksP G step L (k.val + 1) = rankRowsP G step k (blocksP G step L k.val) := by
        show (if h : k.val < blkLoop.trips then _ else _) = _
        rw [dif_pos k.isLt]
      iintro H
      iapply (rankRows_wp 𝒱 c bd E G (blocksP G step L k.val)) $$ H
      rw [h]
      iintro H
      iexact H) (kk := fun _ => K) (Q := Q)
  iintro H HK
  have h32 : blocksP G step L 32 = blocksP G step L (Scf.trips blkLoop.lb blkLoop.ub blkLoop.st) := congrArg _ blkTrips.symm
  rw [h32]
  have hb' : (iprop(own c lg G ∗ held c lv li L) : sProp 𝕄)
      ⊢ iprop((∀ _ : PUnit, (iprop(own c lg G ∗ held c lv li (blocksP G step L (Scf.trips blkLoop.lb blkLoop.ub blkLoop.st))) : sProp 𝕄)
          -∗ W (defs := defs) 𝒱 c bd E K Q)
        -∗ W (defs := defs) 𝒱 c bd E ((Scf.Loop.for blkLoop blkOK ⟨⟩ fun r _ => rankRows lg lv li step r).bind fun _ => K) Q) := hb
  iapply hb' $$ H
  iintro %_ H
  iapply HK
  iexact H

theorem product_wp {Q : PUnit → sProp 𝕄} {xb : Memref sig .tc .vmem SX .bf16} {w : Memref sig .tc .vmem SW .fp8e4m3}
    {ws b : Memref sig .tc .vmem SR .f32} {lg : Memref sig .tc .vmem SU .f32} {K : PR nD τ sig Λ F}
    (B : Vec F SX .bf16) (Wv : Vec F SW .fp8e4m3) (Sv Bv : Vec F SR .f32) (G : Vec F SU .f32) :
    (iprop(own c xb B ∗ own c w Wv ∗ own c ws Sv ∗ own c b Bv ∗ own c lg G) : sProp 𝕄)
      ⊢ iprop((iprop(own c xb B ∗ own c w Wv ∗ own c ws Sv ∗ own c b Bv ∗ own c lg (logitsOf B Wv Sv Bv)) -∗ W (defs := defs) 𝒱 c bd E K Q)
      -∗ W (defs := defs) 𝒱 c bd E (product xb w ws b lg K) Q) := by
  unfold product
  iintro ⟨H1, H2, H3, H4, H5⟩ HK
  iapply (load_wp 𝒱 c bd E (r := Rect.unit (s := SX) ![0, 0] SX.size inbXX) fullShare B) $$ H1
  iintro H1
  iapply (load_wp 𝒱 c bd E (r := Rect.unit (s := SW) ![0, 0] SW.size inbWW) fullShare Wv) $$ H2
  iintro H2
  iapply (load_wp 𝒱 c bd E (r := Rect.unit (s := SR) ![0, 0] SR.size inbRR) fullShare Sv) $$ H3
  iintro H3
  iapply (load_wp 𝒱 c bd E (r := Rect.unit (s := SR) ![0, 0] SR.size inbRR) fullShare Bv) $$ H4
  iintro H4
  iapply (load_wp 𝒱 c bd E (r := Rect.unit (s := SU) ![0, 0] SU.size inbUU) fullShare G) $$ H5
  iintro H5
  iapply (store_wp 𝒱 c bd E (r := Rect.unit (s := SU) ![0, 0] SU.size inbUU) G) $$ H5
  iintro H5
  rw [put_full (by decide), under_full (by decide), under_full (by decide), under_full (by decide), under_full (by decide)]
  iapply HK
  isplitl [H1]
  · iexact H1
  isplitl [H2]
  · iexact H2
  isplitl [H3]
  · iexact H3
  isplitl [H4]
  · iexact H4
  · iexact H5

/-- A step that is not the last. -/
theorem stepBody_mid {Q : PUnit → sProp 𝕄} {xb : Memref sig .tc .vmem SX .bf16} {w : Memref sig .tc .vmem SW .fp8e4m3}
    {ws b : Memref sig .tc .vmem SR .f32} {tv : Memref sig .tc .vmem SO .f32} {ti : Memref sig .tc .vmem SO .i32}
    {lg : Memref sig .tc .vmem SU .f32} {step : BitVec 32} (hs : ¬ isStep step 74#32 = 1#1)
    (B : Vec F SX .bf16) (Wv : Vec F SW .fp8e4m3) (Sv Bv : Vec F SR .f32) (G : Vec F SU .f32) (L : LL F) :
    (iprop((own c xb B ∗ own c w Wv ∗ own c ws Sv ∗ own c b Bv ∗ own c lg G) ∗ held c lv li L) : sProp 𝕄)
      ⊢ iprop((iprop((own c xb B ∗ own c w Wv ∗ own c ws Sv ∗ own c b Bv ∗ own c lg (logitsOf B Wv Sv Bv))
          ∗ held c lv li (blocksP (logitsOf B Wv Sv Bv) step L 32)) -∗ Q ⟨⟩)
        -∗ W (defs := defs) 𝒱 c bd E (stepBody w ws b tv ti xb lg lv li step) Q) := by
  unfold stepBody
  rw [dif_neg hs]
  iintro ⟨H, HL⟩ HK
  iapply (product_wp 𝒱 c bd E B Wv Sv Bv G) $$ H
  iintro ⟨H1, H2, H3, H4, H5⟩
  icombine H5 HL as H
  iapply (blocks_wp 𝒱 c bd E (logitsOf B Wv Sv Bv) L) $$ H
  iintro ⟨H5, HL⟩
  iapply (ret_wp 𝒱 c bd E)
  iapply HK
  isplitr [HL]
  · isplitl [H1]
    · iexact H1
    isplitl [H2]
    · iexact H2
    isplitl [H3]
    · iexact H3
    isplitl [H4]
    · iexact H4
    · iexact H5
  · iexact HL

/-- The last step: the lists are then popped into the outputs. -/
theorem stepBody_last {Q : PUnit → sProp 𝕄} {xb : Memref sig .tc .vmem SX .bf16} {w : Memref sig .tc .vmem SW .fp8e4m3}
    {ws b : Memref sig .tc .vmem SR .f32} {tv : Memref sig .tc .vmem SO .f32} {ti : Memref sig .tc .vmem SO .i32}
    {lg : Memref sig .tc .vmem SU .f32} {step : BitVec 32} (hs : isStep step 74#32 = 1#1)
    (B : Vec F SX .bf16) (Wv : Vec F SW .fp8e4m3) (Sv Bv : Vec F SR .f32) (G : Vec F SU .f32) (L : LL F)
    (T : Vec F SO .f32) (I : Vec F SO .i32) :
    (iprop((own c xb B ∗ own c w Wv ∗ own c ws Sv ∗ own c b Bv ∗ own c lg G) ∗ held c lv li L ∗ own c tv T ∗ own c ti I) : sProp 𝕄)
      ⊢ iprop((iprop((own c xb B ∗ own c w Wv ∗ own c ws Sv ∗ own c b Bv ∗ own c lg (logitsOf B Wv Sv Bv))
          ∗ (∃ L', held c lv li L') ∗ own c tv (selV (blocksP (logitsOf B Wv Sv Bv) step L 32))
          ∗ own c ti (selI (blocksP (logitsOf B Wv Sv Bv) step L 32))) -∗ Q ⟨⟩)
        -∗ W (defs := defs) 𝒱 c bd E (stepBody w ws b tv ti xb lg lv li step) Q) := by
  unfold stepBody
  rw [dif_pos hs]
  iintro ⟨H, HL, HT, HI⟩ HK
  iapply (product_wp 𝒱 c bd E B Wv Sv Bv G) $$ H
  iintro ⟨H1, H2, H3, H4, H5⟩
  icombine H5 HL as H
  iapply (blocks_wp 𝒱 c bd E (logitsOf B Wv Sv Bv) L) $$ H
  iintro ⟨H5, HL⟩
  icombine HI HL as H
  icombine HT H as H
  iapply (selection_wp 𝒱 c bd E) $$ H
  iintro ⟨HT, HI, HL⟩
  iapply (ret_wp 𝒱 c bd E)
  iapply HK
  isplitr [HL HT HI]
  · isplitl [H1]
    · iexact H1
    isplitl [H2]
    · iexact H2
    isplitl [H3]
    · iexact H3
    isplitl [H4]
    · iexact H4
    · iexact H5
  isplitl [HL]
  · iexact HL
  isplitl [HT]
  · iexact HT
  · iexact HI

end Cert.Head
-- ==== Proof.BodyRun.lean ====
/- The whole body, run once: at the first step, at a step between, at the last step. -/
module

public import proofs.«01_k».proof.Proof.QuantRun
public import proofs.«01_k».proof.Proof.RankRun

@[expose] public section

noncomputable section

namespace Cert.Head

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

/-- The test of a step's number holds at that number alone. -/
theorem isStep_iff (step n : BitVec 32) : isStep step n = 1#1 ↔ step = n := by
  unfold isStep Scalar.cmpi Scalar.extui
  by_cases h : step = n
  · subst h; simp [IntOp.cmpi]
  · have hb : (step == n) = false := by simpa using h
    simp [IntOp.cmpi, hb, h]

variable {nD : Nat} {τ : Topo} {sig : RefSig} {F : FTy → Type} [FloatOps F] {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)
variable {x : Memref sig .tc .vmem SX .bf16} {w : Memref sig .tc .vmem SW .fp8e4m3}
    {ws b : Memref sig .tc .vmem SR .f32} {tv : Memref sig .tc .vmem SO .f32} {ti : Memref sig .tc .vmem SO .i32}
    {cd : Memref sig .tc .vmem SX .fp8e4m3} {hc : cd.IsWhole} {s : Memref sig .tc .vmem SG .f32}
    {xb : Memref sig .tc .vmem SX .bf16} {hxb : xb.IsWhole} {lg : Memref sig .tc .vmem SU .f32}
    {lv li : Memref sig .tc .vmem SL .f32} {step : BitVec 32}

/-- The empty lists. -/
def emptyL (F : FTy → Type) [FloatOps F] : LL F := (fillP 0xFF800000#32, fillP 0x00000000#32)
/-- The codes, the scales and the dequantised tokens of `X` (what the buffers held before shows nowhere). -/
abbrev codesF (X : Vec F SX .bf16) (C : Vec F SX .fp8e4m3) := codesP X 28 0 rfl C
abbrev scalesF (X : Vec F SX .bf16) : Vec F SG .f32 := scalesOut (scP X 28 0 rfl (bcf 0x00000000#32))
abbrev xbF (X : Vec F SX .bf16) (B : Vec F SX .bf16) := xbP X 28 0 rfl B

theorem body_first {Q : PUnit → sProp 𝕄} (h0 : step = 0#32)
    (X : Vec F SX .bf16) (C : Vec F SX .fp8e4m3) (S : Vec F SG .f32) (B : Vec F SX .bf16)
    (Wv : Vec F SW .fp8e4m3) (Sv Bv : Vec F SR .f32) (G : Vec F SU .f32) (L : LL F) :
    (iprop(own c x X ∗ own c w Wv ∗ own c ws Sv ∗ own c b Bv ∗ own c cd C ∗ own c s S ∗ own c xb B ∗ own c lg G ∗ held c lv li L) : sProp 𝕄)
      ⊢ iprop((iprop(own c x X ∗ own c w Wv ∗ own c ws Sv ∗ own c b Bv ∗ own c cd (codesF X C) ∗ own c s (scalesF X)
          ∗ own c xb (xbF X B) ∗ own c lg (logitsOf (xbF X B) Wv Sv Bv)
          ∗ held c lv li (blocksP (logitsOf (xbF X B) Wv Sv Bv) step (emptyL F) 32)) -∗ Q ⟨⟩)
        -∗ W (defs := defs) 𝒱 c bd E (body x w ws b tv ti cd hc s xb hxb lg lv li step) Q) := by
  have h1 : isStep step 0#32 = 1#1 := (isStep_iff _ _).2 h0
  have h2 : ¬ isStep step 74#32 = 1#1 := fun h => by
    have := (isStep_iff _ _).1 h; rw [h0] at this; exact absurd this (by decide)
  unfold body
  rw [dif_pos h1]
  iintro ⟨Hx, Hw, Hws, Hb, Hc, Hs, Hxb, Hlg, HL⟩ HK
  icombine Hxb HL as H
  icombine Hs H as H
  icombine Hc H as H
  icombine Hx H as H
  iapply (setup_wp 𝒱 c bd E X C S B L) $$ H
  iintro ⟨Hx, Hc, Hs, Hxb, HL⟩
  iapply (stepBody_mid 𝒱 c bd E h2 (xbF X B) Wv Sv Bv G (emptyL F)) $$ [Hxb Hw Hws Hb Hlg HL]
  · isplitr [HL]
    · isplitl [Hxb]
      · iexact Hxb
      isplitl [Hw]
      · iexact Hw
      isplitl [Hws]
      · iexact Hws
      isplitl [Hb]
      · iexact Hb
      · iexact Hlg
    · iexact HL
  iintro ⟨⟨Hxb, Hw, Hws, Hb, Hlg⟩, HL⟩
  iapply HK
  isplitl [Hx]
  · iexact Hx
  isplitl [Hw]
  · iexact Hw
  isplitl [Hws]
  · iexact Hws
  isplitl [Hb]
  · iexact Hb
  isplitl [Hc]
  · iexact Hc
  isplitl [Hs]
  · iexact Hs
  isplitl [Hxb]
  · iexact Hxb
  isplitl [Hlg]
  · iexact Hlg
  · iexact HL

theorem body_mid {Q : PUnit → sProp 𝕄} (h0 : step ≠ 0#32) (h74 : step ≠ 74#32)
    (B : Vec F SX .bf16) (Wv : Vec F SW .fp8e4m3) (Sv Bv : Vec F SR .f32) (G : Vec F SU .f32) (L : LL F) :
    (iprop((own c xb B ∗ own c w Wv ∗ own c ws Sv ∗ own c b Bv ∗ own c lg G) ∗ held c lv li L) : sProp 𝕄)
      ⊢ iprop((iprop((own c xb B ∗ own c w Wv ∗ own c ws Sv ∗ own c b Bv ∗ own c lg (logitsOf B Wv Sv Bv))
          ∗ held c lv li (blocksP (logitsOf B Wv Sv Bv) step L 32)) -∗ Q ⟨⟩)
        -∗ W (defs := defs) 𝒱 c bd E (body x w ws b tv ti cd hc s xb hxb lg lv li step) Q) := by
  unfold body
  rw [dif_neg (fun h => h0 ((isStep_iff _ _).1 h))]
  exact stepBody_mid 𝒱 c bd E (fun h => h74 ((isStep_iff _ _).1 h)) B Wv Sv Bv G L

theorem body_last {Q : PUnit → sProp 𝕄} (h74 : step = 74#32)
    (B : Vec F SX .bf16) (Wv : Vec F SW .fp8e4m3) (Sv Bv : Vec F SR .f32) (G : Vec F SU .f32) (L : LL F)
    (T : Vec F SO .f32) (I : Vec F SO .i32) :
    (iprop((own c xb B ∗ own c w Wv ∗ own c ws Sv ∗ own c b Bv ∗ own c lg G) ∗ held c lv li L ∗ own c tv T ∗ own c ti I) : sProp 𝕄)
      ⊢ iprop((iprop((own c xb B ∗ own c w Wv ∗ own c ws Sv ∗ own c b Bv ∗ own c lg (logitsOf B Wv Sv Bv))
          ∗ (∃ L', held c lv li L') ∗ own c tv (selV (blocksP (logitsOf B Wv Sv Bv) step L 32))
          ∗ own c ti (selI (blocksP (logitsOf B Wv Sv Bv) step L 32))) -∗ Q ⟨⟩)
        -∗ W (defs := defs) 𝒱 c bd E (body x w ws b tv ti cd hc s xb hxb lg lv li step) Q) := by
  unfold body
  rw [dif_neg (fun h => by have := (isStep_iff _ _).1 h; rw [h74] at this; exact absurd this (by decide))]
  exact stepBody_last 𝒱 c bd E ((isStep_iff _ _).2 h74) B Wv Sv Bv G L T I

/-- A buffer at some contents. -/
abbrev any {sh : Shape} {e : EltTy} (m : Memref sig .tc .vmem sh e) : sProp 𝕄 := iprop(∃ X, own c m X)

theorem anys (X : Vec F SX .bf16) (Wv : Vec F SW .fp8e4m3) (Sv Bv : Vec F SR .f32) (T : Vec F SO .f32) (I : Vec F SO .i32)
    (C : Vec F SX .fp8e4m3) (S : Vec F SG .f32) (B : Vec F SX .bf16) (G : Vec F SU .f32) (L1 L2 : Vec F SL .f32) :
    (iprop(own c x X ∗ own c w Wv ∗ own c ws Sv ∗ own c b Bv ∗ own c tv T ∗ own c ti I ∗ own c cd C ∗ own c s S ∗ own c xb B ∗ own c lg G ∗ own c lv L1 ∗ own c li L2) : sProp 𝕄) ⊢ iprop(any c x ∗ any c w ∗ any c ws ∗ any c b ∗ any c tv ∗ any c ti ∗ any c cd ∗ any c s ∗ any c xb ∗ any c lg ∗ any c lv ∗ any c li) := by
  iintro ⟨Hx, Hw, Hws, Hb, Htv, Hti, Hcd, Hs, Hxb, Hlg, Hlv, Hli⟩
  isplitl [Hx]
  · iexists _
    iexact Hx
  isplitl [Hw]
  · iexists _
    iexact Hw
  isplitl [Hws]
  · iexists _
    iexact Hws
  isplitl [Hb]
  · iexists _
    iexact Hb
  isplitl [Htv]
  · iexists _
    iexact Htv
  isplitl [Hti]
  · iexists _
    iexact Hti
  isplitl [Hcd]
  · iexists _
    iexact Hcd
  isplitl [Hs]
  · iexists _
    iexact Hs
  isplitl [Hxb]
  · iexists _
    iexact Hxb
  isplitl [Hlg]
  · iexists _
    iexact Hlg
  isplitl [Hlv]
  · iexists _
    iexact Hlv
  iexists _
  iexact Hli

/-- Whatever the buffers hold, the body runs and hands each of them back. -/
theorem body_any {Q : PUnit → sProp 𝕄} :
    (iprop(any c x ∗ any c w ∗ any c ws ∗ any c b ∗ any c tv ∗ any c ti ∗ any c cd ∗ any c s ∗ any c xb ∗ any c lg ∗ any c lv ∗ any c li) : sProp 𝕄)
      ⊢ iprop((iprop(any c x ∗ any c w ∗ any c ws ∗ any c b ∗ any c tv ∗ any c ti ∗ any c cd ∗ any c s ∗ any c xb ∗ any c lg ∗ any c lv ∗ any c li) -∗ Q ⟨⟩)
        -∗ W (defs := defs) 𝒱 c bd E (body x w ws b tv ti cd hc s xb hxb lg lv li step) Q) := by
  iintro ⟨⟨%X, Hx⟩, ⟨%Wv, Hw⟩, ⟨%Sv, Hws⟩, ⟨%Bv, Hb⟩, ⟨%T, Ht⟩, ⟨%I, Hi⟩, ⟨%C, Hc⟩, ⟨%S, Hs⟩, ⟨%B, Hxb⟩, ⟨%G, Hlg⟩, ⟨%L1, HL1⟩, ⟨%L2, HL2⟩⟩ HK
  by_cases h0 : step = 0#32
  · iapply (body_first 𝒱 c bd E h0 X C S B Wv Sv Bv G (L1, L2)) $$ [Hx Hw Hws Hb Hc Hs Hxb Hlg HL1 HL2]
    · iframe
      isplitl [HL1]
      · iexact HL1
      · iexact HL2
    iintro ⟨Hx, Hw, Hws, Hb, Hc, Hs, Hxb, Hlg, HL1, HL2⟩
    iapply HK
    iapply (anys c)
    iframe
  by_cases h74 : step = 74#32
  · iapply (body_last 𝒱 c bd E h74 B Wv Sv Bv G (L1, L2) T I) $$ [Hw Hws Hb Ht Hi Hxb Hlg HL1 HL2]
    · iframe
      isplitl [HL1]
      · iexact HL1
      · iexact HL2
    iintro ⟨⟨Hxb, Hw, Hws, Hb, Hlg⟩, ⟨%L', HL1, HL2⟩, Ht, Hi⟩
    iapply HK
    iapply (anys c)
    iframe
  · iapply (body_mid 𝒱 c bd E h0 h74 B Wv Sv Bv G (L1, L2)) $$ [Hw Hws Hb Hxb Hlg HL1 HL2]
    · iframe
      isplitl [HL1]
      · iexact HL1
      · iexact HL2
    iintro ⟨⟨Hxb, Hw, Hws, Hb, Hlg⟩, HL1, HL2⟩
    iapply HK
    iapply (anys c)
    iframe

end Cert.Head
-- ==== Proof.KFrame.lean ====
/- The kernel's run for its frame: nothing is said of what the windows hold. -/
module

public import proofs.«01_k».proof.Proof.KBodyEq
public import proofs.«01_k».proof.Proof.BodyRun
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scX : Memref sig .tc .vmem Cert.Head.SX .bf16 := Memref.whole cc0_scratch0
abbrev scG : Memref sig .tc .vmem Cert.Head.SU .f32 := Memref.whole cc0_scratch1
abbrev scV : Memref sig .tc .vmem Cert.Head.SL .f32 := Memref.whole cc0_scratch2
abbrev scI : Memref sig .tc .vmem Cert.Head.SL .f32 := Memref.whole cc0_scratch3

/-- The invariant between two points: the scratch at some contents and the generator register at some state. -/
theorem PhiA_eq (c : Dev nD) : (Pipeline.ΦA (U := UR sig nD τ) (Val := Elt F) spec0 c : sProp 𝕄)
    = iprop(iprop(Cert.Head.any c scX ∗ Cert.Head.any c scG ∗ Cert.Head.any c scV ∗ Cert.Head.any c scI) ∗ (∃ r, prngReg c r)) := by
  unfold Pipeline.ΦA
  rw [scopedRest0_eq]
  simp only [Cert.Head.any, Cert.Head.own, scX, scG, scV, scI, owns_whole]
  try rfl

/-- The proof data of the frame: the arrays as the region finds them, what the body leaves unnamed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- Every window is handed over and taken back at some contents. -/
def forgets : Fin 8 → Bool := fun _ => true

/-- What the body is handed and hands back: the scratch, the generator register, what the core owes, the eight current buffers. -/
def fMid (c : Dev nD) (t : Fin cfg0.N) : sProp 𝕄 :=
  iprop((iprop(Cert.Head.any c scX ∗ Cert.Head.any c scG ∗ Cert.Head.any c scV ∗ Cert.Head.any c scI) ∗ (∃ r, prngReg c r))
    ∗ (fdats m 0 c).owesAt () t.castSucc
    ∗ Cert.Head.any c (st0_0 t) ∗ Cert.Head.any c (st0_1 t) ∗ Cert.Head.any c (st0_2 t) ∗ Cert.Head.any c (st0_3 t)
    ∗ Cert.Head.any c (st0_4 t) ∗ Cert.Head.any c (st0_5 t) ∗ Cert.Head.any c (st0_6 t) ∗ Cert.Head.any c (st0_7 t))

/-- The body at a point, from its buffers at some contents to its buffers at some contents. -/
theorem sound_frame (c : Dev nD) (t : Fin cfg0.N) :
    fMid m c t ⊢ wp frame (wpE (defs₀ (F := F)) Variants.none c none) Set.univ (bodyAt0 t) (fun _ => fMid m c t) := by
  unfold bodyAt0
  rw [body_eq]
  unfold fMid
  iintro ⟨⟨⟨H9, H10, H11, H12⟩, Hr⟩, Ho, H1, H2, H3, H4, H5, H6, H7, H8⟩
  iapply (Cert.Head.body_any Variants.none c none Set.univ) $$ [H1 H2 H3 H4 H5 H6 H7 H8 H9 H10 H11 H12]
  · iframe
  iintro ⟨H1, H2, H3, H4, H5, H6, H7, H8, H9, H10, H11, H12⟩
  iframe

/-- The library's body obligation, every window forgotten. -/
theorem body_frame (c : Dev nD) :
    BodyObligation (fdats (F := F) m 0 c) (defs₀ (F := F)) Variants.none () Set.univ forgets := fun t => by
  rw [bigSep_W0, bigSep_W0]
  have hΦ : (Pipeline.ΦA (U := UR sig nD τ) (Val := Elt F) spec0 c : sProp 𝕄) = _ := PhiA_eq c
  refine triple_restated (sound_frame m c t) rfl ?_ fun _ => ?_
  · exact sep_mono (Entails.of_eq hΦ) .rfl
  · exact sep_mono (Entails.of_eq hΦ.symm) .rfl

/-- The buffers that the lines after the region write. -/
def tailW : Finset (Ref sig .tc) := {main_v4, main_v5, main_v6, main_v7, main_v8, main_v9, main_v10, main_v11, main_v12, main_v13, main_v14, main_v15,
  main_v16, main_v17, main_v18, main_c, main_v19, main_v20, main_c_0, main_v21, main_v22, main_v23, main_c_1, main_v24, main_v25}

theorem tailW_of : ∀ ops ∈ ([hostOps1] : List (List (HloOp τ sig (Elt F)))), ∀ op ∈ ops, ∀ b : Ref sig .tc,
    Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.reshape_writes, Finset.mem_singleton] at hb
    have hb' := Proc.devRef_injective _ hb
    subst hb'
    decide

set_option backward.isDefEq.respectTransparency.types false in
/-- The kernel runs to its end from any memory, its arguments end as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (fdats m) (0 : Fin 1) launch0 defs₀ Variants.none forgets tailW m ρ main
    (hbody := fun c => (body_frame m c).loose) (hshare := fun c => (fdats m 0 c).share_full fun _ => rfl)
    (howed := fun _ _ => rfl) (V₀ := V0 m) (opss := [hostOps1]) (hsub := sfx_sub) (hfresh := sfx_fresh) (hkeep := sfx_keeps)
    (hT := tailW_of) (hmain := hmain m Variants.none) (hA := fun _ _ => rfl) (hΦ := fun _ _ => rfl)
    (Q' := _) (hQ' := fun r h => ⟨fun c =>
      ⟨((h.1 c).2 main_arg0 (by exact Finset.mem_sdiff.mpr ⟨Pipeline.mem_restRefs_of main_arg0 (by decide) (by decide), by decide⟩)).trans (V_main_arg0 m c),
       (Pipeline.RDat.FramePostR.arr_in h.1 c 1 rfl).trans (V_main_arg1 m c),
       ((h.1 c).2 main_arg2 (by exact Finset.mem_sdiff.mpr ⟨Pipeline.mem_restRefs_of main_arg2 (by decide) (by decide), by decide⟩)).trans (V_main_arg2 m c),
       ((h.1 c).2 main_arg3 (by exact Finset.mem_sdiff.mpr ⟨Pipeline.mem_restRefs_of main_arg3 (by decide) (by decide), by decide⟩)).trans (V_main_arg3 m c)⟩, h.2⟩)

end Cert.Kernel.Hand
-- ==== Proof.IBodyEq.lean ====
/- The printed kernel body is the body in its plain form (Body.lean): the two are the same program. -/
module
public import proofs.«01_k».proof.Proof.Body
public import proofs.«01_k».proof.Proof.Gen.KernelIdeal
@[expose] public section
set_option maxRecDepth 65536
noncomputable section
namespace Cert.KernelIdeal.Hand
open Cert.KernelIdeal
open Idealize.ShloMosaic Idealize.SL.Sem
variable {F : FTy → Type} [FloatOps F]
variable [Facts]
open Facts₀ Facts

set_option maxHeartbeats 0 in
/-- The printed body is `Cert.Head.body`. -/
theorem body_eq (i : grid0.Coords) (arg1 : Memref sig .tc .vmem S256x3584 .bf16) (harg1 : arg1.IsWhole) (arg2 : Memref sig .tc .vmem S512x3584 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S8x256 .f32) (harg5 : arg5.IsWhole) (arg6 : Memref sig .tc .vmem S8x256 .i32) (harg6 : arg6.IsWhole) (arg7 : Memref sig .tc .vmem S256x3584 .fp8e4m3) (harg7 : arg7.IsWhole) (arg8 : Memref sig .tc .vmem S28x1x256 .f32) (harg8 : arg8.IsWhole) (arg9 : Memref sig .tc .vmem S256x3584 .bf16) (harg9 : arg9.IsWhole) (arg10 : Memref sig .tc .vmem S256x512 .f32) (harg10 : arg10.IsWhole) (arg11 : Memref sig .tc .vmem S16x256x128 .f32) (harg11 : arg11.IsWhole) (arg12 : Memref sig .tc .vmem S16x256x128 .f32) (harg12 : arg12.IsWhole) :
    cc0_head_topk (F := F) i arg1 harg1 arg2 harg2 arg3 harg3 arg4 harg4 arg5 harg5 arg6 harg6 arg7 harg7 arg8 harg8 arg9 harg9 arg10 harg10 arg11 harg11 arg12 harg12 = Cert.Head.body arg1 arg2 arg3 arg4 arg5 arg6 arg7 harg7 arg8 arg9 harg9 arg10 arg11 arg12 (BitVec.ofNat 32 (i 0).val) := by
  rfl
end Cert.KernelIdeal.Hand
-- ==== Proof.IFrame.lean ====
/- The kernel's run for its frame: nothing is said of what the windows hold. -/
module

public import proofs.«01_k».proof.Proof.IBodyEq
public import proofs.«01_k».proof.Proof.BodyRun
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scX : Memref sig .tc .vmem Cert.Head.SX .bf16 := Memref.whole cc0_scratch0
abbrev scG : Memref sig .tc .vmem Cert.Head.SU .f32 := Memref.whole cc0_scratch1
abbrev scV : Memref sig .tc .vmem Cert.Head.SL .f32 := Memref.whole cc0_scratch2
abbrev scI : Memref sig .tc .vmem Cert.Head.SL .f32 := Memref.whole cc0_scratch3

/-- The invariant between two points: the scratch at some contents and the generator register at some state. -/
theorem PhiA_eq (c : Dev nD) : (Pipeline.ΦA (U := UR sig nD τ) (Val := Elt F) spec0 c : sProp 𝕄)
    = iprop(iprop(Cert.Head.any c scX ∗ Cert.Head.any c scG ∗ Cert.Head.any c scV ∗ Cert.Head.any c scI) ∗ (∃ r, prngReg c r)) := by
  unfold Pipeline.ΦA
  rw [scopedRest0_eq]
  simp only [Cert.Head.any, Cert.Head.own, scX, scG, scV, scI, owns_whole]
  try rfl

/-- The proof data of the frame: the arrays as the region finds them, what the body leaves unnamed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- Every window is handed over and taken back at some contents. -/
def forgets : Fin 8 → Bool := fun _ => true

/-- What the body is handed and hands back: the scratch, the generator register, what the core owes, the eight current buffers. -/
def fMid (c : Dev nD) (t : Fin cfg0.N) : sProp 𝕄 :=
  iprop((iprop(Cert.Head.any c scX ∗ Cert.Head.any c scG ∗ Cert.Head.any c scV ∗ Cert.Head.any c scI) ∗ (∃ r, prngReg c r))
    ∗ (fdats m 0 c).owesAt () t.castSucc
    ∗ Cert.Head.any c (st0_0 t) ∗ Cert.Head.any c (st0_1 t) ∗ Cert.Head.any c (st0_2 t) ∗ Cert.Head.any c (st0_3 t)
    ∗ Cert.Head.any c (st0_4 t) ∗ Cert.Head.any c (st0_5 t) ∗ Cert.Head.any c (st0_6 t) ∗ Cert.Head.any c (st0_7 t))

/-- The body at a point, from its buffers at some contents to its buffers at some contents. -/
theorem sound_frame (c : Dev nD) (t : Fin cfg0.N) :
    fMid m c t ⊢ wp frame (wpE (defs₀ (F := F)) Variants.none c none) Set.univ (bodyAt0 t) (fun _ => fMid m c t) := by
  unfold bodyAt0
  rw [body_eq]
  unfold fMid
  iintro ⟨⟨⟨H9, H10, H11, H12⟩, Hr⟩, Ho, H1, H2, H3, H4, H5, H6, H7, H8⟩
  iapply (Cert.Head.body_any Variants.none c none Set.univ) $$ [H1 H2 H3 H4 H5 H6 H7 H8 H9 H10 H11 H12]
  · iframe
  iintro ⟨H1, H2, H3, H4, H5, H6, H7, H8, H9, H10, H11, H12⟩
  iframe

/-- The library's body obligation, every window forgotten. -/
theorem body_frame (c : Dev nD) :
    BodyObligation (fdats (F := F) m 0 c) (defs₀ (F := F)) Variants.none () Set.univ forgets := fun t => by
  rw [bigSep_W0, bigSep_W0]
  have hΦ : (Pipeline.ΦA (U := UR sig nD τ) (Val := Elt F) spec0 c : sProp 𝕄) = _ := PhiA_eq c
  refine triple_restated (sound_frame m c t) rfl ?_ fun _ => ?_
  · exact sep_mono (Entails.of_eq hΦ) .rfl
  · exact sep_mono (Entails.of_eq hΦ.symm) .rfl

/-- The buffers that the lines after the region write. -/
def tailW : Finset (Ref sig .tc) := {main_v4, main_v5, main_v6, main_v7, main_v8, main_v9, main_v10, main_v11, main_v12, main_v13, main_v14, main_v15,
  main_v16, main_v17, main_v18, main_c, main_v19, main_v20, main_c_0, main_v21, main_v22, main_v23, main_c_1, main_v24, main_v25}

theorem tailW_of : ∀ ops ∈ ([hostOps1] : List (List (HloOp τ sig (Elt F)))), ∀ op ∈ ops, ∀ b : Ref sig .tc,
    Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.reshape_writes, Finset.mem_singleton] at hb
    have hb' := Proc.devRef_injective _ hb
    subst hb'
    decide

set_option backward.isDefEq.respectTransparency.types false in
/-- The kernel runs to its end from any memory, its arguments end as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (fdats m) (0 : Fin 1) launch0 defs₀ Variants.none forgets tailW m ρ main
    (hbody := fun c => (body_frame m c).loose) (hshare := fun c => (fdats m 0 c).share_full fun _ => rfl)
    (howed := fun _ _ => rfl) (V₀ := V0 m) (opss := [hostOps1]) (hsub := sfx_sub) (hfresh := sfx_fresh) (hkeep := sfx_keeps)
    (hT := tailW_of) (hmain := hmain m Variants.none) (hA := fun _ _ => rfl) (hΦ := fun _ _ => rfl)
    (Q' := _) (hQ' := fun r h => ⟨fun c =>
      ⟨((h.1 c).2 main_arg0 (by exact Finset.mem_sdiff.mpr ⟨Pipeline.mem_restRefs_of main_arg0 (by decide) (by decide), by decide⟩)).trans (V_main_arg0 m c),
       (Pipeline.RDat.FramePostR.arr_in h.1 c 1 rfl).trans (V_main_arg1 m c),
       ((h.1 c).2 main_arg2 (by exact Finset.mem_sdiff.mpr ⟨Pipeline.mem_restRefs_of main_arg2 (by decide) (by decide), by decide⟩)).trans (V_main_arg2 m c),
       ((h.1 c).2 main_arg3 (by exact Finset.mem_sdiff.mpr ⟨Pipeline.mem_restRefs_of main_arg3 (by decide) (by decide), by decide⟩)).trans (V_main_arg3 m c)⟩, h.2⟩)

end Cert.KernelIdeal.Hand
-- ==== Proof.SlotRead.lean ====
/- The lists' buffers read at one slot, token and lane: what a write to a slot, or to eight rows of one, leaves there. -/
module

public import proofs.«01_k».proof.Proof.RankRun
public import Idealize.ShloMosaic.Lib.Pointwise
public import Idealize.ShloMosaic.Lib.ValueLayout

@[expose] public section

noncomputable section

namespace Cert.Head

open Idealize.ShloMosaic

variable {F : FTy → Type} [FloatOps F]

theorem slot_at (X : Vec F SL .f32) (s : Nat) (hs : s < 16) (n : Fin 256) (l : Fin 128) :
    slot X s hs (ix2 n l) = X (ix3 ⟨s, hs⟩ n l) := by
  unfold slot
  refine (ValueIdx.shapeCast_1ab_ab_apply _ _ _ _).trans ?_
  unfold under
  congr 1
  funext a
  apply Fin.ext
  rw [Rect.emb_apply]
  fin_cases a <;> simp [slotR, Rect.unit]

theorem setS_at (X : Vec F SL .f32) (s : Nat) (hs : s < 16) (v : FVec F ST .f32) (s' : Fin 16) (n : Fin 256) (l : Fin 128) :
    setS X s hs v (ix3 s' n l) = if s'.val = s then v (ix2 n l) else X (ix3 s' n l) := by
  unfold setS
  split_ifs with h
  · have he : (ix3 s' n l : SL.Idx) = (slotR hs).emb (ix3 (0 : Fin 1) n l) := by
      funext a
      apply Fin.ext
      rw [Rect.emb_apply]
      fin_cases a <;> simp [slotR, Rect.unit, h]
    rw [he, put_emb]
    exact ValueIdx.shapeCast_ab_1ab_apply _ _ _ _ _
  · refine put_miss _ _ _ _ fun x hx => h ?_
    have h0 := congrArg (fun y : SL.Idx => (y 0).val) hx
    simp only [Rect.emb_apply] at h0
    have := (x 0).isLt
    simp [slotR, Rect.unit] at h0 this
    omega

theorem blk_at (X : Vec F SL .f32) (r : Fin blkLoop.trips) (s : Nat) (hs : s < 16) (i : Fin 8) (l : Fin 128) (n : Fin 256)
    (hn : n.val = 8 * r.val + i.val) : blk X r s hs (ix2 i l) = X (ix3 ⟨s, hs⟩ n l) := by
  unfold blk
  refine (ValueIdx.shapeCast_1ab_ab_apply _ _ _ _).trans ?_
  unfold under
  congr 1
  funext a
  apply Fin.ext
  rw [Rect.emb_apply]
  fin_cases a <;> simp [blkR, Rect.unit, rowOf_toNat, hn]

theorem setB_at (X : Vec F SL .f32) (r : Fin blkLoop.trips) (s : Nat) (hs : s < 16) (v : FVec F SB .f32) (i : Fin 8) (s' : Fin 16)
    (n : Fin 256) (l : Fin 128) (hn : n.val = 8 * r.val + i.val) :
    setB X r s hs v (ix3 s' n l) = if s'.val = s then v (ix2 i l) else X (ix3 s' n l) := by
  unfold setB
  split_ifs with h
  · have he : (ix3 s' n l : SL.Idx) = (blkR r hs).emb (ix3 (0 : Fin 1) i l) := by
      funext a
      apply Fin.ext
      rw [Rect.emb_apply]
      fin_cases a <;> simp [blkR, Rect.unit, h, rowOf_toNat, hn]
    rw [he, put_emb]
    exact ValueIdx.shapeCast_ab_1ab_apply _ _ _ _ _
  · refine put_miss _ _ _ _ fun x hx => h ?_
    have h0 := congrArg (fun y : SL.Idx => (y 0).val) hx
    simp only [Rect.emb_apply] at h0
    have := (x 0).isLt
    simp [blkR, Rect.unit] at h0 this
    omega

theorem setB_off (X : Vec F SL .f32) (r : Fin blkLoop.trips) (s : Nat) (hs : s < 16) (v : FVec F SB .f32) (s' : Fin 16)
    (n : Fin 256) (l : Fin 128) (hn : n.val / 8 ≠ r.val) : setB X r s hs v (ix3 s' n l) = X (ix3 s' n l) := by
  unfold setB
  refine put_miss _ _ _ _ fun x hx => hn ?_
  have h0 := congrArg (fun y : SL.Idx => (y 1).val) hx
  simp only [Rect.emb_apply] at h0
  have := (x 1).isLt
  simp [blkR, Rect.unit, rowOf_toNat] at h0 this
  omega

theorem tile_at (X : Vec F SU .f32) (r : Fin blkLoop.trips) (t : Nat) (ht : t < 4) (i : Fin 8) (l : Fin 128) (n : Fin 256)
    (hn : n.val = 8 * r.val + i.val) :
    under (tileR r ht) X (ix2 i l) = X (ix2 n ⟨128 * t + l.val, by omega⟩) := by
  unfold under
  congr 1
  funext a
  apply Fin.ext
  rw [Rect.emb_apply]
  fin_cases a <;> simp [tileR, Rect.unit, rowOf_toNat, hn]

end Cert.Head
-- ==== Proof.Bubble.lean ====
/- A list of fixed length that keeps the greatest entries of a stream, and four entries put in order:
   what they hold is told by counting, for every up-set of values, how many of their values lie in it. -/
module

public import Mathlib.Data.EReal.Basic
public import Mathlib.Data.List.Perm.Basic
public import Mathlib.Data.Fin.VecNotation

@[expose] public section

noncomputable section

namespace Cert.Head

/-- An entry: a value and its tile. -/
abbrev Ent := EReal × EReal

/-- Of two entries the greater, the first where they are equal, -/
def xhi (a b : Ent) : Ent := (max a.1 b.1, if a.1 < b.1 then b.2 else a.2)
/-- and the other. -/
def xlo (a b : Ent) : Ent := (min a.1 b.1, if a.1 < b.1 then a.2 else b.2)

theorem xhi_of_lt {a b : Ent} (h : a.1 < b.1) : xhi a b = b := by
  simp [xhi, h, max_eq_right h.le]
theorem xlo_of_lt {a b : Ent} (h : a.1 < b.1) : xlo a b = a := by
  simp [xlo, h, min_eq_left h.le]
theorem xhi_of_le {a b : Ent} (h : b.1 ≤ a.1) : xhi a b = a := by
  simp [xhi, not_lt.2 h, max_eq_left h]
theorem xlo_of_le {a b : Ent} (h : b.1 ≤ a.1) : xlo a b = b := by
  simp [xlo, not_lt.2 h, min_eq_right h]

theorem exchange_perm (a b : Ent) : [xhi a b, xlo a b].Perm [a, b] := by
  rcases lt_or_ge a.1 b.1 with h | h
  · rw [xhi_of_lt h, xlo_of_lt h]; exact List.Perm.swap _ _ _
  · rw [xhi_of_le h, xlo_of_le h]

theorem exchange_cons (a b : Ent) (l : List Ent) : (xhi a b :: xlo a b :: l).Perm (a :: b :: l) :=
  (exchange_perm a b).append_right l

/-- The list with an entry inserted: each place keeps the greater and passes on the other. -/
def ins : List Ent → Ent → List Ent
  | [], _ => []
  | h :: t, x => xhi h x :: ins t (xlo h x)
/-- What is passed on at the end. -/
def outOf : List Ent → Ent → Ent
  | [], x => x
  | h :: t, x => outOf t (xlo h x)

/-- The values descend. -/
abbrev Desc (R : List Ent) : Prop := R.Pairwise fun a b => b.1 ≤ a.1

theorem ins_length : ∀ (R : List Ent) (x : Ent), (ins R x).length = R.length
  | [], _ => rfl
  | h :: t, x => by simp [ins, ins_length t]

theorem ins_perm : ∀ (R : List Ent) (x : Ent), (outOf R x :: ins R x).Perm (x :: R)
  | [], _ => .refl _
  | h :: t, x => by
    have h1 : (outOf t (xlo h x) :: xhi h x :: ins t (xlo h x)).Perm (xhi h x :: outOf t (xlo h x) :: ins t (xlo h x)) :=
      List.Perm.swap _ _ _
    have h2 := (ins_perm t (xlo h x)).cons (xhi h x)
    exact (h1.trans h2).trans ((exchange_cons h x t).trans (List.Perm.swap _ _ _))

theorem mem_ins {R : List Ent} {x e : Ent} (h : e ∈ ins R x) : e = x ∨ e ∈ R :=
  List.mem_cons.1 ((ins_perm R x).subset (List.mem_cons_of_mem _ h))

theorem ins_desc : ∀ (R : List Ent) (x : Ent), Desc R → Desc (ins R x) ∧ ∀ r ∈ ins R x, (outOf R x).1 ≤ r.1
  | [], _, _ => ⟨List.Pairwise.nil, fun r h => absurd h List.not_mem_nil⟩
  | h :: t, x, hs => by
    obtain ⟨h1, h2⟩ := List.pairwise_cons.1 hs
    obtain ⟨i1, i2⟩ := ins_desc t (xlo h x) h2
    have top : ∀ e ∈ outOf t (xlo h x) :: ins t (xlo h x), e.1 ≤ (xhi h x).1 := fun e he => by
      rcases List.mem_cons.1 ((ins_perm t (xlo h x)).subset he) with rfl | he
      · exact min_le_max
      · exact (h1 e he).trans (le_max_left _ _)
    refine ⟨List.pairwise_cons.2 ⟨fun e he => top e (List.mem_cons_of_mem _ he), i1⟩, fun r hr => ?_⟩
    rcases List.mem_cons.1 hr with rfl | hr
    · exact top _ List.mem_cons_self
    · exact i2 r hr

/-- How many of the entries' values lie in `p`. -/
abbrev num (p : EReal → Bool) (R : List Ent) : ℕ := R.countP fun e => p e.1
/-- `p` holds of every value above one it holds of, and not of -inf. -/
structure Up (p : EReal → Bool) : Prop where
  mono : ∀ {x y}, x ≤ y → p x = true → p y = true
  bot : p ⊥ = false

theorem num_ins {p : EReal → Bool} (hp : Up p) (R : List Ent) (x : Ent) (hs : Desc R) :
    num p (ins R x) = min R.length (num p R + if p x.1 then 1 else 0) := by
  have h1 := (ins_perm R x).countP_eq fun e => p e.1
  rw [List.countP_cons, List.countP_cons] at h1
  have h2 : num p (ins R x) ≤ R.length := by
    rw [← ins_length R x]; exact List.countP_le_length
  have h3 := (ins_desc R x hs).2
  by_cases ho : p (outOf R x).1 = true
  · have h4 : num p (ins R x) = (ins R x).length := by
      unfold num
      rw [List.countP_eq_length]
      exact fun e he => hp.mono (h3 e he) ho
    rw [ins_length] at h4
    simp only [ho, if_true] at h1
    simp only [num] at *
    omega
  · simp only [ho] at h1
    simp only [num] at *
    simp only [Bool.false_eq_true, if_false] at h1
    omega

/-- Four entries in order, the greatest first. -/
def sort4 (a b c d : Ent) : Fin 4 → Ent :=
  let a1 := xhi a b; let b1 := xlo a b
  let b2 := xhi b1 c; let c1 := xlo b1 c
  let c2 := xhi c1 d; let d1 := xlo c1 d
  let a2 := xhi a1 b2; let b3 := xlo a1 b2
  let b4 := xhi b3 c2; let c3 := xlo b3 c2
  ![xhi a2 b4, xlo a2 b4, c3, d1]

theorem sort4_perm (a b c d : Ent) :
    [sort4 a b c d 0, sort4 a b c d 1, sort4 a b c d 2, sort4 a b c d 3].Perm [a, b, c, d] := by
  simp only [sort4, Matrix.cons_val_zero, Matrix.cons_val_one, Matrix.cons_val]
  refine (exchange_cons _ _ _).trans ?_
  refine ((exchange_cons _ _ _).cons _).trans ?_
  refine (exchange_cons _ _ _).trans ?_
  refine (((exchange_cons _ _ _).cons _).cons _).trans ?_
  refine ((exchange_cons _ _ _).cons _).trans ?_
  exact exchange_cons _ _ _

theorem sort4_desc (a b c d : Ent) : (sort4 a b c d 1).1 ≤ (sort4 a b c d 0).1 ∧ (sort4 a b c d 2).1 ≤ (sort4 a b c d 1).1
    ∧ (sort4 a b c d 3).1 ≤ (sort4 a b c d 2).1 := by
  simp only [sort4, Matrix.cons_val_zero, Matrix.cons_val_one, Matrix.cons_val, xhi, xlo]
  refine ⟨min_le_max, ?_, ?_⟩
  · exact le_min (((min_le_left _ _).trans (min_le_max))) min_le_max
  · refine le_min (le_min ?_ ?_) (min_le_max)
    · exact (min_le_left _ _).trans ((min_le_left _ _).trans min_le_max)
    · exact (min_le_left _ _).trans min_le_max

end Cert.Head
-- ==== Proof.LaneMath.lean ====
/- One lane: four lists, the `j`-th of which is given the `j`-th greatest of every four entries. Whatever the
   up-set of values, the lists together hold as many of its values as the stream, or at least eight. -/
module

public import proofs.«01_k».proof.Proof.Bubble
public import Mathlib.Tactic.FinCases
public import Mathlib.Algebra.BigOperators.Fin
public import Mathlib.Algebra.Order.BigOperators.Group.Finset

@[expose] public section

noncomputable section

namespace Cert.Head

/-- The lists' lengths. -/
def depth : Fin 4 → ℕ := ![8, 4, 2, 2]
/-- The lists of one lane. -/
abbrev Lane := Fin 4 → List Ent

/-- The entry of tile `T`. -/
def entOf (f : ℕ → EReal) (T : ℕ) : Ent := (f T, ((T : ℝ) : EReal))

/-- The lists after four entries more. -/
def laneStep (R : Lane) (a b c d : Ent) : Lane := fun j => ins (R j) (sort4 a b c d j)

/-- What holds of a lane's lists after the tiles below `n`. -/
structure LaneOK (f : ℕ → EReal) (n : ℕ) (R : Lane) : Prop where
  len : ∀ j, (R j).length = depth j
  desc : ∀ j, Desc (R j)
  cnt : ∀ p, Up p → ∃ k : Fin 4 → ℕ, k 1 ≤ k 0 ∧ k 2 ≤ k 1 ∧ k 3 ≤ k 2 ∧ (∀ j, num p (R j) = min (depth j) (k j))
    ∧ k 0 + k 1 + k 2 + k 3 = (List.range n).countP fun T => p (f T)
  tag : ∀ j, ∀ e ∈ R j, ⊥ < e.1 → ∃ T < n, e = entOf f T
  apart : ∀ j j', j ≠ j' → ∀ a ∈ R j, ∀ b ∈ R j', ⊥ < a.1 → ⊥ < b.1 → a.2 ≠ b.2

theorem entOf_snd_inj {f : ℕ → EReal} {T T' : ℕ} (h : (entOf f T).2 = (entOf f T').2) : T = T' := by
  simpa [entOf] using h

/-- The lists before the first tile. -/
theorem LaneOK.start (f : ℕ → EReal) {R : Lane} (hR : ∀ j, R j = List.replicate (depth j) (⊥, 0)) : LaneOK f 0 R where
  len j := by simp [hR]
  desc j := by rw [hR]; exact List.pairwise_replicate.2 (.inr le_rfl)
  cnt p hp := ⟨fun _ => 0, le_rfl, le_rfl, le_rfl, fun j => by simp [hR, List.countP_replicate, hp.bot], by simp⟩
  tag j e he h := by
    rw [hR] at he; rw [List.eq_of_mem_replicate he] at h; exact absurd h (lt_irrefl _)
  apart j j' _ a ha b _ h := by
    rw [hR] at ha; rw [List.eq_of_mem_replicate ha] at h; exact absurd h (lt_irrefl _)

theorem sort4_mem (a b c d : Ent) (j : Fin 4) : sort4 a b c d j ∈ [a, b, c, d] :=
  (sort4_perm a b c d).subset (by fin_cases j <;> simp)

theorem sort4_apart {a b c d : Ent} (h : ([a, b, c, d].map Prod.snd).Nodup) {j j' : Fin 4} (hj : j ≠ j') :
    (sort4 a b c d j).2 ≠ (sort4 a b c d j').2 := by
  have h1 := (((sort4_perm a b c d).map Prod.snd).nodup_iff).2 h
  simp only [List.map_cons, List.map_nil, List.nodup_cons, List.mem_cons, List.not_mem_nil, or_false, not_or] at h1
  obtain ⟨⟨h01, h02, h03⟩, ⟨h12, h13⟩, h23, -⟩ := h1
  fin_cases j <;> fin_cases j' <;> first | exact absurd rfl hj | assumption | (symm; assumption) | skip
  all_goals first | exact h01 | exact h02 | exact h03 | exact h12 | exact h13 | exact h23 | exact Ne.symm h01 | exact Ne.symm h02 | exact Ne.symm h03 | exact Ne.symm h12 | exact Ne.symm h13 | exact Ne.symm h23

/-- Four tiles more. -/
theorem LaneOK.step {f : ℕ → EReal} {n : ℕ} {R : Lane} (h : LaneOK f n R) :
    LaneOK f (n + 4) (laneStep R (entOf f n) (entOf f (n + 1)) (entOf f (n + 2)) (entOf f (n + 3))) := by
  have hm : ∀ j, ∃ T, n ≤ T ∧ T < n + 4 ∧ sort4 (entOf f n) (entOf f (n + 1)) (entOf f (n + 2)) (entOf f (n + 3)) j = entOf f T := fun j => by
    have := sort4_mem (entOf f n) (entOf f (n + 1)) (entOf f (n + 2)) (entOf f (n + 3)) j
    simp only [List.mem_cons, List.not_mem_nil, or_false] at this
    rcases this with h | h | h | h
    · exact ⟨n, by omega, by omega, h⟩
    · exact ⟨n + 1, by omega, by omega, h⟩
    · exact ⟨n + 2, by omega, by omega, h⟩
    · exact ⟨n + 3, by omega, by omega, h⟩
  refine ⟨fun j => by rw [laneStep, ins_length, h.len], fun j => (ins_desc _ _ (h.desc j)).1, fun p hp => ?_, fun j e he hv => ?_, fun j j' hj a ha b hb hav hbv => ?_⟩
  · obtain ⟨k, k1, k2, k3, kn, ks⟩ := h.cnt p hp
    have hd := sort4_desc (entOf f n) (entOf f (n + 1)) (entOf f (n + 2)) (entOf f (n + 3))
    have hperm := (sort4_perm (entOf f n) (entOf f (n + 1)) (entOf f (n + 2)) (entOf f (n + 3))).countP_eq fun e => p e.1
    generalize hs : sort4 (entOf f n) (entOf f (n + 1)) (entOf f (n + 2)) (entOf f (n + 3)) = s at hd hperm
    obtain ⟨d1, d2, d3⟩ := hd
    refine ⟨fun j => k j + if p (s j).1 then 1 else 0, ?_, ?_, ?_, fun j => ?_, ?_⟩
    · have := fun hq => hp.mono d1 hq
      dsimp only
      split_ifs with ha hb hb <;> first | omega | (exact absurd (this ha) hb)
    · have := fun hq => hp.mono d2 hq
      dsimp only
      split_ifs with ha hb hb <;> first | omega | (exact absurd (this ha) hb)
    · have := fun hq => hp.mono d3 hq
      dsimp only
      split_ifs with ha hb hb <;> first | omega | (exact absurd (this ha) hb)
    · rw [laneStep, hs, num_ins hp _ _ (h.desc j), h.len, kn j]
      dsimp only
      omega
    · have e : (List.range (n + 4)).countP (fun T => p (f T)) = (List.range n).countP (fun T => p (f T))
          + [entOf f n, entOf f (n + 1), entOf f (n + 2), entOf f (n + 3)].countP fun e => p e.1 := by
        rw [show n + 4 = n + 1 + 1 + 1 + 1 from rfl]
        simp only [List.range_succ, List.countP_append]
        rw [Nat.add_assoc, Nat.add_assoc, Nat.add_assoc, ← List.countP_append, ← List.countP_append, ← List.countP_append]
        congr 1
      rw [e, ← hperm]
      simp only [List.countP_cons, List.countP_nil, Nat.zero_add]
      omega
  · rcases mem_ins he with rfl | he
    · obtain ⟨T, -, hT, he⟩ := hm j
      exact ⟨T, hT, he⟩
    · obtain ⟨T, hT, he⟩ := h.tag j e he hv
      exact ⟨T, by omega, he⟩
  · rcases mem_ins ha with rfl | ha <;> rcases mem_ins hb with rfl | hb
    · refine sort4_apart ?_ hj
      simp [entOf]
      refine ⟨⟨?_, ?_, ?_⟩, ⟨?_, ?_⟩, ?_⟩ <;> norm_cast <;> omega
    · obtain ⟨T, hT, -, he⟩ := hm j
      obtain ⟨T', hT', he'⟩ := h.tag j' b hb hbv
      intro hab
      rw [he, he'] at hab
      have := entOf_snd_inj hab
      omega
    · obtain ⟨T, hT, -, he⟩ := hm j'
      obtain ⟨T', hT', he'⟩ := h.tag j a ha hav
      intro hab
      rw [he, he'] at hab
      have := entOf_snd_inj hab
      omega
    · exact h.apart j j' hj a ha b hb hav hbv

/-- The lists hold as many of an up-set's values as the tiles, or at least eight. -/
theorem LaneOK.enough {f : ℕ → EReal} {n : ℕ} {R : Lane} (h : LaneOK f n R) {p : EReal → Bool} (hp : Up p) :
    (∑ j, num p (R j)) ≤ (List.range n).countP (fun T => p (f T))
    ∧ ((∑ j, num p (R j)) = (List.range n).countP (fun T => p (f T)) ∨ 8 ≤ ∑ j, num p (R j)) := by
  obtain ⟨k, k1, k2, k3, kn, ks⟩ := h.cnt p hp
  rw [Fin.sum_univ_four, kn, kn, kn, kn]
  simp only [depth, Matrix.cons_val_zero, Matrix.cons_val_one, Matrix.cons_val]
  omega

end Cert.Head
-- ==== Proof.RowMath.lean ====
/- The selection on one row: round after round the greatest head is taken and its list moves up. The value
   taken in round `k` is the one with at most `k` values above it and more than `k` not below it. -/
module

public import proofs.«01_k».proof.Proof.LaneMath

@[expose] public section

noncomputable section

namespace Cert.Head

/-- The lists of a row's lanes. -/
abbrev Row := Fin 128 → Lane

/-- A list's head. -/
def hd (R : List Ent) : Ent := R.headD (⊥, 0)

/-- The head's index where its value is `b`, otherwise +inf. -/
def cand (Q : Row) (b : EReal) (l : Fin 128) (j : Fin 4) : EReal :=
  if (hd (Q l j)).1 = b then (hd (Q l j)).2 * ((128 : ℝ) : EReal) + (((l.val : ℕ) : ℝ) : EReal) else ⊤

/-- A list whose head is taken moves up. -/
def popIf (hit : Prop) [Decidable hit] (R : List Ent) : List Ent := if hit then R.tail ++ [(⊥, 0)] else R

/-- What the selection needs of a row's lists. -/
structure RowOK (Q : Row) : Prop where
  ne : ∀ l j, Q l j ≠ []
  desc : ∀ l j, Desc (Q l j)
  tag : ∀ l j, ∀ e ∈ Q l j, ⊥ < e.1 → ∃ T : ℕ, e.2 = ((T : ℝ) : EReal)
  apart : ∀ l j j', j ≠ j' → ∀ a ∈ Q l j, ∀ b ∈ Q l j', ⊥ < a.1 → ⊥ < b.1 → a.2 ≠ b.2

/-- How many of the row's entries have their value in `p`. -/
def total (p : EReal → Bool) (Q : Row) : ℕ := ∑ l, ∑ j, num p (Q l j)

/-- `b` is the greatest head's value, -/
structure IsBest (Q : Row) (b : EReal) : Prop where
  le : ∀ l j, (hd (Q l j)).1 ≤ b
  att : ∃ l j, (hd (Q l j)).1 = b
/-- and `ix` the least index of the heads of that value. -/
structure IsLeast' (Q : Row) (b ix : EReal) : Prop where
  le : ∀ l j, ix ≤ cand Q b l j
  att : ∃ l j, cand Q b l j = ix

theorem hd_mem {R : List Ent} (h : R ≠ []) : hd R ∈ R := by
  cases R with
  | nil => exact absurd rfl h
  | cons a t => exact List.mem_cons_self

theorem le_hd {R : List Ent} (h : Desc R) {e : Ent} (he : e ∈ R) : e.1 ≤ (hd R).1 := by
  cases R with
  | nil => exact absurd he List.not_mem_nil
  | cons a t =>
    rcases List.mem_cons.1 he with rfl | he
    · exact le_rfl
    · exact (List.pairwise_cons.1 h).1 e he

theorem mem_popIf {hit : Prop} [Decidable hit] {R : List Ent} {e : Ent} (h : e ∈ popIf hit R) : e ∈ R ∨ e = (⊥, 0) := by
  unfold popIf at h
  split_ifs at h
  · rcases List.mem_append.1 h with h | h
    · exact .inl (List.mem_of_mem_tail h)
    · exact .inr (List.mem_singleton.1 h)
  · exact .inl h

theorem RowOK.pop {Q : Row} (h : RowOK Q) (hit : Fin 128 → Fin 4 → Prop) [∀ l j, Decidable (hit l j)] :
    RowOK fun l j => popIf (hit l j) (Q l j) where
  ne l j := by unfold popIf; split_ifs; · simp
               · exact h.ne l j
  desc l j := by
    unfold popIf
    split_ifs
    · refine List.pairwise_append.2 ⟨(h.desc l j).sublist (List.tail_sublist _), List.pairwise_singleton _ _, fun a _ b hb => ?_⟩
      rw [List.mem_singleton.1 hb]; exact bot_le
    · exact h.desc l j
  tag l j e he hv := by
    rcases mem_popIf he with he | rfl
    · exact h.tag l j e he hv
    · exact absurd hv (lt_irrefl _)
  apart l j j' hj a ha b hb hav hbv := by
    rcases mem_popIf ha with ha | rfl
    · rcases mem_popIf hb with hb | rfl
      · exact h.apart l j j' hj a ha b hb hav hbv
      · exact absurd hbv (lt_irrefl _)
    · exact absurd hav (lt_irrefl _)

theorem num_popIf {p : EReal → Bool} (hp : Up p) {R : List Ent} (h : R ≠ []) (hit : Prop) [Decidable hit] :
    num p (popIf hit R) + (if hit ∧ p (hd R).1 = true then 1 else 0) = num p R := by
  unfold popIf
  cases R with
  | nil => exact absurd rfl h
  | cons a t =>
    by_cases hh : hit
    · simp [hh, num, hd, List.countP_cons, hp.bot]
    · simp [hh]

/-- A value of the row no head exceeds is not in `p`, if the best is not. -/
theorem total_zero {Q : Row} (h : RowOK Q) {b : EReal} (hb : ∀ l j, (hd (Q l j)).1 ≤ b) {p : EReal → Bool} (hp : Up p)
    (hpb : p b = false) : total p Q = 0 := by
  refine Finset.sum_eq_zero fun l _ => Finset.sum_eq_zero fun j _ => ?_
  refine List.countP_eq_zero.2 fun e he hpe => ?_
  rw [hp.mono ((le_hd (h.desc l j) he).trans (hb l j)) hpe] at hpb
  exact absurd hpb (by decide)

theorem real_idx {T T' l l' : ℕ} (hl : l < 128) (hl' : l' < 128)
    (h : ((T : ℝ) : EReal) * ((128 : ℝ) : EReal) + ((l : ℝ) : EReal) = ((T' : ℝ) : EReal) * ((128 : ℝ) : EReal) + ((l' : ℝ) : EReal)) :
    T = T' ∧ l = l' := by
  rw [← EReal.coe_mul, ← EReal.coe_mul, ← EReal.coe_add, ← EReal.coe_add, EReal.coe_eq_coe_iff] at h
  have h2 : T * 128 + l = T' * 128 + l' := by exact_mod_cast h
  omega

/-- One round: the lists stay in order, and each up-set loses one value if the best lies in it. -/
theorem round_math {Q : Row} (h : RowOK Q) {b ix : EReal} (hb : IsBest Q b) (hi : IsLeast' Q b ix) {Q' : Row}
    (hQ : ∀ l j, Q' l j = popIf (cand Q b l j = ix) (Q l j)) :
    RowOK Q' ∧ ∀ p, Up p → total p Q' + (if p b then 1 else 0) = total p Q ∧ (p b = false → total p Q = 0) := by
  have hQ' : Q' = fun l j => popIf (cand Q b l j = ix) (Q l j) := by funext l j; exact hQ l j
  refine ⟨hQ' ▸ h.pop _, fun p hp => ⟨?_, total_zero h hb.le hp⟩⟩
  have hsum : total p Q' + (∑ l, ∑ j, if cand Q b l j = ix ∧ p (hd (Q l j)).1 = true then 1 else 0) = total p Q := by
    rw [total, total, ← Finset.sum_add_distrib]
    refine Finset.sum_congr rfl fun l _ => ?_
    rw [← Finset.sum_add_distrib]
    refine Finset.sum_congr rfl fun j _ => ?_
    rw [hQ, num_popIf hp (h.ne l j)]
  by_cases hpb : p b = true
  · have hbot : ⊥ < b := by
      rcases eq_or_ne b ⊥ with rfl | hne
      · rw [hp.bot] at hpb; exact absurd hpb (by decide)
      · exact bot_lt_iff_ne_bot.2 hne
    -- a head whose index is taken has the best value
    have top : ix < ⊤ := by
      obtain ⟨l, j, hl⟩ := hb.att
      have hle := hi.le l j
      rw [cand, if_pos hl] at hle
      obtain ⟨T, hT⟩ := h.tag l j _ (hd_mem (h.ne l j)) (by rw [hl]; exact hbot)
      refine lt_of_le_of_lt hle ?_
      rw [hT, ← EReal.coe_mul, ← EReal.coe_add]
      exact EReal.coe_lt_top _
    have val : ∀ l j, cand Q b l j = ix → (hd (Q l j)).1 = b := fun l j hc => by
      by_contra hne
      rw [cand, if_neg hne] at hc
      rw [← hc] at top
      exact absurd top (lt_irrefl _)
    obtain ⟨l0, j0, h0⟩ := hi.att
    have uniq : ∀ l j, cand Q b l j = ix → l = l0 ∧ j = j0 := fun l j hc => by
      have v := val l j hc
      have v0 := val l0 j0 h0
      obtain ⟨T, hT⟩ := h.tag l j _ (hd_mem (h.ne l j)) (by rw [v]; exact hbot)
      obtain ⟨T0, hT0⟩ := h.tag l0 j0 _ (hd_mem (h.ne l0 j0)) (by rw [v0]; exact hbot)
      have hc' := hc
      rw [cand, if_pos v, ← h0, cand, if_pos v0, hT, hT0] at hc'
      obtain ⟨e1, e2⟩ := real_idx l.isLt l0.isLt hc'
      have e2 : l = l0 := Fin.ext e2
      subst e2
      refine ⟨rfl, ?_⟩
      by_contra hne
      exact h.apart l j j0 hne _ (hd_mem (h.ne l j)) _ (hd_mem (h.ne l j0)) (by rw [v]; exact hbot) (by rw [v0]; exact hbot)
        (by rw [hT, hT0, e1])
    have one : (∑ l, ∑ j, if cand Q b l j = ix ∧ p (hd (Q l j)).1 = true then 1 else 0) = 1 := by
      rw [Finset.sum_eq_single l0, Finset.sum_eq_single j0]
      · rw [if_pos ⟨h0, by rw [val _ _ h0]; exact hpb⟩]
      · intro j _ hj
        rw [if_neg fun hc => hj (uniq _ _ hc.1).2]
      · intro hn; exact absurd (Finset.mem_univ _) hn
      · intro l _ hl
        refine Finset.sum_eq_zero fun j _ => ?_
        rw [if_neg fun hc => hl (uniq _ _ hc.1).1]
      · intro hn; exact absurd (Finset.mem_univ _) hn
    rw [one] at hsum
    rw [if_pos hpb]
    exact hsum
  · have hpb : p b = false := by simpa using hpb
    have := total_zero h hb.le hp hpb
    rw [if_neg (by rw [hpb]; decide)]
    omega

/-- `y` has at most `k` values above it and more than `k` not below it, as far as `C` counts them. -/
def IsKth (C : (EReal → Bool) → ℕ) (k : ℕ) (y : EReal) : Prop :=
  ∀ p, Up p → (p y = false → C p ≤ k) ∧ (p y = true → k + 1 ≤ C p)

theorem IsKth.unique {C : (EReal → Bool) → ℕ} {k : ℕ} {y z : EReal} (hy : IsKth C k y) (hz : IsKth C k z) : y = z := by
  classical
  have key : ∀ {a b : EReal}, IsKth C k a → IsKth C k b → ¬ a < b := fun {a b} ha hb hlt => by
    have hp : Up fun v => decide (b ≤ v) := ⟨fun h1 h2 => by simp only [decide_eq_true_eq] at *; exact h2.trans h1,
      by simp only [decide_eq_false_iff_not, not_le]; exact lt_of_le_of_lt bot_le hlt⟩
    have h1 := (ha _ hp).1 (by simpa using hlt)
    have h2 := (hb _ hp).2 (by simp)
    omega
  exact le_antisymm (not_lt.1 (key hz hy)) (not_lt.1 (key hy hz))

/-- The values taken, round after round, are the greatest of the row's entries in order. -/
theorem rounds_math (Q : ℕ → Row) {b ix : ℕ → EReal} (h0 : RowOK (Q 0)) (hb : ∀ k, RowOK (Q k) → IsBest (Q k) (b k))
    (hi : ∀ k, RowOK (Q k) → IsLeast' (Q k) (b k) (ix k)) (hQ : ∀ k l j, Q (k + 1) l j = popIf (cand (Q k) (b k) l j = ix k) (Q k l j))
    (k : ℕ) : IsKth (fun p => total p (Q 0)) k (b k) := by
  have ok : ∀ k, RowOK (Q k) := fun k => by
    induction k with
    | zero => exact h0
    | succ k ih => exact (round_math ih (hb k ih) (hi k ih) (fun l j => hQ k l j)).1
  intro p hp
  have st : ∀ k, total p (Q (k + 1)) + (if p (b k) then 1 else 0) = total p (Q k) ∧ (p (b k) = false → total p (Q k) = 0) := fun k => (round_math (ok k) (hb k (ok k)) (hi k (ok k)) (fun l j => hQ k l j)).2 p hp
  have acc : ∀ k, total p (Q 0) ≤ total p (Q k) + k ∧ (0 < total p (Q k) → total p (Q 0) = total p (Q k) + k) := fun k => by
    induction k with
    | zero => exact ⟨(Nat.add_zero _).ge, fun _ => (Nat.add_zero _).symm⟩
    | succ k ih =>
      obtain ⟨s1, s2⟩ := st k
      by_cases hpb : p (b k) = true
      · rw [if_pos hpb] at s1; omega
      · rw [if_neg hpb] at s1
        have := s2 (by simpa using hpb)
        omega
  obtain ⟨s1, s2⟩ := st k
  obtain ⟨a1, a2⟩ := acc k
  refine ⟨fun hpb => ?_, fun hpb => ?_⟩
  · have := s2 hpb
    dsimp only; omega
  · rw [if_pos hpb] at s1
    have := a2 (by omega)
    dsimp only; omega

/-- A count that agrees with another up to eight has the same greatest values. -/
theorem IsKth.of_enough {C N : (EReal → Bool) → ℕ} {k : ℕ} {y : EReal} (hk : k < 8) (h : IsKth N k y)
    (hN : ∀ p, Up p → N p ≤ C p ∧ (N p = C p ∨ 8 ≤ N p)) : IsKth C k y := fun p hp => by
  obtain ⟨h1, h2⟩ := h p hp
  have := hN p hp
  exact ⟨fun hq => by have := h1 hq; omega, fun hq => by have := h2 hq; omega⟩

theorem sum_enough (N C : Fin 128 → ℕ) (e : ∀ l, N l ≤ C l ∧ (N l = C l ∨ 8 ≤ N l)) :
    (∑ l, N l) ≤ (∑ l, C l) ∧ ((∑ l, N l) = (∑ l, C l) ∨ 8 ≤ ∑ l, N l) := by
  refine ⟨Finset.sum_le_sum fun l _ => (e l).1, ?_⟩
  by_cases hall : ∀ l, N l = C l
  · exact .inl (Finset.sum_congr rfl fun l _ => hall l)
  · obtain ⟨l, hl⟩ := not_forall.1 hall
    exact .inr (((e l).2.resolve_left hl).trans (Finset.single_le_sum (fun _ _ => Nat.zero_le _) (Finset.mem_univ l)))

/-- The lanes' lists give the greatest values of all the lanes' tiles. -/
theorem total_enough {f : Fin 128 → ℕ → EReal} {n : ℕ} {Q : Row} (h : ∀ l, LaneOK (f l) n (Q l)) (p : EReal → Bool) (hp : Up p) :
    total p Q ≤ (∑ l, (List.range n).countP fun T => p (f l T))
    ∧ (total p Q = (∑ l, (List.range n).countP fun T => p (f l T)) ∨ 8 ≤ total p Q) := by
  have e : ∀ l, (∑ j, num p (Q l j)) ≤ (List.range n).countP (fun T => p (f l T))
      ∧ ((∑ j, num p (Q l j)) = (List.range n).countP (fun T => p (f l T)) ∨ 8 ≤ ∑ j, num p (Q l j)) := fun l => LaneOK.enough (h l) hp
  exact sum_enough _ _ e

theorem LaneOK.rowOK {f : Fin 128 → ℕ → EReal} {n : ℕ} {Q : Row} (h : ∀ l, LaneOK (f l) n (Q l)) : RowOK Q where
  ne l j he := by
    have := (h l).len j
    rw [he] at this
    fin_cases j <;> simp [depth] at this
  desc l := (h l).desc
  tag l j e he hv := by
    obtain ⟨T, -, hT⟩ := (h l).tag j e he hv
    exact ⟨T, by rw [hT]; rfl⟩
  apart l := (h l).apart

end Cert.Head
-- ==== Proof.Lists.lean ====
/- The lists of one token and lane as lists of entries: what an insertion, a block of rows, and a round of the
   selection make of them. -/
module

public import proofs.«01_k».proof.Proof.SlotRead
public import proofs.«01_k».proof.Proof.RowMath

@[expose] public section

noncomputable section

namespace Cert.Head

open Idealize.ShloMosaic

/-- The entry of slot `s` at a token and lane. -/
def ent (L : LL Ideal) (n : Fin 256) (l : Fin 128) (s : Fin 16) : Ent :=
  ((L.1 (ix3 s n l) : EReal), (L.2 (ix3 s n l) : EReal))

/-- The `d` entries from slot `s`. -/
def seg (L : LL Ideal) (n : Fin 256) (l : Fin 128) : (d s : Nat) → s + d ≤ 16 → List Ent
  | 0, _, _ => []
  | d + 1, s, h => ent L n l ⟨s, by omega⟩ :: seg L n l d (s + 1) (by omega)

theorem seg_congr {L L' : LL Ideal} {n : Fin 256} {l : Fin 128} : ∀ (d s : Nat) (h : s + d ≤ 16),
    (∀ s' : Fin 16, s ≤ s'.val → s'.val < s + d → ent L n l s' = ent L' n l s') → seg L n l d s h = seg L' n l d s h
  | 0, _, _, _ => rfl
  | d + 1, s, h, H => by
    unfold seg
    rw [H ⟨s, by omega⟩ (le_refl s) (by simp), seg_congr d (s + 1) (by omega) fun s' h1 h2 => H s' (by omega) (by omega)]

/-- The four lists. -/
def lane (L : LL Ideal) (n : Fin 256) (l : Fin 128) : Lane :=
  ![seg L n l 8 0 (by omega), seg L n l 4 8 (by omega), seg L n l 2 12 (by omega), seg L n l 2 14 (by omega)]

theorem lane_congr {L L' : LL Ideal} {n : Fin 256} {l : Fin 128} (H : ∀ s, ent L n l s = ent L' n l s) : lane L n l = lane L' n l := by
  unfold lane
  rw [seg_congr 8 0 _ fun s _ _ => H s, seg_congr 4 8 _ fun s _ _ => H s, seg_congr 2 12 _ fun s _ _ => H s, seg_congr 2 14 _ fun s _ _ => H s]

/-! ## Insertion -/

theorem gt_at {s : Shape} (b a : FVec Ideal s .f32) (j : s.Idx) : cmpf .ogt b a j = 1#1 ↔ (a j : EReal) < b j := by
  rw [ValueIdx.cmpf_apply]
  show Ideal.cmp _ _ _ = 1#1 ↔ _
  by_cases h : (a j : EReal) < b j <;> simp [Ideal.cmp, h]

theorem hi_at (av at' bv bt : FVec Ideal SB .f32) (j : SB.Idx) :
    (((maximumf av bv j : EReal), (hiT av at' bv bt j : EReal)) : Ent) = xhi (av j, at' j) (bv j, bt j) := by
  unfold xhi hiT
  refine Prod.ext rfl ?_
  rw [ValueIdx.select_apply]
  exact if_congr (gt_at _ _ _) rfl rfl

theorem lo_at (av at' bv bt : FVec Ideal SB .f32) (j : SB.Idx) :
    (((minimumf av bv j : EReal), (loT av at' bv bt j : EReal)) : Ent) = xlo (av j, at' j) (bv j, bt j) := by
  unfold xlo loT
  refine Prod.ext rfl ?_
  rw [ValueIdx.select_apply]
  exact if_congr (gt_at _ _ _) rfl rfl

theorem ent_setB (L : LL Ideal) (r : Fin blkLoop.trips) (s : Nat) (hs : s < 16) (v t : FVec Ideal SB .f32) (i : Fin 8) (n : Fin 256) (l : Fin 128)
    (hn : n.val = 8 * r.val + i.val) (s' : Fin 16) :
    ent (setB L.1 r s hs v, setB L.2 r s hs t) n l s' = if s'.val = s then ((v (ix2 i l) : EReal), (t (ix2 i l) : EReal)) else ent L n l s' := by
  unfold ent
  simp only [setB_at _ r s hs _ i s' n l hn]
  split_ifs <;> rfl

theorem ent_insertP_off (r : Fin blkLoop.trips) (n : Fin 256) (l : Fin 128) (hn : n.val / 8 ≠ r.val) (s' : Fin 16) :
    ∀ (d s : Nat) (h : s + d ≤ 16) (xv xt : FVec Ideal SB .f32) (L : LL Ideal), ent (insertP r d s h xv xt L) n l s' = ent L n l s'
  | 0, _, _, _, _, _ => rfl
  | d + 1, s, h, xv, xt, L => by
    unfold insertP
    rw [ent_insertP_off r n l hn s' d]
    unfold ent
    simp only [setB_off _ r s _ _ s' n l hn]

theorem ent_insertP_out (r : Fin blkLoop.trips) (i : Fin 8) (n : Fin 256) (l : Fin 128) (hn : n.val = 8 * r.val + i.val) (s' : Fin 16) :
    ∀ (d s : Nat) (h : s + d ≤ 16) (xv xt : FVec Ideal SB .f32) (L : LL Ideal), (s'.val < s ∨ s + d ≤ s'.val) →
      ent (insertP r d s h xv xt L) n l s' = ent L n l s'
  | 0, _, _, _, _, _, _ => rfl
  | d + 1, s, h, xv, xt, L, hs => by
    unfold insertP
    rw [ent_insertP_out r i n l hn s' d _ _ _ _ _ (by omega), ent_setB L r s _ _ _ i n l hn, if_neg (by omega)]

/-- An insertion into the list at `s`. -/
theorem seg_insertP (r : Fin blkLoop.trips) (i : Fin 8) (n : Fin 256) (l : Fin 128) (hn : n.val = 8 * r.val + i.val) :
    ∀ (d s : Nat) (h : s + d ≤ 16) (xv xt : FVec Ideal SB .f32) (L : LL Ideal),
      seg (insertP r d s h xv xt L) n l d s h = ins (seg L n l d s h) ((xv (ix2 i l) : EReal), (xt (ix2 i l) : EReal))
  | 0, _, _, _, _, _ => rfl
  | d + 1, s, h, xv, xt, L => by
    have e1 : (blk L.1 r s (by omega) (ix2 i l) : EReal) = (ent L n l ⟨s, by omega⟩).1 := blk_at L.1 r s _ i l n hn
    have e2 : (blk L.2 r s (by omega) (ix2 i l) : EReal) = (ent L n l ⟨s, by omega⟩).2 := blk_at L.2 r s _ i l n hn
    unfold insertP seg ins
    rw [ent_insertP_out r i n l hn _ d _ _ _ _ _ (.inl (Nat.lt_succ_self s)), ent_setB L r s _ _ _ i n l hn, if_pos rfl, seg_insertP r i n l hn d (s + 1),
      hi_at, lo_at, e1, e2]
    congr 2
    exact seg_congr d (s + 1) _ fun s' h1 h2 => by rw [ent_setB L r s _ _ _ i n l hn, if_neg (by omega)]

theorem seg_insertP_out (r : Fin blkLoop.trips) (i : Fin 8) (n : Fin 256) (l : Fin 128) (hn : n.val = 8 * r.val + i.val)
    (d s : Nat) (h : s + d ≤ 16) (xv xt : FVec Ideal SB .f32) (L : LL Ideal) (d' s' : Nat) (h' : s' + d' ≤ 16) (ho : s' + d' ≤ s ∨ s + d ≤ s') :
    seg (insertP r d s h xv xt L) n l d' s' h' = seg L n l d' s' h' :=
  seg_congr d' s' h' fun q h1 h2 => ent_insertP_out r i n l hn q d s h xv xt L (by omega)

/-- The four insertions. -/
theorem lane_insert4P (r : Fin blkLoop.trips) (i : Fin 8) (n : Fin 256) (l : Fin 128) (hn : n.val = 8 * r.val + i.val) (L : LL Ideal)
    (p0v p0t p1v p1t p2v p2t p3v p3t : FVec Ideal SB .f32) (q : Fin 4 → Ent)
    (h0 : q 0 = ((p0v (ix2 i l) : EReal), (p0t (ix2 i l) : EReal))) (h1 : q 1 = ((p1v (ix2 i l) : EReal), (p1t (ix2 i l) : EReal)))
    (h2 : q 2 = ((p2v (ix2 i l) : EReal), (p2t (ix2 i l) : EReal))) (h3 : q 3 = ((p3v (ix2 i l) : EReal), (p3t (ix2 i l) : EReal))) :
    lane (insert4P r L p0v p0t p1v p1t p2v p2t p3v p3t) n l = fun j => ins (lane L n l j) (q j) := by
  funext j
  unfold insert4P lane
  fin_cases j <;> simp only [Fin.zero_eta, Fin.mk_one, Fin.reduceFinMk, Matrix.cons_val_zero, Matrix.cons_val_one, Matrix.cons_val, h0, h1, h2, h3]
  · rw [seg_insertP_out r i n l hn, seg_insertP_out r i n l hn, seg_insertP_out r i n l hn, seg_insertP r i n l hn] <;> omega
  · rw [seg_insertP_out r i n l hn, seg_insertP_out r i n l hn, seg_insertP r i n l hn, seg_insertP_out r i n l hn] <;> omega
  · rw [seg_insertP_out r i n l hn, seg_insertP r i n l hn, seg_insertP_out r i n l hn, seg_insertP_out r i n l hn] <;> omega
  · rw [seg_insertP r i n l hn, seg_insertP_out r i n l hn, seg_insertP_out r i n l hn, seg_insertP_out r i n l hn] <;> omega

/-- The ranking and the four insertions. -/
theorem lane_rank4 (r : Fin blkLoop.trips) (i : Fin 8) (n : Fin 256) (l : Fin 128) (hn : n.val = 8 * r.val + i.val) (L : LL Ideal)
    (av at' bv bt cv ct dv dt : FVec Ideal SB .f32) :
    lane (rank4 av at' bv bt cv ct dv dt (insert4P r L)) n l
      = laneStep (lane L n l) (av (ix2 i l), at' (ix2 i l)) (bv (ix2 i l), bt (ix2 i l)) (cv (ix2 i l), ct (ix2 i l)) (dv (ix2 i l), dt (ix2 i l)) := by
  unfold rank4 rank4b laneStep
  refine lane_insert4P r i n l hn L _ _ _ _ _ _ _ _ _ ?_ ?_ ?_ ?_ <;>
    simp only [sort4, Matrix.cons_val_zero, Matrix.cons_val_one, Matrix.cons_val, hi_at, lo_at]

theorem lane_rank4_off (r : Fin blkLoop.trips) (n : Fin 256) (l : Fin 128) (hn : n.val / 8 ≠ r.val) (L : LL Ideal)
    (av at' bv bt cv ct dv dt : FVec Ideal SB .f32) : lane (rank4 av at' bv bt cv ct dv dt (insert4P r L)) n l = lane L n l := by
  unfold rank4 rank4b insert4P
  exact lane_congr fun s => by simp only [ent_insertP_off r n l hn]

/-! ## One round -/

theorem ent_setS (L : LL Ideal) (s : Nat) (hs : s < 16) (v t : FVec Ideal ST .f32) (n : Fin 256) (l : Fin 128) (s' : Fin 16) :
    ent (setS L.1 s hs v, setS L.2 s hs t) n l s' = if s'.val = s then ((v (ix2 n l) : EReal), (t (ix2 n l) : EReal)) else ent L n l s' := by
  unfold ent
  simp only [setS_at]
  split_ifs <;> rfl

theorem ent_popMidP (hit : IVec ST 1) (L : LL Ideal) (s : Nat) (hs : s + 1 < 16) (n : Fin 256) (l : Fin 128) (s' : Fin 16) :
    ent (popMidP hit s hs L) n l s' = if s'.val = s ∧ hit (ix2 n l) = 1#1 then ent L n l ⟨s + 1, hs⟩ else ent L n l s' := by
  unfold popMidP
  rw [ent_setS]
  simp only [ValueIdx.select_apply, slot_at]
  by_cases h : s'.val = s
  · subst h
    by_cases h1 : hit (ix2 n l) = 1#1 <;> simp [h1, ent, Scalar.select]
  · simp [h]

theorem ninf : (Ideal.ofBits .f32 0xFF800000#32 : EReal) = ⊥ := by
  simp [Ideal.ofBits, FTy.f32, Ideal.ieee]
theorem zero32 : (Ideal.ofBits .f32 0x00000000#32 : EReal) = 0 := by
  simp [Ideal.ofBits, FTy.f32, Ideal.ieee]

theorem ent_popLastP (hit : IVec ST 1) (L : LL Ideal) (s : Nat) (hs : s < 16) (n : Fin 256) (l : Fin 128) (s' : Fin 16) :
    ent (popLastP hit s hs L) n l s' = if s'.val = s ∧ hit (ix2 n l) = 1#1 then (⊥, 0) else ent L n l s' := by
  unfold popLastP
  rw [ent_setS]
  simp only [ValueIdx.select_apply, slot_at, ValueIdx.broadcast_apply]
  by_cases h : s'.val = s
  · subst h
    by_cases h1 : hit (ix2 n l) = 1#1
    · simp only [h1, Scalar.select, if_true, true_and]
      exact Prod.ext ninf zero32
    · simp [h1, ent, Scalar.select]
  · simp [h]

theorem ent_popListP_out (hit : IVec ST 1) (n : Fin 256) (l : Fin 128) (s' : Fin 16) :
    ∀ (d s : Nat) (h : s + d < 16) (L : LL Ideal), (s'.val < s ∨ s + d < s'.val) → ent (popListP hit d s h L) n l s' = ent L n l s'
  | 0, s, h, L, hs => by unfold popListP; rw [ent_popLastP, if_neg (by omega)]
  | d + 1, s, h, L, hs => by
    unfold popListP
    rw [ent_popListP_out hit n l s' d (s + 1) _ _ (by omega), ent_popMidP, if_neg (by omega)]

/-- The list at `s` moves up where it is hit. -/
theorem seg_popListP (hit : IVec ST 1) (n : Fin 256) (l : Fin 128) : ∀ (d s : Nat) (h : s + d < 16) (L : LL Ideal),
    seg (popListP hit d s h L) n l (d + 1) s (by omega) = popIf (hit (ix2 n l) = 1#1) (seg L n l (d + 1) s (by omega))
  | 0, s, h, L => by
    unfold popListP seg seg popIf
    rw [ent_popLastP]
    by_cases h1 : hit (ix2 n l) = 1#1 <;> simp [h1]
  | d + 1, s, h, L => by
    have hseg : seg (popMidP hit s (by omega) L) n l (d + 1) (s + 1) (by omega) = seg L n l (d + 1) (s + 1) (by omega) :=
      seg_congr (d + 1) (s + 1) _ fun s' h1 h2 => by rw [ent_popMidP, if_neg (by omega)]
    rw [seg]
    unfold popListP
    rw [seg_popListP hit n l d (s + 1) (by omega), hseg, ent_popListP_out hit n l _ d (s + 1) _ _ (.inl (Nat.lt_succ_self s)), ent_popMidP]
    conv_rhs => rw [seg]
    by_cases h1 : hit (ix2 n l) = 1#1
    · simp [h1, popIf, seg]
    · simp [h1, popIf]

theorem seg_popListP_out (hit : IVec ST 1) (n : Fin 256) (l : Fin 128) (d s : Nat) (h : s + d < 16) (L : LL Ideal)
    (d' s' : Nat) (h' : s' + d' ≤ 16) (ho : s' + d' ≤ s ∨ s + d < s') : seg (popListP hit d s h L) n l d' s' h' = seg L n l d' s' h' :=
  seg_congr d' s' h' fun q h1 h2 => ent_popListP_out hit n l q d s h L (by omega)

end Cert.Head
-- ==== Proof.Rounds.lean ====
/- The selection's rounds, read row by row: the value of round `k` is the row's `k`-th greatest. -/
module

public import proofs.«01_k».proof.Proof.Lists
public import Idealize.ShloMosaic.Lib.ValueLayoutCasts
public import Idealize.ShloMosaic.Lib.WordCmp

@[expose] public section

noncomputable section

namespace Cert.Head

open Idealize.ShloMosaic

/-- The row of lists of token `n`. -/
def rowL (L : LL Ideal) (n : Fin 256) : Row := fun l => lane L n l

theorem c128 : (Ideal.ofBits .f32 0x43000000#32 : EReal) = ((128 : ℝ) : EReal) := by
  simp [Ideal.ofBits, Ideal.ieee]
  norm_num
  refine (EReal.coe_mul _ _).symm.trans ?_
  norm_num
theorem pinf : (Ideal.ofBits .f32 0x7F800000#32 : EReal) = ⊤ := by
  simp [Ideal.ofBits, Ideal.ieee]

theorem laneF_at (n : Fin 256) (l : Fin 128) : (laneF (F := Ideal) (ix2 n l) : EReal) = ((l.val : ℝ) : EReal) := by
  unfold laneF laneI
  rw [ValueIdx.sitofp_apply]
  have h : (iota .tc ST 32 [1] iotaT (ix2 n l)) = BitVec.ofNat 32 l.val := by
    show BitVec.ofNat 32 (0 * 128 + l.val) = _
    simp
  rw [h]
  show (((BitVec.ofNat 32 l.val).toInt : ℝ) : EReal) = _
  congr 1
  have : (BitVec.ofNat 32 l.val).toInt = (l.val : ℤ) := by
    have := l.isLt
    rw [BitVec.toInt_eq_toNat_of_lt] <;> simp <;> omega
  rw [this]; simp

theorem idxOf_at (x : FVec Ideal ST .f32) (n : Fin 256) (l : Fin 128) :
    (idxOf x (ix2 n l) : EReal) = x (ix2 n l) * ((128 : ℝ) : EReal) + ((l.val : ℝ) : EReal) := by
  show (x (ix2 n l) : EReal) * Ideal.ofBits .f32 0x43000000#32 + laneF (F := Ideal) (ix2 n l) = _
  rw [c128, laneF_at]

theorem bcast_at {α : Type} (x : SC.Idx → α) (n : Fin 256) (l : Fin 128) : broadcastTo ST x bcCT (ix2 n l) = x (ix2 n (0 : Fin 1)) := by
  pointwise

theorem eq_at {s : Shape} (b a : FVec Ideal s .f32) (j : s.Idx) : cmpf .oeq b a j = 1#1 ↔ (b j : EReal) = a j := by
  rw [ValueIdx.cmpf_apply]
  show Ideal.cmp _ _ _ = 1#1 ↔ _
  by_cases h : (b j : EReal) = a j <;> simp [Ideal.cmp, h]

theorem whereOf_at (h i : FVec Ideal ST .f32) (b : FVec Ideal SC .f32) (n : Fin 256) (l : Fin 128) :
    (whereOf h i b (ix2 n l) : EReal) = if (h (ix2 n l) : EReal) = b (ix2 n (0 : Fin 1)) then (i (ix2 n l) : EReal) else ⊤ := by
  unfold whereOf
  rw [ValueIdx.select_apply]
  refine (if_congr (eq_at _ _ _) rfl rfl).trans ?_
  rw [bcast_at]
  exact if_congr Iff.rfl rfl pinf

theorem hitOf_at (w : FVec Ideal ST .f32) (x : FVec Ideal SC .f32) (n : Fin 256) (l : Fin 128) :
    hitOf w x (ix2 n l) = 1#1 ↔ (w (ix2 n l) : EReal) = x (ix2 n (0 : Fin 1)) := by
  unfold hitOf
  rw [eq_at, bcast_at]

theorem bestOf_at (a b c d : FVec Ideal ST .f32) (n : Fin 256) :
    (bestOf a b c d (ix2 n (0 : Fin 1)) : EReal)
      = (Finset.univ : Finset (Fin 128)).fold max (⊥ : EReal) fun l => max (max (max (a (ix2 n l) : EReal) (b (ix2 n l))) (c (ix2 n l))) (d (ix2 n l)) := by
  unfold bestOf
  refine (ValueIdx.shapeCast_a_a1_apply _ _ _ _).trans ?_
  refine (multiReduction_maximumf_eq_fold _ _ _ _ _ _).trans ?_
  rw [Shape.Reduces.fold_fiber_r2_a1]
  exact congrArg (fun z : EReal => Finset.univ.fold max z fun l : Fin 128 => max (max (max (a (ix2 n l) : EReal) (b (ix2 n l))) (c (ix2 n l))) (d (ix2 n l))) ninf

theorem leastOf_at (a b c d : FVec Ideal ST .f32) (n : Fin 256) :
    (leastOf a b c d (ix2 n (0 : Fin 1)) : EReal)
      = (Finset.univ : Finset (Fin 128)).fold min (⊤ : EReal) fun l => min (min (min (a (ix2 n l) : EReal) (b (ix2 n l))) (c (ix2 n l))) (d (ix2 n l)) := by
  unfold leastOf
  refine (ValueIdx.shapeCast_a_a1_apply _ _ _ _).trans ?_
  refine (multiReduction_minimumf_eq_fold _ _ _ _ _ _).trans ?_
  rw [Shape.Reduces.fold_fiber_r2_a1]
  exact congrArg (fun z : EReal => Finset.univ.fold min z fun l : Fin 128 => min (min (min (a (ix2 n l) : EReal) (b (ix2 n l))) (c (ix2 n l))) (d (ix2 n l))) pinf

theorem fold_max_spec (g : Fin 128 → EReal) :
    (∀ l, g l ≤ Finset.univ.fold max (⊥ : EReal) g) ∧ ∃ l, g l = Finset.univ.fold max (⊥ : EReal) g := by
  have e : Finset.univ.fold max (⊥ : EReal) g = Finset.univ.sup g := rfl
  rw [e]
  refine ⟨fun l => Finset.le_sup (Finset.mem_univ l), ?_⟩
  obtain ⟨l, -, h⟩ := Finset.exists_mem_eq_sup Finset.univ (Finset.univ_nonempty (α := Fin 128)) g
  exact ⟨l, h.symm⟩

theorem fold_min_spec (g : Fin 128 → EReal) :
    (∀ l, Finset.univ.fold min (⊤ : EReal) g ≤ g l) ∧ ∃ l, g l = Finset.univ.fold min (⊤ : EReal) g := by
  have e : Finset.univ.fold min (⊤ : EReal) g = Finset.univ.inf g := rfl
  rw [e]
  refine ⟨fun l => Finset.inf_le (Finset.mem_univ l), ?_⟩
  obtain ⟨l, -, h⟩ := Finset.exists_mem_eq_inf Finset.univ (Finset.univ_nonempty (α := Fin 128)) g
  exact ⟨l, h.symm⟩

theorem max4_spec (a : Fin 4 → EReal) : (∀ j, a j ≤ max (max (max (a 0) (a 1)) (a 2)) (a 3)) ∧ ∃ j, a j = max (max (max (a 0) (a 1)) (a 2)) (a 3) := by
  refine ⟨fun j => by fin_cases j <;> simp, ?_⟩
  rcases max_choice (max (max (a 0) (a 1)) (a 2)) (a 3) with h | h
  · rcases max_choice (max (a 0) (a 1)) (a 2) with h2 | h2
    · rcases max_choice (a 0) (a 1) with h3 | h3
      · exact ⟨0, by rw [h, h2, h3]⟩
      · exact ⟨1, by rw [h, h2, h3]⟩
    · exact ⟨2, by rw [h, h2]⟩
  · exact ⟨3, by rw [h]⟩

theorem min4_spec (a : Fin 4 → EReal) : (∀ j, min (min (min (a 0) (a 1)) (a 2)) (a 3) ≤ a j) ∧ ∃ j, a j = min (min (min (a 0) (a 1)) (a 2)) (a 3) := by
  refine ⟨fun j => by fin_cases j <;> simp, ?_⟩
  rcases min_choice (min (min (a 0) (a 1)) (a 2)) (a 3) with h | h
  · rcases min_choice (min (a 0) (a 1)) (a 2) with h2 | h2
    · rcases min_choice (a 0) (a 1) with h3 | h3
      · exact ⟨0, by rw [h, h2, h3]⟩
      · exact ⟨1, by rw [h, h2, h3]⟩
    · exact ⟨2, by rw [h, h2]⟩
  · exact ⟨3, by rw [h]⟩

/-- The slot of a list's head. -/
def front : Fin 4 → Fin 16 := ![0, 8, 12, 14]

theorem hd_lane (L : LL Ideal) (n : Fin 256) (l : Fin 128) (j : Fin 4) : hd (lane L n l j) = ent L n l (front j) := by
  fin_cases j <;> rfl

/-- The row's best head. -/
theorem isBest_bestP (L : LL Ideal) (n : Fin 256) : IsBest (rowL L n) (bestP L (ix2 n (0 : Fin 1))) := by
  have e : (bestP L (ix2 n (0 : Fin 1)) : EReal) = (Finset.univ : Finset (Fin 128)).fold max (⊥ : EReal)
      fun l => max (max (max (ent L n l (front 0)).1 (ent L n l (front 1)).1) (ent L n l (front 2)).1) (ent L n l (front 3)).1 := by
    unfold bestP
    rw [bestOf_at]
    simp only [slot_at]
    rfl
  obtain ⟨h1, l0, h2⟩ := fold_max_spec fun l => max (max (max (ent L n l (front 0)).1 (ent L n l (front 1)).1) (ent L n l (front 2)).1) (ent L n l (front 3)).1
  rw [← e] at h1 h2
  refine ⟨fun l j => ?_, ?_⟩
  · unfold rowL; rw [hd_lane]
    exact ((max4_spec fun j => (ent L n l (front j)).1).1 j).trans (h1 l)
  · obtain ⟨j, hj⟩ := (max4_spec fun j => (ent L n l0 (front j)).1).2
    exact ⟨l0, j, by unfold rowL; rw [hd_lane]; exact hj.trans h2⟩

theorem whereP_at (L : LL Ideal) (n : Fin 256) (l : Fin 128) (j : Fin 4) :
    (whereP L (front j).val (front j).isLt (ix2 n l) : EReal) = cand (rowL L n) (bestP L (ix2 n (0 : Fin 1))) l j := by
  unfold whereP cand rowL
  rw [whereOf_at, idxOf_at, slot_at, slot_at, hd_lane]
  rfl

/-- The least index of a best head. -/
theorem isLeast_leastP (L : LL Ideal) (n : Fin 256) :
    IsLeast' (rowL L n) (bestP L (ix2 n (0 : Fin 1))) (leastP L (ix2 n (0 : Fin 1))) := by
  have e : (leastP L (ix2 n (0 : Fin 1)) : EReal) = (Finset.univ : Finset (Fin 128)).fold min (⊤ : EReal)
      fun l => min (min (min (cand (rowL L n) (bestP L (ix2 n (0 : Fin 1))) l 0) (cand (rowL L n) (bestP L (ix2 n (0 : Fin 1))) l 1))
        (cand (rowL L n) (bestP L (ix2 n (0 : Fin 1))) l 2)) (cand (rowL L n) (bestP L (ix2 n (0 : Fin 1))) l 3) := by
    unfold leastP
    rw [leastOf_at]
    simp only [← whereP_at]
    rfl
  obtain ⟨h1, l0, h2⟩ := fold_min_spec fun l => min (min (min (cand (rowL L n) (bestP L (ix2 n (0 : Fin 1))) l 0) (cand (rowL L n) (bestP L (ix2 n (0 : Fin 1))) l 1))
        (cand (rowL L n) (bestP L (ix2 n (0 : Fin 1))) l 2)) (cand (rowL L n) (bestP L (ix2 n (0 : Fin 1))) l 3)
  rw [← e] at h1 h2
  refine ⟨fun l j => (h1 l).trans ((min4_spec fun j => cand (rowL L n) (bestP L (ix2 n (0 : Fin 1))) l j).1 j), ?_⟩
  obtain ⟨j, hj⟩ := (min4_spec fun j => cand (rowL L n) (bestP L (ix2 n (0 : Fin 1))) l0 j).2
  exact ⟨l0, j, hj.trans h2⟩

/-- The lists after a round: the one that is hit has moved up. -/
theorem lane_roundP (L : LL Ideal) (n : Fin 256) (l : Fin 128) (j : Fin 4) :
    rowL (roundP L) n l j = @popIf (cand (rowL L n) (bestP L (ix2 n (0 : Fin 1))) l j = leastP L (ix2 n (0 : Fin 1))) (Classical.propDecidable _) (rowL L n l j) := by
  have key : ∀ j : Fin 4, hitOf (whereP L (front j).val (front j).isLt) (leastP L) (ix2 n l) = 1#1
      ↔ cand (rowL L n) (bestP L (ix2 n (0 : Fin 1))) l j = leastP L (ix2 n (0 : Fin 1)) := fun j => by
    rw [hitOf_at, whereP_at]
  have fin : ∀ (R R' : List Ent), R' = popIf (hitOf (whereP L (front j).val (front j).isLt) (leastP L) (ix2 n l) = 1#1) R →
      R' = @popIf (cand (rowL L n) (bestP L (ix2 n (0 : Fin 1))) l j = leastP L (ix2 n (0 : Fin 1))) (Classical.propDecidable _) R := by
    rintro R R' rfl
    unfold popIf
    by_cases h : hitOf (whereP L (front j).val (front j).isLt) (leastP L) (ix2 n l) = 1#1
    · rw [if_pos h, if_pos ((key j).1 h)]
    · rw [if_neg h, if_neg fun q => h ((key j).2 q)]
  refine fin _ _ ?_
  unfold rowL lane roundP
  fin_cases j <;> simp only [Fin.zero_eta, Fin.mk_one, Fin.reduceFinMk, Matrix.cons_val_zero, Matrix.cons_val_one, Matrix.cons_val]
  · rw [seg_popListP_out _ n l 1 14, seg_popListP_out _ n l 1 12, seg_popListP_out _ n l 3 8, seg_popListP _ n l 7 0]; · rfl
    all_goals omega
  · rw [seg_popListP_out _ n l 1 14, seg_popListP_out _ n l 1 12, seg_popListP _ n l 3 8, seg_popListP_out _ n l 7 0]; · rfl
    all_goals omega
  · rw [seg_popListP_out _ n l 1 14, seg_popListP _ n l 1 12, seg_popListP_out _ n l 3 8, seg_popListP_out _ n l 7 0]; · rfl
    all_goals omega
  · rw [seg_popListP _ n l 1 14, seg_popListP_out _ n l 1 12, seg_popListP_out _ n l 3 8, seg_popListP_out _ n l 7 0]; · rfl
    all_goals omega

/-- The lists before round `k`. -/
def roundN (L : LL Ideal) : Nat → LL Ideal
  | 0 => L
  | k + 1 => roundP (roundN L k)

/-- The value of round `k` is the `k`-th greatest of the row's lists. -/
theorem isKth_round (L : LL Ideal) (n : Fin 256) (h0 : RowOK (rowL L n)) (k : Nat) :
    IsKth (fun p => total p (rowL L n)) k (bestP (roundN L k) (ix2 n (0 : Fin 1))) := by
  refine rounds_math (fun k => rowL (roundN L k) n) (b := fun k => bestP (roundN L k) (ix2 n (0 : Fin 1)))
    (ix := fun k => leastP (roundN L k) (ix2 n (0 : Fin 1))) h0 (fun k _ => isBest_bestP _ n) (fun k _ => isLeast_leastP _ n) (fun k l j => ?_) k
  refine (lane_roundP (roundN L k) n l j).trans ?_
  unfold popIf
  split_ifs <;> rfl

theorem roundN_add (L : LL Ideal) (k : Nat) : roundN (roundP L) k = roundN L (k + 1) := by
  induction k with
  | zero => rfl
  | succ k ih => simp only [roundN] at ih ⊢; rw [ih]

theorem putLane_at (k : Nat) (hk : k < 128) (x : FVec Ideal SC .f32) (o : FVec Ideal ST .f32) (n : Fin 256) (l : Fin 128) :
    putLane (BitVec.ofNat 32 k) x o (ix2 n l) = if l.val = k then x (ix2 n (0 : Fin 1)) else o (ix2 n l) := by
  unfold putLane
  rw [ValueIdx.select_apply, bcast_at, shapeCast_self]
  refine if_congr ?_ rfl rfl
  have h : (laneI (ix2 n l)) = BitVec.ofNat 32 l.val := by
    unfold laneI
    show BitVec.ofNat 32 (0 * 128 + l.val) = _
    simp
  show Scalar.cmpi .eq (laneI (ix2 n l)) (BitVec.ofNat 32 k) = 1#1 ↔ _
  rw [h]
  have hl := l.isLt
  have e : BitVec.ofNat 32 l.val = BitVec.ofNat 32 k ↔ l.val = k := by
    constructor
    · intro h
      have := congrArg BitVec.toNat h
      simp only [BitVec.toNat_ofNat] at this
      omega
    · rintro rfl; rfl
  rw [← e]
  show BitVec.ofBool (BitVec.ofNat 32 l.val == BitVec.ofNat 32 k) = 1#1 ↔ _
  by_cases q : BitVec.ofNat 32 l.val = BitVec.ofNat 32 k
  · simp [q]
  · rw [beq_eq_false_iff_ne.2 q]
    simp [q]

theorem roundsV_at (n : Fin 256) (l : Fin 128) : ∀ (m k : Nat) (hk : k + m ≤ 128) (o : FVec Ideal ST .f32) (L : LL Ideal),
    roundsV m k o L (ix2 n l) = if k ≤ l.val ∧ l.val < k + m then bestP (roundN L (l.val - k)) (ix2 n (0 : Fin 1)) else o (ix2 n l)
  | 0, k, _, o, L => by unfold roundsV; rw [if_neg (by omega)]
  | m + 1, k, hk, o, L => by
    unfold roundsV
    rw [roundsV_at n l m (k + 1) (by omega), putLane_at k (by omega), roundN_add]
    by_cases h : l.val = k
    · rw [if_neg (by omega), if_pos h, if_pos (by omega), h, Nat.sub_self]; rfl
    · by_cases h2 : k ≤ l.val ∧ l.val < k + (m + 1)
      · rw [if_pos (by omega), if_pos h2, show l.val - (k + 1) + 1 = l.val - k by omega]
      · rw [if_neg (by omega), if_neg h, if_neg h2]

theorem selV_at (L : LL Ideal) (q : Fin 8) (n : Fin 256) : selV L (ix2 q n) = bestP (roundN L q.val) (ix2 n (0 : Fin 1)) := by
  unfold selV rowsO
  have e : ∀ x : FVec Ideal ST .f32, extractStridedSlice SO ![0, 0] (transpose STt [1, 0] x trT) slO (ix2 q n) = x (ix2 n ⟨q.val, by omega⟩) := fun x => by
    pointwise
  refine (e _).trans ?_
  rw [roundsV_at n _ 8 0 (by omega), if_pos ⟨Nat.zero_le _, by simp⟩]
  rfl

/-- The value selected at place `q` of token `n` is the `q`-th greatest of the token's lists. -/
theorem isKth_selV (L : LL Ideal) (q : Fin 8) (n : Fin 256) (h0 : RowOK (rowL L n)) :
    IsKth (fun p => total p (rowL L n)) q.val (selV L (ix2 q n)) := by
  rw [selV_at]
  exact isKth_round L n h0 q.val

end Cert.Head
-- ==== Proof.Groups.lean ====
/- The quantiser's outputs read group by group; and what the buffers held before shows nowhere. -/
module

public import proofs.«01_k».proof.Proof.BodyRun
public import proofs.«01_k».proof.Proof.Rounds

@[expose] public section

noncomputable section

namespace Cert.Head

open Idealize.ShloMosaic

/-- Feature `l` of group `q`. -/
abbrev feat (q : Fin 28) (l : Fin 128) : Fin 3584 := ⟨128 * q.val + l.val, by omega⟩

theorem feat_of (k : Fin 3584) : ∃ q l, k = feat q l :=
  ⟨⟨k.val / 128, by omega⟩, ⟨k.val % 128, by omega⟩, Fin.ext (by simp only [feat]; omega)⟩

variable {F : FTy → Type} [FloatOps F]

theorem put_grp {α : EltTy} (g : Nat) (hg : g < 28) (v : Vec F ST α) (C : Vec F SX α) (r : Fin 256) (q : Fin 28) (l : Fin 128) :
    put (grpR hg) v C (ix2 r (feat q l)) = if q.val = g then v (ix2 r l) else C (ix2 r (feat q l)) := by
  split_ifs with h
  · have he : (ix2 r (feat q l) : SX.Idx) = (grpR hg).emb (ix2 r l) := by
      funext a
      apply Fin.ext
      rw [Rect.emb_apply]
      fin_cases a <;> simp [grpR, Rect.unit, h]
    rw [he, put_emb]
  · refine put_miss _ _ _ _ fun x hx => h ?_
    have h0 := congrArg (fun y : SX.Idx => (y 1).val) hx
    simp only [Rect.emb_apply] at h0
    have := (x 1).isLt
    simp [grpR, Rect.unit] at h0 this
    omega

theorem grp_at {α : EltTy} (X : Vec F SX α) (q : Fin 28) (r : Fin 256) (l : Fin 128) :
    under (grpR q.isLt) X (ix2 r l) = X (ix2 r (feat q l)) := by
  unfold under
  congr 1
  funext a
  apply Fin.ext
  rw [Rect.emb_apply]
  fin_cases a <;> simp [grpR, Rect.unit]

theorem codesP_at (X : Vec F SX .bf16) (r : Fin 256) (q : Fin 28) (l : Fin 128) : ∀ (n g : Nat) (h : g + n = 28) (C : Vec F SX .fp8e4m3),
    codesP X n g h C (ix2 r (feat q l)) = if g ≤ q.val then codesOf (grpX X q.val q.isLt) (grpE X q.val q.isLt) (ix2 r l) else C (ix2 r (feat q l))
  | 0, g, h, C => by unfold codesP; rw [if_neg (by omega)]
  | n + 1, g, h, C => by
    unfold codesP
    rw [codesP_at X r q l n (g + 1)]
    by_cases h1 : q.val = g
    · subst h1
      rw [if_neg (by omega), if_pos le_rfl]
      exact (put_grp _ _ _ _ _ _ _).trans (if_pos rfl)
    · by_cases h2 : g ≤ q.val
      · rw [if_pos (by omega), if_pos h2]
      · rw [if_neg (by omega), if_neg h2]
        exact (put_grp _ _ _ _ _ _ _).trans (if_neg h1)

theorem xbP_at (X : Vec F SX .bf16) (r : Fin 256) (q : Fin 28) (l : Fin 128) : ∀ (n g : Nat) (h : g + n = 28) (B : Vec F SX .bf16),
    xbP X n g h B (ix2 r (feat q l)) = if g ≤ q.val then xbOf (grpX X q.val q.isLt) (grpE X q.val q.isLt) (ix2 r l) else B (ix2 r (feat q l))
  | 0, g, h, B => by unfold xbP; rw [if_neg (by omega)]
  | n + 1, g, h, B => by
    unfold xbP
    rw [xbP_at X r q l n (g + 1)]
    by_cases h1 : q.val = g
    · subst h1
      rw [if_neg (by omega), if_pos le_rfl]
      refine (put_grp _ _ _ _ _ _ _).trans ((if_pos rfl).trans ?_)
      rw [shapeCast_self]
    · by_cases h2 : g ≤ q.val
      · rw [if_pos (by omega), if_pos h2]
      · rw [if_neg (by omega), if_neg h2]
        exact (put_grp _ _ _ _ _ _ _).trans (if_neg h1)

/-- A group's codes, -/
theorem codesF_at (X : Vec F SX .bf16) (C : Vec F SX .fp8e4m3) (r : Fin 256) (q : Fin 28) (l : Fin 128) :
    codesF X C (ix2 r (feat q l)) = codesOf (grpX X q.val q.isLt) (grpE X q.val q.isLt) (ix2 r l) := by
  rw [codesF, codesP_at, if_pos (Nat.zero_le _)]
/-- and its dequantised features. -/
theorem xbF_at (X : Vec F SX .bf16) (B : Vec F SX .bf16) (r : Fin 256) (q : Fin 28) (l : Fin 128) :
    xbF X B (ix2 r (feat q l)) = xbOf (grpX X q.val q.isLt) (grpE X q.val q.isLt) (ix2 r l) := by
  rw [xbF, xbP_at, if_pos (Nat.zero_le _)]

theorem codesF_any (X : Vec F SX .bf16) (C C' : Vec F SX .fp8e4m3) : codesF X C = codesF X C' := by
  funext j
  rw [ValueIdx.eq_ix2 j]
  obtain ⟨q, l, hk⟩ := feat_of (j 1)
  rw [hk]
  exact (codesF_at X C (j 0) q l).trans (codesF_at X C' (j 0) q l).symm

theorem xbF_any (X : Vec F SX .bf16) (B B' : Vec F SX .bf16) : xbF X B = xbF X B' := by
  funext j
  rw [ValueIdx.eq_ix2 j]
  obtain ⟨q, l, hk⟩ := feat_of (j 1)
  rw [hk]
  exact (xbF_at X B (j 0) q l).trans (xbF_at X B' (j 0) q l).symm

theorem cmp_lane (n : Fin 256) (l : Fin 128) (g : Nat) (hg : g < 128) :
    cmpi .eq laneI (broadcast ST (BitVec.ofNat 32 g)) (ix2 n l) = 1#1 ↔ l.val = g := by
  have h : (laneI (ix2 n l)) = BitVec.ofNat 32 l.val := by
    unfold laneI
    show BitVec.ofNat 32 (0 * 128 + l.val) = _
    simp
  show Scalar.cmpi .eq (laneI (ix2 n l)) (BitVec.ofNat 32 g) = 1#1 ↔ _
  rw [h]
  have hl := l.isLt
  have e : BitVec.ofNat 32 l.val = BitVec.ofNat 32 g ↔ l.val = g := by
    constructor
    · intro h
      have := congrArg BitVec.toNat h
      simp only [BitVec.toNat_ofNat] at this
      omega
    · rintro rfl; rfl
  rw [← e]
  show BitVec.ofBool (BitVec.ofNat 32 l.val == BitVec.ofNat 32 g) = 1#1 ↔ _
  by_cases q : BitVec.ofNat 32 l.val = BitVec.ofNat 32 g
  · simp [q]
  · rw [beq_eq_false_iff_ne.2 q]
    simp [q]

theorem scP_at (X : Vec F SX .bf16) (r : Fin 256) (q : Fin 28) : ∀ (n g : Nat) (h : g + n = 28) (S : FVec F ST .f32),
    scP X n g h S (ix2 r (⟨q.val, by omega⟩ : Fin 128)) = if g ≤ q.val then scaleOf (F := F) (grpE X q.val q.isLt) (ix2 r (⟨q.val, by omega⟩ : Fin 128)) else S (ix2 r (⟨q.val, by omega⟩ : Fin 128))
  | 0, g, h, S => by unfold scP; rw [if_neg (by omega)]
  | n + 1, g, h, S => by
    unfold scP
    rw [scP_at X r q n (g + 1)]
    unfold putScale
    rw [ValueIdx.select_apply]
    unfold Scalar.select
    by_cases h1 : q.val = g
    · subst h1
      rw [if_neg (by omega), if_pos le_rfl]
      exact if_pos ((cmp_lane r ⟨q.val, by omega⟩ q.val (by omega)).2 rfl)
    · by_cases h2 : g ≤ q.val
      · rw [if_pos (by omega), if_pos h2]
      · rw [if_neg (by omega), if_neg h2]
        exact if_neg (fun hh => h1 ((cmp_lane r ⟨q.val, by omega⟩ g (by omega)).1 hh))

/-- The scales. -/
theorem scalesF_at (X : Vec F SX .bf16) (q : Fin 28) (r : Fin 256) :
    scalesF X (ix3 q (0 : Fin 1) r) = scaleOf (F := F) (grpE X q.val q.isLt) (ix2 r (⟨q.val, by omega⟩ : Fin 128)) := by
  unfold scalesF scalesOut
  have e : ∀ x : FVec F ST .f32, shapeCast SG (extractStridedSlice SGt ![0, 0] (transpose STt [1, 0] x trT) slG : FVec F SGt .f32) castGt (ix3 q (0 : Fin 1) r)
      = x (ix2 r (⟨q.val, by omega⟩ : Fin 128)) := fun x => by
    pointwise
  rw [e, scP_at, if_pos (Nat.zero_le _)]

end Cert.Head
-- ==== Proof.Field.lean ====
/- The kernel's quantiser over the reals: the exponent found bit after bit is the least whose power of two exceeds
   the group's target, and the scale and its reciprocal are powers of two. -/
module

public import proofs.«01_k».proof.Proof.Groups

@[expose] public section

set_option maxRecDepth 16384

noncomputable section

namespace Cert.Head

open Idealize.ShloMosaic

/-- The greatest magnitude of a group. -/
def topMag (f : Fin 128 → EReal) : EReal := (Finset.univ : Finset (Fin 128)).fold max (⊥ : EReal) fun l => (FloatOps.absf (F := Ideal) (φ := .f32) (f l) : EReal)
/-- The reciprocal of the codes' greatest, as rounded. -/
def inv448 : EReal := Ideal.ofBits .f32 0x3B124925#32
/-- The magnitudes the claim is made for. -/
def Normal (A : EReal) : Prop := A = 0 ∨ ((Ideal.ofBits .f32 0x04E00000#32 : EReal) ≤ A ∧ A ≤ (Ideal.ofBits .f32 0x7F7F0000#32 : EReal))
/-- The exponent of a group's scale. -/
def IsExp (A : EReal) (e : ℤ) : Prop :=
  (A = 0 ∧ e = 0) ∨ (-125 ≤ e ∧ e ≤ 120 ∧ (((2 : ℝ) ^ (e - 1) : ℝ) : EReal) ≤ A * inv448 ∧ A * inv448 < (((2 : ℝ) ^ e : ℝ) : EReal))

/-- The power of two an exponent field makes. -/
def pow2 (n : ℕ) : EReal := Ideal.ofBits .f32 (BitVec.ofNat 32 n <<< 23)

theorem field_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by decide +kernel

theorem pow2_eq (n : ℕ) (h1 : 1 ≤ n) (h2 : n ≤ 254) : pow2 n = (((2 : ℝ) ^ ((n : ℤ) - 127) : ℝ) : EReal) := by
  obtain ⟨b1, b2, b3⟩ := field_bits ⟨n, by omega⟩
  show Ideal.ieee 8 23 (BitVec.ofNat 32 n <<< 23) = _
  unfold Ideal.ieee
  simp only at b1 b2 b3
  rw [b1, b2, b3, if_neg (by norm_num; omega), if_neg (by omega)]
  refine congrArg (fun r : ℝ => (r : EReal)) ?_
  have : (2 : ℝ) ^ ((n : ℤ) - 127) = (2 : ℝ) ^ (23 : ℤ) * (2 : ℝ) ^ ((n : ℤ) - 127 - 23) := by
    rw [← zpow_add₀ (by norm_num), show (23 : ℤ) + ((n : ℤ) - 127 - 23) = (n : ℤ) - 127 by ring]
  rw [this]
  have e : (n : ℤ) - (2 ^ (8 - 1) - 1) - ((23 : ℕ) : ℤ) = (n : ℤ) - 127 - 23 := by norm_num
  have c : ((2 ^ 23 + 0 : ℕ) : ℝ) = (2 : ℝ) ^ (23 : ℤ) := by norm_num
  rw [if_neg Bool.false_ne_true, one_mul, c, e]
theorem pow2_255 : pow2 255 = ⊤ := by
  obtain ⟨b1, b2, b3⟩ := field_bits ⟨255, by omega⟩
  show Ideal.ieee 8 23 (BitVec.ofNat 32 255 <<< 23) = _
  unfold Ideal.ieee
  simp only at b1 b2 b3
  rw [b1, b2, b3, if_pos (by norm_num), if_pos rfl]
  rfl

theorem inv448_eq : inv448 = ((9586981 / 4294967296 : ℝ) : EReal) := by
  unfold inv448
  simp [Ideal.ofBits, Ideal.ieee]
  norm_num
  refine (EReal.coe_mul _ _).symm.trans ?_
  norm_num
theorem low_eq : (Ideal.ofBits .f32 0x04E00000#32 : EReal) = ((7 / 1329227995784915872903807060280344576 : ℝ) : EReal) := by
  simp [Ideal.ofBits, Ideal.ieee]
  norm_num
  refine (EReal.coe_mul _ _).symm.trans ?_
  norm_num
theorem high_eq : (Ideal.ofBits .f32 0x7F7F0000#32 : EReal) = ((338953138925153547590470800371487866880 : ℝ) : EReal) := by
  simp [Ideal.ofBits, Ideal.ieee]
  norm_num
  refine (EReal.coe_mul _ _).symm.trans ?_
  norm_num

theorem ofField_at (f : IVec ST 32) (j : ST.Idx) (n : ℕ) (h : f j = BitVec.ofNat 32 n) : (ofField (F := Ideal) f j : EReal) = pow2 n := by
  have : (ofField (F := Ideal) f j : EReal) = Ideal.ofBits .f32 (shli f (broadcast ST 23#32) j) := rfl
  rw [this]
  unfold pow2
  refine congrArg (Ideal.ofBits .f32) ?_
  show IntOp.shli .vector (f j) 23#32 = _
  rw [h]
  unfold IntOp.shli
  rw [if_pos (by decide)]
  rfl

/-- What holds of the bits kept so far, the last of weight `b`. -/
def Inv (y : ℝ) (a b : ℕ) : Prop := a + b ≤ 256 ∧ (a = 0 ∨ (2 : ℝ) ^ ((a : ℤ) - 127) ≤ y) ∧ y < (2 : ℝ) ^ (((a + b : ℕ) : ℤ) - 127)

theorem fieldStep_at (Y : FVec Ideal ST .f32) (j : ST.Idx) (y : ℝ) (hY : (Y j : EReal) = (y : EReal)) (hy : y < 2 ^ (120 : ℤ)) (f : IVec ST 32)
    (a b : ℕ) (hb : 1 ≤ b) (hf : f j = BitVec.ofNat 32 a) (h : Inv y a (2 * b)) :
    ∃ a', fieldStep Y (BitVec.ofNat 32 b) f j = BitVec.ofNat 32 a' ∧ Inv y a' b := by
  obtain ⟨i1, i2, i3⟩ := h
  have hs : addi f (broadcast ST (BitVec.ofNat 32 b)) j = BitVec.ofNat 32 (a + b) := by
    show f j + BitVec.ofNat 32 b = _
    rw [hf, BitVec.ofNat_add]
  have hp : (ofField (F := Ideal) (addi f (broadcast ST (BitVec.ofNat 32 b))) j : EReal) = pow2 (a + b) := ofField_at _ j _ hs
  have hc : fieldStep Y (BitVec.ofNat 32 b) f j = if pow2 (a + b) ≤ (y : EReal) then BitVec.ofNat 32 (a + b) else BitVec.ofNat 32 a := by
    unfold fieldStep
    rw [ValueIdx.select_apply, ValueIdx.cmpf_apply]
    have : FloatOps.cmpf .oge (Y j) (ofField (F := Ideal) (addi f (broadcast ST (BitVec.ofNat 32 b))) j) = BitVec.ofBool (decide (pow2 (a + b) ≤ (y : EReal))) := by
      rw [← hp, ← hY]; rfl
    rw [this, hs, hf]
    unfold Scalar.select
    by_cases h : pow2 (a + b) ≤ (y : EReal) <;> simp [h]
  rw [hc]
  have no : ¬ pow2 (a + b) ≤ (y : EReal) → y < (2 : ℝ) ^ (((a + b : ℕ) : ℤ) - 127) := fun hn => by
    rcases Nat.lt_or_ge (a + b) 255 with hlt | hge
    · rw [pow2_eq _ (by omega) (by omega), EReal.coe_le_coe_iff, not_le] at hn
      exact hn
    · exact hy.trans_le (zpow_le_zpow_right₀ (by norm_num) (by omega))
  have yes : pow2 (a + b) ≤ (y : EReal) → (2 : ℝ) ^ (((a + b : ℕ) : ℤ) - 127) ≤ y := fun hn => by
    rcases Nat.lt_or_ge (a + b) 255 with hlt | hge
    · rwa [pow2_eq _ (by omega) (by omega), EReal.coe_le_coe_iff] at hn
    · rw [show a + b = 255 by omega, pow2_255] at hn
      exact absurd (top_le_iff.1 hn) (EReal.coe_ne_top y)
  by_cases h : pow2 (a + b) ≤ (y : EReal)
  · rw [if_pos h]
    exact ⟨a + b, rfl, by omega, .inr (yes h), by rw [show a + b + b = a + 2 * b by omega]; exact i3⟩
  · rw [if_neg h]
    exact ⟨a, rfl, by omega, i2, no h⟩

theorem fieldOf_at (Y : FVec Ideal ST .f32) (j : ST.Idx) (y : ℝ) (hY : (Y j : EReal) = (y : EReal)) (hy : y < 2 ^ (120 : ℤ)) :
    ∃ a, fieldOf Y j = BitVec.ofNat 32 a ∧ Inv y a 1 := by
  have i0 : Inv y 0 (2 * 128) := ⟨by norm_num, .inl rfl, hy.trans_le (zpow_le_zpow_right₀ (by norm_num) (by norm_num))⟩
  obtain ⟨a1, h1, i1⟩ := fieldStep_at Y j y hY hy _ 0 128 (by norm_num) (show (broadcast ST 0#32 : IVec ST 32) j = BitVec.ofNat 32 0 from rfl) i0
  obtain ⟨a2, h2, i2⟩ := fieldStep_at Y j y hY hy _ a1 64 (by norm_num) h1 i1
  obtain ⟨a3, h3, i3⟩ := fieldStep_at Y j y hY hy _ a2 32 (by norm_num) h2 i2
  obtain ⟨a4, h4, i4⟩ := fieldStep_at Y j y hY hy _ a3 16 (by norm_num) h3 i3
  obtain ⟨a5, h5, i5⟩ := fieldStep_at Y j y hY hy _ a4 8 (by norm_num) h4 i4
  obtain ⟨a6, h6, i6⟩ := fieldStep_at Y j y hY hy _ a5 4 (by norm_num) h5 i5
  obtain ⟨a7, h7, i7⟩ := fieldStep_at Y j y hY hy _ a6 2 (by norm_num) h6 i6
  obtain ⟨a8, h8, i8⟩ := fieldStep_at Y j y hY hy _ a7 1 (by norm_num) h7 i7
  exact ⟨a8, h8, i8⟩

theorem exp_words : ∀ n : Fin 247, Scalar.select (Scalar.cmpi .eq (BitVec.ofNat 32 n.val) 0#32) 0#32 (BitVec.ofNat 32 n.val - 126#32) + 127#32 = BitVec.ofNat 32 (if n.val = 0 then 127 else n.val + 1)
    ∧ 127#32 - Scalar.select (Scalar.cmpi .eq (BitVec.ofNat 32 n.val) 0#32) 0#32 (BitVec.ofNat 32 n.val - 126#32) = BitVec.ofNat 32 (if n.val = 0 then 127 else 253 - n.val) := by decide +kernel

/-- The scale and its reciprocal, from the field. -/
theorem scale_at (f : IVec ST 32) (j : ST.Idx) (n : ℕ) (hn : n < 247) (h : f j = BitVec.ofNat 32 n) :
    (scaleOf (F := Ideal) (expOf f) j : EReal) = (((2 : ℝ) ^ (if n = 0 then (0 : ℤ) else (n : ℤ) - 126) : ℝ) : EReal)
    ∧ (invOf (F := Ideal) (expOf f) j : EReal) = (((2 : ℝ) ^ (-(if n = 0 then (0 : ℤ) else (n : ℤ) - 126)) : ℝ) : EReal) := by
  obtain ⟨w1, w2⟩ := exp_words ⟨n, hn⟩
  simp only at w1 w2
  have e1 : addi (expOf f) (broadcast ST 127#32) j = BitVec.ofNat 32 (if n = 0 then 127 else n + 1) := by
    rw [← w1, ← h]; rfl
  have e2 : subi (broadcast ST 127#32) (expOf f) j = BitVec.ofNat 32 (if n = 0 then 127 else 253 - n) := by
    rw [← w2, ← h]; rfl
  have s1 : (scaleOf (F := Ideal) (expOf f) j : EReal) = _ := ofField_at _ j _ e1
  have s2 : (invOf (F := Ideal) (expOf f) j : EReal) = _ := ofField_at _ j _ e2
  rw [s1, s2]
  by_cases h0 : n = 0
  · simp only [h0, if_true]
    rw [pow2_eq _ (by norm_num) (by norm_num)]
    norm_num
  · simp only [h0, if_false]
    rw [pow2_eq _ (by omega) (by omega), pow2_eq _ (by omega) (by omega)]
    refine ⟨by congr 2; push_cast; ring, ?_⟩
    congr 2
    omega

/-- A group's target. -/
theorem amaxOf_at (xf : FVec Ideal ST .f32) (n : Fin 256) (l : Fin 128) :
    (amaxOf xf (ix2 n l) : EReal) = topMag (fun k => xf (ix2 n k)) * inv448 := by
  have e : ∀ x : FVec Ideal SC .f32, (broadcastTo ST (shapeCast SC x castCC) bcCT : FVec Ideal ST .f32) (ix2 n l) = x (ix2 n (0 : Fin 1)) := fun x => by
    rw [shapeCast_self]
    pointwise
  unfold amaxOf
  rw [e]
  show ((shapeCast SC (multiReduction .maximumf [1] SV (absf xf) 0xFF800000#32 redTV (.inl rfl) rfl) castVC : FVec Ideal SC .f32) (ix2 n (0 : Fin 1)) : EReal) * inv448 = _
  refine congrArg (fun z : EReal => z * inv448) ?_
  refine (ValueIdx.shapeCast_a_a1_apply _ _ _ _).trans ?_
  refine (multiReduction_maximumf_eq_fold _ _ _ _ _ _).trans ?_
  rw [Shape.Reduces.fold_fiber_r2_a1]
  exact congrArg (fun z : EReal => Finset.univ.fold max z fun l : Fin 128 => (FloatOps.absf (F := Ideal) (φ := .f32) (xf (ix2 n l)) : EReal)) ninf

/-- The exponent of a group's scale, as the kernel finds it. -/
theorem grpExp_at (xf : FVec Ideal ST .f32) (n : Fin 256) (hn : Normal (topMag fun k => xf (ix2 n k))) :
    ∃ e : ℤ, IsExp (topMag fun k => xf (ix2 n k)) e ∧ ∀ l : Fin 128,
      (scaleOf (F := Ideal) (grpExp xf) (ix2 n l) : EReal) = (((2 : ℝ) ^ e : ℝ) : EReal)
      ∧ (invOf (F := Ideal) (grpExp xf) (ix2 n l) : EReal) = (((2 : ℝ) ^ (-e) : ℝ) : EReal) := by
  have ha := fun l => amaxOf_at xf n l
  generalize (topMag fun k => xf (ix2 n k)) = A at hn ha
  have key : ∃ y : ℝ, A * inv448 = (y : EReal) ∧ y < 2 ^ (120 : ℤ) ∧ ((A = 0 ∧ y = 0) ∨ (2 : ℝ) ^ (-126 : ℤ) ≤ y) := by
    rcases hn with rfl | ⟨h1, h2⟩
    · exact ⟨0, by rw [zero_mul]; rfl, by positivity, .inl ⟨rfl, rfl⟩⟩
    · rw [low_eq] at h1
      rw [high_eq] at h2
      induction A using EReal.rec with
      | bot => exact absurd (le_bot_iff.1 h1) (EReal.coe_ne_bot _)
      | top => exact absurd (top_le_iff.1 h2) (EReal.coe_ne_top _)
      | coe a =>
        rw [EReal.coe_le_coe_iff] at h1 h2
        refine ⟨a * (9586981 / 4294967296), by rw [inv448_eq, ← EReal.coe_mul], ?_, .inr ?_⟩
        · norm_num at h2 ⊢
          linarith
        · norm_num at h1 ⊢
          linarith
  obtain ⟨y, hy, hlt, hlow⟩ := key
  have fld : ∀ l, ∃ a, fieldOf (amaxOf xf) (ix2 n l) = BitVec.ofNat 32 a ∧ Inv y a 1 := fun l => fieldOf_at _ _ y ((ha l).trans hy) hlt
  -- the field is determined by the target
  have det : ∀ a, Inv y a 1 → (A = 0 ∧ a = 0) ∨ (1 ≤ a ∧ a < 247 ∧ (2 : ℝ) ^ ((a : ℤ) - 127) ≤ y ∧ y < (2 : ℝ) ^ ((a : ℤ) - 126)) := fun a ⟨i1, i2, i3⟩ => by
    have i3' : y < (2 : ℝ) ^ ((a : ℤ) - 126) := by
      have : (((a + 1 : ℕ) : ℤ) - 127) = (a : ℤ) - 126 := by push_cast; ring
      rwa [this] at i3
    rcases hlow with ⟨h0, hy0⟩ | hlo
    · refine .inl ⟨h0, ?_⟩
      rcases i2 with i2 | i2
      · exact i2
      · rw [hy0] at i2
        exact absurd i2 (not_le.2 (by positivity))
    · right
      have a1 : 1 ≤ a := by
        by_contra hh
        have : a = 0 := by omega
        subst this
        exact absurd (hlo.trans_lt i3') (by norm_num)
      have i2' := i2.resolve_left (by omega)
      refine ⟨a1, ?_, i2', i3'⟩
      have := (zpow_lt_zpow_iff_right₀ (by norm_num : (1 : ℝ) < 2)).1 (i2'.trans_lt hlt)
      omega
  obtain ⟨a0, -, ia0⟩ := fld 0
  have same : ∀ a, Inv y a 1 → a = a0 := fun a ia => by
    rcases det a ia with ⟨h1, h2⟩ | ⟨h1, h2, h3, h4⟩ <;> rcases det a0 ia0 with ⟨g1, g2⟩ | ⟨g1, g2, g3, g4⟩
    · omega
    · rcases hlow with ⟨-, hy0⟩ | hlo
      · rw [hy0] at g3; exact absurd g3 (not_le.2 (by positivity))
      · rw [h1, zero_mul] at hy
        have : y = 0 := (EReal.coe_eq_zero.1 hy.symm)
        rw [this] at hlo; exact absurd hlo (not_le.2 (by positivity))
    · rcases hlow with ⟨-, hy0⟩ | hlo
      · rw [hy0] at h3; exact absurd h3 (not_le.2 (by positivity))
      · rw [g1, zero_mul] at hy
        have : y = 0 := (EReal.coe_eq_zero.1 hy.symm)
        rw [this] at hlo; exact absurd hlo (not_le.2 (by positivity))
    · have u := (zpow_lt_zpow_iff_right₀ (by norm_num : (1 : ℝ) < 2)).1 (h3.trans_lt g4)
      have v := (zpow_lt_zpow_iff_right₀ (by norm_num : (1 : ℝ) < 2)).1 (g3.trans_lt h4)
      omega
  have lt : a0 < 247 := by rcases det a0 ia0 with ⟨h1, h2⟩ | ⟨h1, h2, -, -⟩ <;> omega
  refine ⟨if a0 = 0 then 0 else (a0 : ℤ) - 126, ?_, fun l => ?_⟩
  · rcases det a0 ia0 with ⟨h1, h2⟩ | ⟨h1, h2, h3, h4⟩
    · exact .inl ⟨h1, by rw [if_pos h2]⟩
    · right
      rw [if_neg (by omega), hy, EReal.coe_le_coe_iff, EReal.coe_lt_coe_iff]
      exact ⟨by omega, by omega, by rw [show (a0 : ℤ) - 126 - 1 = (a0 : ℤ) - 127 by ring]; exact h3, h4⟩
  · obtain ⟨a, ea, ia⟩ := fld l
    rw [same a ia] at ea
    exact scale_at _ _ a0 lt ea

end Cert.Head
-- ==== Proof.Precond.lean ====
/- The precondition's side conditions, and what it says of each group. -/
module

public import proofs.«01_k».proof.Pre_normal_groups
public import proofs.«01_k».proof.Proof.Field

@[expose] public section

set_option maxRecDepth 16384

noncomputable section

namespace Cert.Pre_normal_groups.Hand

open Cert.Pre_normal_groups Cert.Head
open Idealize.ShloMosaic

theorem shapeCasts3 : S256x1x3584.ShapeCasts S256x28x128 := by decide
theorem reducesTo3 : S256x28x128.ReducesTo [2] S256x28 := by decide

/-- The side conditions hold. -/
theorem facts : Facts where
  bitsLt_bf16_f32 := by decide
  shapeCasts_S256x1x3584_S256x28x128 := shapeCasts3
  reducesTo_S256x28x128_S256x28_d2 := reducesTo3
  h_S_ := by decide
  bcast_S_S256x28 := by decide

theorem top_at (y : FVec Ideal S256x28x128 .f32) (i : FVec Ideal S_ .f32) (h : 0 < S_.numel) (hi : ∀ j, (i j : EReal) = ⊥) (n : Fin 256) (q : Fin 28) :
    (Host.reduce FloatOps.maximumf (Host.absf y) i reducesTo3 h (ix2 n q) : Ideal .f32) = topMag fun l => y (ix3 n q l) := by
  rw [Host.reduce_eq_fold]
  rw [Shape.ReducesTo.fold_fiber_r3_a2]
  exact congrArg (fun z : EReal => Finset.univ.fold max z fun l : Fin 128 => (FloatOps.absf (F := Ideal) (φ := .f32) (y (ix3 n q l)) : EReal)) (hi _)

theorem test_at (R Z L H : FVec Ideal S256x28 .f32) (j : S256x28.Idx) (h : ori (cmpf .oeq R Z) (andi (cmpf .oge R L) (cmpf .ole R H)) j = 1#1) :
    (R j : EReal) = Z j ∨ ((L j : EReal) ≤ R j ∧ (R j : EReal) ≤ H j) := by
  have hv : (BitVec.ofBool (decide ((R j : EReal) = Z j))) ||| (BitVec.ofBool (decide ((L j : EReal) ≤ R j)) &&& BitVec.ofBool (decide ((R j : EReal) ≤ H j))) = 1#1 := h
  by_cases h0 : (R j : EReal) = Z j
  · exact .inl h0
  · right
    rw [decide_eq_false h0] at hv
    by_cases h1 : (L j : EReal) ≤ R j <;> by_cases h2 : (R j : EReal) ≤ H j <;>
      simp only [h1, h2, decide_true, decide_false] at hv <;> first | exact ⟨h1, h2⟩ | exact absurd hv (by decide)

theorem normal_of (x0 : FVec Ideal S256x1x3584 .bf16) (x1 : FVec Ideal S38016x3584 .fp8e4m3) (x2 x3 : FVec Ideal S38016 .f32)
    (h : @fn facts Ideal _ x0 x1 x2 x3 = fun _ => 1#1) (n : Fin 256) (q : Fin 28) :
    Normal (topMag fun l => x0 (ix3 n (0 : Fin 1) (feat q l))) := by
  have hp := congrFun h (ix2 n q)
  have hA := top_at (shapeCast S256x28x128 (extf .f32 x0 (by decide) : FVec Ideal S256x1x3584 .f32) shapeCasts3) (constant (F := Ideal) S_ .f32 0xFF800000#32) (by decide)
    (fun _ => ninf) n q
  have hx : ∀ l, (shapeCast S256x28x128 (extf .f32 x0 (by decide) : FVec Ideal S256x1x3584 .f32) shapeCasts3 : FVec Ideal S256x28x128 .f32) (ix3 n q l) = x0 (ix3 n (0 : Fin 1) (feat q l)) := fun l => by
    refine (shapeCast_apply _ _ (ix3 n q l) (ix3 n (0 : Fin 1) (feat q l)) ?_).trans rfl
    rw [Shape.rowMajor_val_three, Shape.rowMajor_val_three]
    show (n.val * 1 + 0) * 3584 + (128 * q.val + l.val) = (n.val * 28 + q.val) * 128 + l.val
    omega
  simp only [hx] at hA
  have t := test_at _ (broadcastInDim S256x28 ![] facts.bcast_S_S256x28 (constant (F := Ideal) S_ .f32 0x00000000#32)) (broadcastInDim S256x28 ![] facts.bcast_S_S256x28 (constant (F := Ideal) S_ .f32 0x04E00000#32))
    (broadcastInDim S256x28 ![] facts.bcast_S_S256x28 (constant (F := Ideal) S_ .f32 0x7F7F0000#32)) (ix2 n q) hp
  have k : ∀ b, (broadcastInDim S256x28 ![] facts.bcast_S_S256x28 (constant (F := Ideal) S_ .f32 b) : FVec Ideal S256x28 .f32) (ix2 n q) = Ideal.ofBits .f32 b := fun _ => rfl
  rw [k, k, k, zero32] at t
  rw [← hA]
  exact t

end Cert.Pre_normal_groups.Hand
-- ==== Proof.Units.lean ====
/- One unit's logits ranked into the lists: every token's and lane's lists get the unit's four tiles. -/
module

public import proofs.«01_k».proof.Proof.Rounds
public import proofs.«01_k».proof.Proof.BodyRun

@[expose] public section

noncomputable section

namespace Cert.Head

open Idealize.ShloMosaic

section Any
variable {F : FTy → Type} [FloatOps F]

/-- Whether a tile lies within the columns. -/
def live (step : BitVec 32) (t : Nat) : Prop :=
  Scalar.cmpi .slt (Scalar.addi (Scalar.muli step 512#32) (BitVec.ofNat 32 (128 * t))) 38016#32 = 1#1

theorem live_iff : ∀ (k : Fin 75) (t : Fin 4), live (BitVec.ofNat 32 k.val) t.val ↔ 512 * k.val + 128 * t.val < 38016 := by
  unfold live; decide +kernel

theorem tileOf_at (lg : Vec F SU .f32) (step : BitVec 32) (r : Fin blkLoop.trips) (t : Nat) (ht : t < 4) (i : Fin 8) (l : Fin 128) (n : Fin 256)
    (hn : n.val = 8 * r.val + i.val) [Decidable (live step t)] :
    tileOf lg step r t ht (ix2 i l) = if live step t then lg (ix2 n ⟨128 * t + l.val, by omega⟩) else Scalar.ofBits .f32 0xFF800000#32 := by
  unfold tileOf tileV Scalar.select
  by_cases h : live step t
  · rw [if_pos h]
    exact (congrFun (if_pos h) _).trans (tile_at _ r t ht i l n hn)
  · rw [if_neg h]
    exact congrFun (if_neg h) _

theorem row_of (r : Fin blkLoop.trips) (i : Fin 8) : ∃ n : Fin 256, n.val = 8 * r.val + i.val :=
  ⟨⟨8 * r.val + i.val, by have : r.val < 32 := Nat.lt_of_lt_of_eq r.isLt blkTrips; omega⟩, rfl⟩

/-- Columns past the end show nowhere. -/
theorem blocksP_congr (lg lg' : Vec F SU .f32) (step : BitVec 32)
    (h : ∀ (t : Nat) (ht : t < 4), live step t → ∀ (n : Fin 256) (l : Fin 128), lg (ix2 n ⟨128 * t + l.val, by omega⟩) = lg' (ix2 n ⟨128 * t + l.val, by omega⟩))
    (L : LL F) : ∀ k, blocksP lg step L k = blocksP lg' step L k
  | 0 => rfl
  | k + 1 => by
    classical
    have ht : ∀ r t ht, tileOf lg step r t ht = tileOf lg' step r t ht := fun r t ht => by
      funext j
      obtain ⟨i, l, rfl⟩ : ∃ (i : Fin 8) (l : Fin 128), j = ix2 i l := ⟨j 0, j 1, ValueIdx.eq_ix2 j⟩
      obtain ⟨n, hn⟩ := row_of r i
      rw [tileOf_at lg step r t ht i l n hn, tileOf_at lg' step r t ht i l n hn]
      by_cases hl : live step t
      · rw [if_pos hl, if_pos hl, h t ht hl]
      · rw [if_neg hl, if_neg hl]
    unfold blocksP
    rw [blocksP_congr lg lg' step h L k]
    unfold rankRowsP
    simp only [ht]

end Any

/-- A tile's number. -/
theorem tileT_at (k : Fin 75) (t : Fin 4) (b : BitVec 32) (hb : (Ideal.ofBits .f32 b : EReal) = ((t.val : ℝ) : EReal)) (j : SB.Idx) :
    (tileT (F := Ideal) (BitVec.ofNat 32 k.val) b j : EReal) = (((4 * k.val + t.val : ℕ) : ℝ) : EReal) := by
  have hk : (Scalar.muli (BitVec.ofNat 32 k.val) 4#32).toInt = (4 * k.val : ℤ) := by
    revert k; decide +kernel
  show (((Scalar.muli (BitVec.ofNat 32 k.val) 4#32).toInt : ℝ) : EReal) + Ideal.ofBits .f32 b = _
  rw [hk, hb]
  push_cast
  rfl

theorem b0 : (Ideal.ofBits .f32 0x00000000#32 : EReal) = (((0 : Fin 4).val : ℝ) : EReal) := by
  rw [zero32]; simp
theorem b1 : (Ideal.ofBits .f32 0x3F800000#32 : EReal) = (((1 : Fin 4).val : ℝ) : EReal) := by
  simp [Ideal.ofBits, Ideal.ieee]
  norm_num
  refine (EReal.coe_mul _ _).symm.trans ?_
  norm_num
theorem b2 : (Ideal.ofBits .f32 0x40000000#32 : EReal) = (((2 : Fin 4).val : ℝ) : EReal) := by
  simp [Ideal.ofBits, Ideal.ieee]
  norm_num
  refine (EReal.coe_mul _ _).symm.trans ?_
  norm_num
theorem b3 : (Ideal.ofBits .f32 0x40400000#32 : EReal) = (((3 : Fin 4).val : ℝ) : EReal) := by
  simp [Ideal.ofBits, Ideal.ieee]
  norm_num
  refine (EReal.coe_mul _ _).symm.trans ?_
  norm_num

/-- The values of a token's lane tile by tile, from the units' logits: -inf past the end. -/
def laneF' (G : ℕ → Vec Ideal SU .f32) (n : Fin 256) (l : Fin 128) (T : ℕ) : EReal :=
  if T < 297 then (G (T / 4) (ix2 n ⟨128 * (T % 4) + l.val, by omega⟩) : EReal) else ⊥

theorem lane_blocks (lg : Vec Ideal SU .f32) (step : BitVec 32) (L : LL Ideal) (n : Fin 256) (l : Fin 128) (e : Fin 4 → Ent)
    (he : ∀ (r : Fin blkLoop.trips) (i : Fin 8), n.val = 8 * r.val + i.val →
      (((tileOf lg step r 0 (by omega) (ix2 i l) : EReal), (tileT (F := Ideal) step 0x00000000#32 (ix2 i l) : EReal)) : Ent) = e 0
      ∧ (((tileOf lg step r 1 (by omega) (ix2 i l) : EReal), (tileT (F := Ideal) step 0x3F800000#32 (ix2 i l) : EReal)) : Ent) = e 1
      ∧ (((tileOf lg step r 2 (by omega) (ix2 i l) : EReal), (tileT (F := Ideal) step 0x40000000#32 (ix2 i l) : EReal)) : Ent) = e 2
      ∧ (((tileOf lg step r 3 (by omega) (ix2 i l) : EReal), (tileT (F := Ideal) step 0x40400000#32 (ix2 i l) : EReal)) : Ent) = e 3) :
    ∀ k, k ≤ 32 → lane (blocksP lg step L k) n l = if n.val / 8 < k then laneStep (lane L n l) (e 0) (e 1) (e 2) (e 3) else lane L n l
  | 0, _ => by rw [if_neg (by omega)]; rfl
  | k + 1, hk => by
    have hT : blkLoop.trips = 32 := blkTrips
    unfold blocksP
    rw [dif_pos (by omega : k < blkLoop.trips)]
    unfold rankRowsP
    by_cases h : n.val / 8 = k
    · have hn : n.val = 8 * (⟨k, by omega⟩ : Fin blkLoop.trips).val + (⟨n.val % 8, by omega⟩ : Fin 8).val := by simp only; omega
      obtain ⟨e0, e1, e2, e3⟩ := he _ _ hn
      rw [lane_rank4 _ _ n l hn, lane_blocks lg step L n l e he k (by omega), if_neg (by omega), if_pos (by omega), e0, e1, e2, e3]
    · rw [lane_rank4_off _ n l (by simpa using h), lane_blocks lg step L n l e he k (by omega)]
      by_cases h2 : n.val / 8 < k
      · rw [if_pos h2, if_pos (by omega)]
      · rw [if_neg h2, if_neg (by omega)]

/-- The lists after `k` units. -/
def listsAt (G : ℕ → Vec Ideal SU .f32) : ℕ → LL Ideal
  | 0 => emptyL Ideal
  | k + 1 => blocksP (G k) (BitVec.ofNat 32 k) (listsAt G k) 32

theorem ent_empty (n : Fin 256) (l : Fin 128) (s : Fin 16) : ent (emptyL Ideal) n l s = (⊥, 0) := by
  unfold ent emptyL fillP
  rw [shapeCast_self, shapeCast_self]
  exact Prod.ext ninf zero32

theorem seg_empty (n : Fin 256) (l : Fin 128) : ∀ (d s : Nat) (h : s + d ≤ 16), seg (emptyL Ideal) n l d s h = List.replicate d (⊥, 0)
  | 0, _, _ => rfl
  | d + 1, s, h => by rw [seg, ent_empty, seg_empty n l d (s + 1)]; rfl

/-- After `k` units every lane's lists are what its tiles make them. -/
theorem laneOK_listsAt (G : ℕ → Vec Ideal SU .f32) (n : Fin 256) (l : Fin 128) : ∀ k, k ≤ 75 →
    LaneOK (laneF' G n l) (4 * k) (lane (listsAt G k) n l)
  | 0, _ => LaneOK.start _ fun j => by
      unfold listsAt lane
      fin_cases j <;> simp [seg_empty, depth]
  | k + 1, hk => by
    classical
    have ih := laneOK_listsAt G n l k (by omega)
    have hs := ih.step
    have hx : ∀ (t : Fin 4) (b : BitVec 32) (hb : (Ideal.ofBits .f32 b : EReal) = ((t.val : ℝ) : EReal)) (r : Fin blkLoop.trips) (i : Fin 8), n.val = 8 * r.val + i.val →
        (((tileOf (G k) (BitVec.ofNat 32 k) r t.val t.isLt (ix2 i l) : EReal), (tileT (F := Ideal) (BitVec.ofNat 32 k) b (ix2 i l) : EReal)) : Ent)
          = entOf (laneF' G n l) (4 * k + t.val) := fun t b hb r i hn => by
      refine Prod.ext ?_ (tileT_at ⟨k, by omega⟩ t b hb (ix2 i l))
      have hl := live_iff ⟨k, by omega⟩ t
      show (tileOf (G k) (BitVec.ofNat 32 k) r t.val t.isLt (ix2 i l) : EReal) = laneF' G n l (4 * k + t.val)
      rw [tileOf_at (G k) _ r t.val t.isLt i l n hn]
      unfold laneF'
      have e1 : (4 * k + t.val) / 4 = k := by omega
      have e2 : (4 * k + t.val) % 4 = t.val := by omega
      by_cases h : live (BitVec.ofNat 32 k) t.val
      · rw [if_pos h, if_pos (by have := hl.1 h; simp only at this; omega)]
        simp only [e1, e2]
      · rw [if_neg h, if_neg (fun hh => h (hl.2 (by simp only; omega)))]
        exact ninf
    have := lane_blocks (G k) (BitVec.ofNat 32 k) (listsAt G k) n l
      (fun t => entOf (laneF' G n l) (4 * k + t.val))
      (fun r i hn => ⟨hx 0 _ b0 r i hn, hx 1 _ b1 r i hn, hx 2 _ b2 r i hn, hx 3 _ b3 r i hn⟩) 32 le_rfl
    rw [if_pos (by omega)] at this
    rw [listsAt, this]
    exact hs

end Cert.Head
-- ==== Proof.Logits.lean ====
/- One unit's logits as sums: the product of a token's row and an expert's row, scaled and shifted. -/
module

public import proofs.«01_k».proof.Proof.Units
public import proofs.«01_k».proof.Proof.Groups
public import Idealize.ShloMosaic.Lib.MatmulPlain

@[expose] public section

noncomputable section

namespace Cert.Head

open Idealize.ShloMosaic

theorem dotU_eq : dotU = DotDims.transposedRhs 256 3584 512 := rfl

/-- A logit: the sum of the products, times the column's scale, plus its bias. -/
def logit (x : Fin 3584 → EReal) (w : Fin 3584 → EReal) (s b : EReal) : EReal := (∑ k, x k * w k) * s + b

theorem logitsOf_at (X : Vec Ideal SX .bf16) (W : Vec Ideal SW .fp8e4m3) (S B : Vec Ideal SR .f32) (n : Fin 256) (j : Fin 512) :
    (logitsOf X W S B (ix2 n j) : EReal)
      = logit (fun k => X (ix2 n k)) (fun k => W (ix2 j k)) (S (ix2 (0 : Fin 1) j)) (B (ix2 (0 : Fin 1) j)) := by
  have hm : (FloatOps.matmul (F := Ideal) (φ₁ := .bf16) (φ₂ := .fp8e4m3) dotU none X W (constant SU .f32 0x00000000#32) (ix2 n j) : EReal) = ∑ k, (X (ix2 n k) : EReal) * W (ix2 j k) := by
    rw [dotU_eq]
    refine (Ideal.matmul_transposedRhs_apply (φ₁ := .bf16) (φ₂ := .fp8e4m3) (M := 256) (K := 3584) (N := 512) none X W (constant SU .f32 0x00000000#32) n j).trans ?_
    have : (constant (F := Ideal) SU .f32 0x00000000#32 (ix2 n j) : EReal) = 0 := zero32
    exact (congrArg (· + _) this).trans (zero_add _)
  have hb : ∀ x : Vec Ideal SR .f32, (broadcastTo SU (shapeCast SR x castRR) bcRU : FVec Ideal SU .f32) (ix2 n j) = x (ix2 (0 : Fin 1) j) := fun x => by
    rw [shapeCast_self]
    pointwise
  unfold logitsOf
  rw [shapeCast_self]
  show ((FloatOps.matmul (F := Ideal) (φ₁ := .bf16) (φ₂ := .fp8e4m3) dotU none X W (constant SU .f32 0x00000000#32) (ix2 n j) : EReal)
    * (broadcastTo SU (shapeCast SR S castRR) bcRU : FVec Ideal SU .f32) (ix2 n j))
    + (broadcastTo SU (shapeCast SR B castRR) bcRU : FVec Ideal SU .f32) (ix2 n j) = _
  rw [hm, hb, hb]
  rfl

end Cert.Head
-- ==== Proof.IVal.lean ====
/- The kernel's run with its values: what each window and each scratch buffer holds at every point of the grid. -/
module

public import proofs.«01_k».proof.Proof.IFrame
public import proofs.«01_k».proof.Proof.Logits
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Head

local notation "𝕄" => MT nD τ sig Unit (Elt Ideal) ℕ (UR sig nD τ) ℕ

variable (m : (ℓ : Loc nD τ sig) → Buf (Elt Ideal) ℓ) (ρ : Dev nD → PrngReg)

/-- The tokens, as the first window holds them. -/
def xAt (c : Dev nD) (t : Fin cfg0.N) : Vec Ideal SX .bf16 := iblk m c 0 t
/-- A unit's experts, scales and biases: the array's block, and past the array's end whatever the buffer held. -/
def wAt (c : Dev nD) (t : Fin cfg0.N) (d : Vec Ideal SW .fp8e4m3) : Vec Ideal SW .fp8e4m3 := (cfg0.win 1).fill (cfg0.grid.coords t) d (iblk m c 1 t)
def sAt (c : Dev nD) (t : Fin cfg0.N) (d : Vec Ideal SR .f32) : Vec Ideal SR .f32 := (cfg0.win 2).fill (cfg0.grid.coords t) d (iblk m c 2 t)
def bAt (c : Dev nD) (t : Fin cfg0.N) (d : Vec Ideal SR .f32) : Vec Ideal SR .f32 := (cfg0.win 3).fill (cfg0.grid.coords t) d (iblk m c 3 t)

/-- The first point. -/
abbrev t0 : Fin cfg0.N := ⟨0, by decide⟩

/-- The dequantised tokens. -/
def xbV (c : Dev nD) : Vec Ideal SX .bf16 := xbF (xAt m c t0) (fun _ => (0 : EReal))
def wZ (c : Dev nD) (t : Fin cfg0.N) : Vec Ideal SW .fp8e4m3 := wAt m c t (fun _ => (0 : EReal))
def sZ (c : Dev nD) (t : Fin cfg0.N) : Vec Ideal SR .f32 := sAt m c t (fun _ => (0 : EReal))
def bZ (c : Dev nD) (t : Fin cfg0.N) : Vec Ideal SR .f32 := bAt m c t (fun _ => (0 : EReal))
/-- A unit's logits. -/
def gAt (c : Dev nD) (k : ℕ) : Vec Ideal SU .f32 :=
  if h : k < cfg0.N then logitsOf (xbV m c) (wZ m c ⟨k, h⟩) (sZ m c ⟨k, h⟩) (bZ m c ⟨k, h⟩) else fun _ => (0 : EReal)
/-- The lists after all the units. -/
def lastL (c : Dev nD) : LL Ideal := listsAt (gAt m c) 75

/-- How much of a unit lies within the arrays. -/
theorem ext1 : ∀ t : Fin cfg0.N, ∀ j : Fin 512, 512 * t.val + j.val < 38016 → j.val < win0_1.xsize (grid0.coords t) 0 := by decide +kernel
theorem ext1' : ∀ t : Fin cfg0.N, win0_1.xsize (grid0.coords t) 1 = 3584 := by decide +kernel
theorem ext2 : ∀ t : Fin cfg0.N, win0_2.xsize (grid0.coords t) 1 = win0_1.xsize (grid0.coords t) 0 ∧ win0_2.xsize (grid0.coords t) 0 = 1 := by decide +kernel
theorem ext3 : ∀ t : Fin cfg0.N, win0_3.xsize (grid0.coords t) 1 = win0_1.xsize (grid0.coords t) 0 ∧ win0_3.xsize (grid0.coords t) 0 = 1 := by decide +kernel

theorem moved1 (t : Fin cfg0.N) (j : Fin 512) (k : Fin 3584) (h : 512 * t.val + j.val < 38016) :
    (cfg0.win 1).moved (cfg0.grid.coords t) (ix2 j k : SW.Idx) = true :=
  ((cfg0.win 1).moved_iff _ _).2 fun a => by
    fin_cases a
    · exact ext1 t j h
    · exact lt_of_lt_of_eq k.isLt (ext1' t).symm
theorem moved2 (t : Fin cfg0.N) (j : Fin 512) (h : 512 * t.val + j.val < 38016) :
    (cfg0.win 2).moved (cfg0.grid.coords t) (ix2 (0 : Fin 1) j : SR.Idx) = true :=
  ((cfg0.win 2).moved_iff _ _).2 fun a => by
    fin_cases a
    · exact lt_of_lt_of_eq (by decide : 0 < 1) (ext2 t).2.symm
    · exact lt_of_lt_of_eq (ext1 t j h) (ext2 t).1.symm
theorem moved3 (t : Fin cfg0.N) (j : Fin 512) (h : 512 * t.val + j.val < 38016) :
    (cfg0.win 3).moved (cfg0.grid.coords t) (ix2 (0 : Fin 1) j : SR.Idx) = true :=
  ((cfg0.win 3).moved_iff _ _).2 fun a => by
    fin_cases a
    · exact lt_of_lt_of_eq (by decide : 0 < 1) (ext3 t).2.symm
    · exact lt_of_lt_of_eq (ext1 t j h) (ext3 t).1.symm

/-- Within the arrays the buffer's earlier contents show nowhere. -/
theorem wAt_any (c : Dev nD) (t : Fin cfg0.N) (d : Vec Ideal SW .fp8e4m3) (j : Fin 512) (k : Fin 3584) (h : 512 * t.val + j.val < 38016) :
    wAt m c t d (ix2 j k) = wZ m c t (ix2 j k) := by
  have := moved1 t j k h
  unfold wZ wAt Window.fill
  rw [dif_pos this, dif_pos this]
theorem sAt_any (c : Dev nD) (t : Fin cfg0.N) (d : Vec Ideal SR .f32) (j : Fin 512) (h : 512 * t.val + j.val < 38016) :
    sAt m c t d (ix2 (0 : Fin 1) j) = sZ m c t (ix2 (0 : Fin 1) j) := by
  have := moved2 t j h
  unfold sZ sAt Window.fill
  rw [dif_pos this, dif_pos this]
theorem bAt_any (c : Dev nD) (t : Fin cfg0.N) (d : Vec Ideal SR .f32) (j : Fin 512) (h : 512 * t.val + j.val < 38016) :
    bAt m c t d (ix2 (0 : Fin 1) j) = bZ m c t (ix2 (0 : Fin 1) j) := by
  have := moved3 t j h
  unfold bZ bAt Window.fill
  rw [dif_pos this, dif_pos this]

/-- One unit takes the lists on, whatever the buffers held past the arrays' end. -/
theorem step_lists (c : Dev nD) (t : Fin cfg0.N) (d1 : Vec Ideal SW .fp8e4m3) (d2 d3 : Vec Ideal SR .f32) :
    blocksP (logitsOf (xbV m c) (wAt m c t d1) (sAt m c t d2) (bAt m c t d3)) (BitVec.ofNat 32 t.val) (listsAt (gAt m c) t.val) 32
      = listsAt (gAt m c) (t.val + 1) := by
  have hN : t.val < 75 := t.isLt
  rw [listsAt]
  refine blocksP_congr _ _ _ (fun s hs hl n l => ?_) _ _
  have hv := (live_iff ⟨t.val, hN⟩ ⟨s, hs⟩).1 hl
  have hb : 512 * t.val + (⟨128 * s + l.val, by omega⟩ : Fin 512).val < 38016 := by
    have := l.isLt
    simp only at hv ⊢
    omega
  unfold gAt
  rw [dif_pos t.isLt]
  refine (logitsOf_at _ _ _ _ n ⟨128 * s + l.val, by omega⟩).trans ?_
  refine Eq.trans ?_ (logitsOf_at _ _ _ _ n ⟨128 * s + l.val, by omega⟩).symm
  rw [sAt_any m c t d2 _ hb, bAt_any m c t d3 _ hb]
  congr 1
  funext k
  exact wAt_any m c t d1 _ k hb

/-- Between two points the scratch holds the dequantised tokens and the lists of the units so far. -/
def midΦ (c : Dev nD) (k : ℕ) : sProp 𝕄 :=
  iprop(iprop(own c scX (xbV m c) ∗ any c scG ∗ held c scV scI (listsAt (gAt m c) k)) ∗ (∃ r, prngReg c r))
def phi (c : Dev nD) (k : ℕ) : sProp 𝕄 := if k = 0 ∨ k = 75 then Pipeline.ΦA spec0 c else midΦ m c k

/-- The proof data: what every window's buffer holds after the body at a point, and the scratch between points. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wZ m c t
    | ⟨2, _⟩ => sZ m c t
    | ⟨3, _⟩ => bZ m c t
    | ⟨4, _⟩ => selV (lastL m c)
    | ⟨5, _⟩ => selI (lastL m c)
    | ⟨6, _⟩ => codesF (xAt m c t0) (fun _ => (0 : EReal))
    | ⟨7, _⟩ => scalesF (xAt m c t0)
  Φ t := phi m c t.val
  q _ := fullShare
  owed _ := 0

theorem vA (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = wZ m c t := by dsimp only [vdats]
theorem vafter2 (c : Dev nD) (t : Fin cfg0.N) : (vdats m 0 c).after 2 t = sZ m c t := by dsimp only [vdats]
theorem vafter3 (c : Dev nD) (t : Fin cfg0.N) : (vdats m 0 c).after 3 t = bZ m c t := by dsimp only [vdats]
theorem vafter4 (c : Dev nD) (t : Fin cfg0.N) : (vdats m 0 c).after 4 t = selV (lastL m c) := by dsimp only [vdats]
theorem vafter5 (c : Dev nD) (t : Fin cfg0.N) : (vdats m 0 c).after 5 t = selI (lastL m c) := by dsimp only [vdats]
theorem vafter6 (c : Dev nD) (t : Fin cfg0.N) : (vdats m 0 c).after 6 t = codesF (xAt m c t0) (fun _ => (0 : EReal)) := by dsimp only [vdats]
theorem vafter7 (c : Dev nD) (t : Fin cfg0.N) : (vdats m 0 c).after 7 t = scalesF (xAt m c t0) := by dsimp only [vdats]

theorem vbefore0 (c : Dev nD) (t : Fin cfg0.N) (d) : (vdats m 0 c).before 0 t d = xAt m c t :=
  before0_0_of m (vdats m 0 c) (vA m c 0) (vafter0 m c) t d
theorem vbefore1 (c : Dev nD) (t : Fin cfg0.N) (d) : (vdats m 0 c).before 1 t d = wAt m c t d := by
  unfold Dat.before; rw [if_pos (fetch0_1 t)]; unfold Dat.fetched Dat.blockOf wAt iblk; rw [vA]
theorem vbefore2 (c : Dev nD) (t : Fin cfg0.N) (d) : (vdats m 0 c).before 2 t d = sAt m c t d := by
  unfold Dat.before; rw [if_pos (fetch0_2 t)]; unfold Dat.fetched Dat.blockOf sAt iblk; rw [vA]
theorem vbefore3 (c : Dev nD) (t : Fin cfg0.N) (d) : (vdats m 0 c).before 3 t d = bAt m c t d := by
  unfold Dat.before; rw [if_pos (fetch0_3 t)]; unfold Dat.fetched Dat.blockOf bAt iblk; rw [vA]

theorem idle4 : ∀ t : Fin cfg0.N, cfg0.idle 4 (cfg0.grid.coords t) = true ↔ t.val ≠ 74 := by decide +kernel
theorem idle5 : ∀ t : Fin cfg0.N, cfg0.idle 5 (cfg0.grid.coords t) = true ↔ t.val ≠ 74 := by decide +kernel
theorem idle6 : ∀ t : Fin cfg0.N, cfg0.idle 6 (cfg0.grid.coords t) = true ↔ t.val ≠ 0 := by decide +kernel
theorem idle7 : ∀ t : Fin cfg0.N, cfg0.idle 7 (cfg0.grid.coords t) = true ↔ t.val ≠ 0 := by decide +kernel
theorem fresh6 : cfg0.fresh 6 74 = false := by decide +kernel
theorem fresh7 : cfg0.fresh 7 74 = false := by decide +kernel
theorem coords_step : ∀ t : Fin cfg0.N, (grid0.coords t 0).val = t.val := by decide +kernel

/-- The last point finds the codes and the scales as the first left them. -/
theorem vbefore6 (c : Dev nD) (t : Fin cfg0.N) (h : t.val = 74) (d) : (vdats m 0 c).before 6 t d = codesF (xAt m c t0) (fun _ => (0 : EReal)) := by
  rw [(vdats m 0 c).before_out_traj 6 rfl (fun _ _ => rfl) (fun t _ _ _ => (vafter6 m c t).trans (vafter6 m c _).symm) 74 t h d, if_neg (by rw [h, fresh6]; decide)]
  exact vafter6 m c _
theorem vbefore7 (c : Dev nD) (t : Fin cfg0.N) (h : t.val = 74) (d) : (vdats m 0 c).before 7 t d = scalesF (xAt m c t0) := by
  rw [(vdats m 0 c).before_out_traj 7 rfl (fun _ _ => rfl) (fun t _ _ _ => (vafter7 m c t).trans (vafter7 m c _).symm) 74 t h d, if_neg (by rw [h, fresh7]; decide)]
  exact vafter7 m c _

end Cert.KernelIdeal.Hand
-- ==== Proof.IValRun.lean ====
/- The kernel's run with its values: the body keeps the proof data, and the launch. -/
module

public import proofs.«01_k».proof.Proof.IVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Head

local notation "𝕄" => MT nD τ sig Unit (Elt Ideal) ℕ (UR sig nD τ) ℕ

variable (m : (ℓ : Loc nD τ sig) → Buf (Elt Ideal) ℓ) (ρ : Dev nD → PrngReg)

section Leaves
variable (c : Dev nD) (w : Fin cfg0.W) (t : Fin cfg0.N)

/-- An idle buffer is handed back as it was found, -/
theorem leaves_keep (hi : cfg0.idle w (cfg0.grid.coords t) = true) (hf : (cfg0.win w).flush t = false) :
    (vdats m 0 c).leaves w t = (iprop(∃ d, owns c ((cfg0.win w).stage (cfg0.slots t w)) fullShare ((vdats m 0 c).before w t d)) : sProp 𝕄) := by
  unfold Dat.leaves; rw [hi, hf]
/-- an idle one that is written back holds what the data say, -/
theorem leaves_flush (hi : cfg0.idle w (cfg0.grid.coords t) = true) (hf : (cfg0.win w).flush t = true) (hl : cfg0.loose w = false) :
    (vdats m 0 c).leaves w t = (owns c ((cfg0.win w).stage (cfg0.slots t w)) fullShare ((vdats m 0 c).after w t) : sProp 𝕄) := by
  unfold Dat.leaves; rw [hi, hf, hl]
/-- and so does one that the body stores. -/
theorem leaves_live (hi : cfg0.idle w (cfg0.grid.coords t) = false) (hl : cfg0.loose w = false) :
    (vdats m 0 c).leaves w t = (owns c ((cfg0.win w).stage (cfg0.slots t w)) fullShare ((vdats m 0 c).after w t) : sProp 𝕄) := by
  unfold Dat.leaves; rw [hi, hl]
/-- A clipped buffer holds the block, and past the array's end anything. -/
theorem leaves_loose (hi : cfg0.idle w (cfg0.grid.coords t) = false) (hl : cfg0.loose w = true) :
    (vdats m 0 c).leaves w t = (iprop(∃ d, owns c ((cfg0.win w).stage (cfg0.slots t w)) fullShare
      ((cfg0.win w).fill (cfg0.grid.coords t) d ((cfg0.win w).cut (cfg0.grid.coords t) ((vdats m 0 c).after w t)))) : sProp 𝕄) := by
  unfold Dat.leaves; rw [hi, hl]
end Leaves

theorem back1 (c : Dev nD) (t : Fin cfg0.N) (d : Vec Ideal SW .fp8e4m3) : own c (st0_1 t) (wAt m c t d) ⊢ ((vdats m 0 c).leaves 1 t : sProp 𝕄) := by
  rw [leaves_loose m c 1 t rfl rfl, vafter1]
  unfold wZ wAt
  iintro H
  iexists d
  rw [Window.cut_fill]
  iexact H
theorem back2 (c : Dev nD) (t : Fin cfg0.N) (d : Vec Ideal SR .f32) : own c (st0_2 t) (sAt m c t d) ⊢ ((vdats m 0 c).leaves 2 t : sProp 𝕄) := by
  rw [leaves_loose m c 2 t rfl rfl, vafter2]
  unfold sZ sAt
  iintro H
  iexists d
  rw [Window.cut_fill]
  iexact H
theorem back3 (c : Dev nD) (t : Fin cfg0.N) (d : Vec Ideal SR .f32) : own c (st0_3 t) (bAt m c t d) ⊢ ((vdats m 0 c).leaves 3 t : sProp 𝕄) := by
  rw [leaves_loose m c 3 t rfl rfl, vafter3]
  unfold bZ bAt
  iintro H
  iexists d
  rw [Window.cut_fill]
  iexact H

/-- What the body is handed at a point. -/
def vPre (c : Dev nD) (t : Fin cfg0.N) : sProp 𝕄 :=
  iprop(phi m c t.val ∗ (vdats m 0 c).owesAt () t.castSucc
    ∗ own c (st0_0 t) (xAt m c t) ∗ (∃ d, own c (st0_1 t) (wAt m c t d)) ∗ (∃ d, own c (st0_2 t) (sAt m c t d)) ∗ (∃ d, own c (st0_3 t) (bAt m c t d))
    ∗ (∃ d, own c (st0_4 t) ((vdats m 0 c).before 4 t d)) ∗ (∃ d, own c (st0_5 t) ((vdats m 0 c).before 5 t d))
    ∗ (∃ d, own c (st0_6 t) ((vdats m 0 c).before 6 t d)) ∗ (∃ d, own c (st0_7 t) ((vdats m 0 c).before 7 t d)))

/-- What it hands back. -/
def vPost (c : Dev nD) (t : Fin cfg0.N) : sProp 𝕄 :=
  iprop(phi m c (t.val + 1) ∗ (vdats m 0 c).owesAt () t.castSucc
    ∗ own c (st0_0 t) (xAt m c t) ∗ (vdats m 0 c).leaves 1 t ∗ (vdats m 0 c).leaves 2 t ∗ (vdats m 0 c).leaves 3 t
    ∗ (vdats m 0 c).leaves 4 t ∗ (vdats m 0 c).leaves 5 t ∗ (vdats m 0 c).leaves 6 t ∗ (vdats m 0 c).leaves 7 t)

theorem noflush4 (t : Fin cfg0.N) (h : t.val ≠ 74) : (cfg0.win 4).flush t = false :=
  Bool.eq_false_iff.2 fun hh => h (by have := (flush0_4 t).1 hh; have : t.val < 75 := t.isLt; omega)
theorem noflush5 (t : Fin cfg0.N) (h : t.val ≠ 74) : (cfg0.win 5).flush t = false :=
  Bool.eq_false_iff.2 fun hh => h (by have := (flush0_5 t).1 hh; have : t.val < 75 := t.isLt; omega)
theorem noflush6 (t : Fin cfg0.N) (h : t.val ≠ 74) : (cfg0.win 6).flush t = false :=
  Bool.eq_false_iff.2 fun hh => h (by have := (flush0_6 t).1 hh; have : t.val < 75 := t.isLt; omega)
theorem noflush7 (t : Fin cfg0.N) (h : t.val ≠ 74) : (cfg0.win 7).flush t = false :=
  Bool.eq_false_iff.2 fun hh => h (by have := (flush0_7 t).1 hh; have : t.val < 75 := t.isLt; omega)

theorem keep4 (c : Dev nD) (t : Fin cfg0.N) (h : t.val ≠ 74) : (iprop(∃ d, own c (st0_4 t) ((vdats m 0 c).before 4 t d)) : sProp 𝕄) ⊢ (vdats m 0 c).leaves 4 t := by
  rw [leaves_keep m c 4 t ((idle4 t).2 h) (noflush4 t h)]
theorem keep5 (c : Dev nD) (t : Fin cfg0.N) (h : t.val ≠ 74) : (iprop(∃ d, own c (st0_5 t) ((vdats m 0 c).before 5 t d)) : sProp 𝕄) ⊢ (vdats m 0 c).leaves 5 t := by
  rw [leaves_keep m c 5 t ((idle5 t).2 h) (noflush5 t h)]
theorem keep6 (c : Dev nD) (t : Fin cfg0.N) (h0 : t.val ≠ 0) : (iprop(∃ d, own c (st0_6 t) ((vdats m 0 c).before 6 t d)) : sProp 𝕄) ⊢ (vdats m 0 c).leaves 6 t := by
  by_cases h : t.val = 74
  · rw [leaves_flush m c 6 t ((idle6 t).2 h0) ((flush0_6 t).2 (by omega)) rfl, vafter6]
    iintro ⟨%d, H⟩
    rw [vbefore6 m c t h d]
    iexact H
  · rw [leaves_keep m c 6 t ((idle6 t).2 h0) (noflush6 t h)]
theorem keep7 (c : Dev nD) (t : Fin cfg0.N) (h0 : t.val ≠ 0) : (iprop(∃ d, own c (st0_7 t) ((vdats m 0 c).before 7 t d)) : sProp 𝕄) ⊢ (vdats m 0 c).leaves 7 t := by
  by_cases h : t.val = 74
  · rw [leaves_flush m c 7 t ((idle7 t).2 h0) ((flush0_7 t).2 (by omega)) rfl, vafter7]
    iintro ⟨%d, H⟩
    rw [vbefore7 m c t h d]
    iexact H
  · rw [leaves_keep m c 7 t ((idle7 t).2 h0) (noflush7 t h)]

theorem PhiA_I (c : Dev nD) : (Pipeline.ΦA (U := UR sig nD τ) (Val := Elt Ideal) spec0 c : sProp 𝕄)
    = iprop(iprop(any c scX ∗ any c scG ∗ any c scV ∗ any c scI) ∗ (∃ r, prngReg c r)) := PhiA_eq c

/-- The first point. -/
theorem sound_first (c : Dev nD) (t : Fin cfg0.N) (ht : t.val = 0) :
    vPre m c t ⊢ wp frame (wpE (defs₀ (F := Ideal)) Variants.none c none) Set.univ (bodyAt0 t) (fun _ => vPost m c t) := by
  have e0 : t = t0 := Fin.ext ht
  have h4 : t.val ≠ 74 := by omega
  have hs : BitVec.ofNat 32 (grid0.coords t 0).val = 0#32 := by rw [coords_step, ht]
  have hi6 : cfg0.idle 6 (cfg0.grid.coords t) = false := Bool.eq_false_iff.2 fun hh => (idle6 t).1 hh ht
  have hi7 : cfg0.idle 7 (cfg0.grid.coords t) = false := Bool.eq_false_iff.2 fun hh => (idle7 t).1 hh ht
  unfold bodyAt0
  rw [body_eq]
  unfold vPre vPost phi
  rw [if_pos (Or.inl ht), if_neg (by omega), PhiA_I]
  unfold midΦ
  iintro ⟨⟨⟨⟨%B, HB⟩, ⟨%G, HG⟩, ⟨%L1, HL1⟩, ⟨%L2, HL2⟩⟩, Hr⟩, Ho, H0, ⟨%d1, H1⟩, ⟨%d2, H2⟩, ⟨%d3, H3⟩, H4, H5, ⟨%d6, H6⟩, ⟨%d7, H7⟩⟩
  iapply (body_first Variants.none c none Set.univ hs (xAt m c t) _ _ B (wAt m c t d1) (sAt m c t d2) (bAt m c t d3) G (L1, L2)) $$ [H0 H1 H2 H3 H6 H7 HB HG HL1 HL2]
  · iframe
    isplitl [HL1]
    · iexact HL1
    · iexact HL2
  have hX : xbF (xAt m c t) B = xbV m c := by rw [e0]; exact xbF_any _ _ _
  have hC : ∀ C, codesF (xAt m c t) C = (vdats m 0 c).after 6 t := fun C => by rw [vafter6, e0]; exact codesF_any _ _ _
  have hS : scalesF (xAt m c t) = (vdats m 0 c).after 7 t := by rw [vafter7, e0]
  have hL : blocksP (logitsOf (xbV m c) (wAt m c t d1) (sAt m c t d2) (bAt m c t d3)) (BitVec.ofNat 32 (grid0.coords t 0).val) (emptyL Ideal) 32 = listsAt (gAt m c) (t.val + 1) := by
    rw [coords_step, ← step_lists m c t d1 d2 d3]
    congr 1
    rw [ht]
    rfl
  rw [hX, hC, hS, hL]
  iintro ⟨H0, H1, H2, H3, H6, H7, HB, HG, HL⟩
  isplitl [HB HG HL Hr]
  · isplitr [Hr]
    · isplitl [HB]
      · iexact HB
      isplitl [HG]
      · iexists _
        iexact HG
      · iexact HL
    · iexact Hr
  isplitl [Ho]
  · iexact Ho
  isplitl [H0]
  · iexact H0
  isplitl [H1]
  · iapply (back1 m c t d1) $$ H1
  isplitl [H2]
  · iapply (back2 m c t d2) $$ H2
  isplitl [H3]
  · iapply (back3 m c t d3) $$ H3
  isplitl [H4]
  · iapply (keep4 m c t h4) $$ H4
  isplitl [H5]
  · iapply (keep5 m c t h4) $$ H5
  isplitl [H6]
  · rw [leaves_live m c 6 t hi6 rfl]
    iexact H6
  · rw [leaves_live m c 7 t hi7 rfl]
    iexact H7

/-- A point between. -/
theorem sound_mid (c : Dev nD) (t : Fin cfg0.N) (h0 : t.val ≠ 0) (h4 : t.val ≠ 74) :
    vPre m c t ⊢ wp frame (wpE (defs₀ (F := Ideal)) Variants.none c none) Set.univ (bodyAt0 t) (fun _ => vPost m c t) := by
  have hN : t.val < 75 := t.isLt
  have hs0 : BitVec.ofNat 32 (grid0.coords t 0).val ≠ 0#32 := fun h => h0 (by
    have := congrArg BitVec.toNat h
    rw [coords_step, BitVec.toNat_ofNat] at this
    have e : (0#32).toNat = 0 := rfl
    omega)
  have hs4 : BitVec.ofNat 32 (grid0.coords t 0).val ≠ 74#32 := fun h => h4 (by
    have := congrArg BitVec.toNat h
    rw [coords_step, BitVec.toNat_ofNat] at this
    have e : (74#32).toNat = 74 := rfl
    omega)
  unfold bodyAt0
  rw [body_eq]
  unfold vPre vPost phi
  rw [if_neg (by omega), if_neg (by omega)]
  unfold midΦ
  iintro ⟨⟨⟨HB, ⟨%G, HG⟩, HL⟩, Hr⟩, Ho, H0, ⟨%d1, H1⟩, ⟨%d2, H2⟩, ⟨%d3, H3⟩, H4, H5, H6, H7⟩
  iapply (body_mid Variants.none c none Set.univ hs0 hs4 (xbV m c) (wAt m c t d1) (sAt m c t d2) (bAt m c t d3) G (listsAt (gAt m c) t.val)) $$ [H1 H2 H3 HB HG HL]
  · iframe
  rw [coords_step, step_lists m c t d1 d2 d3]
  iintro ⟨⟨HB, H1, H2, H3, HG⟩, HL⟩
  isplitl [HB HG HL Hr]
  · isplitr [Hr]
    · isplitl [HB]
      · iexact HB
      isplitl [HG]
      · iexists _
        iexact HG
      · iexact HL
    · iexact Hr
  isplitl [Ho]
  · iexact Ho
  isplitl [H0]
  · iexact H0
  isplitl [H1]
  · iapply (back1 m c t d1) $$ H1
  isplitl [H2]
  · iapply (back2 m c t d2) $$ H2
  isplitl [H3]
  · iapply (back3 m c t d3) $$ H3
  isplitl [H4]
  · iapply (keep4 m c t h4) $$ H4
  isplitl [H5]
  · iapply (keep5 m c t h4) $$ H5
  isplitl [H6]
  · iapply (keep6 m c t h0) $$ H6
  · iapply (keep7 m c t h0) $$ H7

/-- The last point. -/
theorem sound_last (c : Dev nD) (t : Fin cfg0.N) (h4 : t.val = 74) :
    vPre m c t ⊢ wp frame (wpE (defs₀ (F := Ideal)) Variants.none c none) Set.univ (bodyAt0 t) (fun _ => vPost m c t) := by
  have h0 : t.val ≠ 0 := by omega
  have hs4 : BitVec.ofNat 32 (grid0.coords t 0).val = 74#32 := by rw [coords_step, h4]
  have hi4 : cfg0.idle 4 (cfg0.grid.coords t) = false := Bool.eq_false_iff.2 fun hh => (idle4 t).1 hh h4
  have hi5 : cfg0.idle 5 (cfg0.grid.coords t) = false := Bool.eq_false_iff.2 fun hh => (idle5 t).1 hh h4
  unfold bodyAt0
  rw [body_eq]
  unfold vPre vPost phi
  rw [if_neg (by omega), if_pos (by omega), PhiA_I]
  unfold midΦ
  iintro ⟨⟨⟨HB, ⟨%G, HG⟩, HL⟩, Hr⟩, Ho, H0, ⟨%d1, H1⟩, ⟨%d2, H2⟩, ⟨%d3, H3⟩, ⟨%d4, H4⟩, ⟨%d5, H5⟩, H6, H7⟩
  iapply (body_last Variants.none c none Set.univ hs4 (xbV m c) (wAt m c t d1) (sAt m c t d2) (bAt m c t d3) G (listsAt (gAt m c) t.val) _ _) $$ [H1 H2 H3 H4 H5 HB HG HL]
  · iframe
  have hL : listsAt (gAt m c) (t.val + 1) = lastL m c := by rw [h4]; rfl
  rw [coords_step, step_lists m c t d1 d2 d3, hL]
  iintro ⟨⟨HB, H1, H2, H3, HG⟩, ⟨%L', HL1, HL2⟩, H4, H5⟩
  isplitl [HB HG HL1 HL2 Hr]
  · isplitr [Hr]
    · isplitl [HB]
      · iexists _
        iexact HB
      isplitl [HG]
      · iexists _
        iexact HG
      isplitl [HL1]
      · iexists _
        iexact HL1
      · iexists _
        iexact HL2
    · iexact Hr
  isplitl [Ho]
  · iexact Ho
  isplitl [H0]
  · iexact H0
  isplitl [H1]
  · iapply (back1 m c t d1) $$ H1
  isplitl [H2]
  · iapply (back2 m c t d2) $$ H2
  isplitl [H3]
  · iapply (back3 m c t d3) $$ H3
  isplitl [H4]
  · rw [leaves_live m c 4 t hi4 rfl, vafter4]
    iexact H4
  isplitl [H5]
  · rw [leaves_live m c 5 t hi5 rfl, vafter5]
    iexact H5
  isplitl [H6]
  · iapply (keep6 m c t h0) $$ H6
  · iapply (keep7 m c t h0) $$ H7

theorem sound_val (c : Dev nD) (t : Fin cfg0.N) :
    vPre m c t ⊢ wp frame (wpE (defs₀ (F := Ideal)) Variants.none c none) Set.univ (bodyAt0 t) (fun _ => vPost m c t) := by
  by_cases h0 : t.val = 0
  · exact sound_first m c t h0
  by_cases h4 : t.val = 74
  · exact sound_last m c t h4
  · exact sound_mid m c t h0 h4

/-- The library's body obligation. -/
theorem body_val (c : Dev nD) : BodyObligationLoose (vdats m 0 c) (defs₀ (F := Ideal)) Variants.none () Set.univ := fun t => by
  rw [bigSep_W0, bigSep_W0]
  refine triple_restated (sound_val m c t) rfl ?_ fun _ => ?_
  · show iprop(phi m c t.val ∗ (vdats m 0 c).owesAt () t.castSucc
      ∗ (∃ d, own c (st0_0 t) ((vdats m 0 c).before 0 t d)) ∗ (∃ d, own c (st0_1 t) ((vdats m 0 c).before 1 t d))
      ∗ (∃ d, own c (st0_2 t) ((vdats m 0 c).before 2 t d)) ∗ (∃ d, own c (st0_3 t) ((vdats m 0 c).before 3 t d))
      ∗ (∃ d, own c (st0_4 t) ((vdats m 0 c).before 4 t d)) ∗ (∃ d, own c (st0_5 t) ((vdats m 0 c).before 5 t d))
      ∗ (∃ d, own c (st0_6 t) ((vdats m 0 c).before 6 t d)) ∗ (∃ d, own c (st0_7 t) ((vdats m 0 c).before 7 t d))) ⊢ _
    simp only [vbefore0, vbefore1, vbefore2, vbefore3]
    unfold vPre
    iintro ⟨HΦ, Ho, ⟨%d0, H0⟩, H⟩
    isplitl [HΦ]
    · iexact HΦ
    isplitl [Ho]
    · iexact Ho
    isplitl [H0]
    · iexact H0
    · iexact H
  · exact .rfl

/-- What holds when the kernel has run: every array at what the data say. -/
abbrev vEnd (c : Dev nD) : (b : Ref sig .tc) → Buf (Elt Ideal) ((c.tc : Thread nD τ).loc b) :=
  Pipeline.afterTail₀ cfgs (vdats m) 0 (V0 m) [hostOps1] c

set_option backward.isDefEq.respectTransparency.types false in
set_option maxHeartbeats 800000 in
theorem val_run : θ_run defs (onTc (τ := τ) (main (F := Ideal))) (s₀ m ρ) (fun r => (Pipeline.FramePost cfgs (vdats m) 0 (Pipeline.afterTail₀ cfgs (vdats m) 0 (V0 m) [hostOps1])) r ∧ r.2.sem = fun _ => 0) :=
  Pipeline.θ_run_frame_around_track (Q' := _) cfgs (vdats m) (0 : Fin 1) launch0 defs₀ Variants.none m ρ main
    (hbody := fun c => body_val m c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA m)
    (hin := fun c => by show _ ⊢ phi m c 0; unfold phi; rw [if_pos (Or.inl rfl)])
    (hout := fun c => by show phi m c 75 ⊢ _; unfold phi; rw [if_pos (Or.inr rfl)])
    (hQ' := fun _ h => h)

end Cert.KernelIdeal.Hand
-- ==== Proof.Untied.lean ====
/- The indices that equal values cannot exchange: of the first seven places, those whose value is found once. -/
module

public import proofs.«01_k».proof.Proof.RowMath
public import Idealize.ShloMosaic.Lib.Pointwise
public import Idealize.ShloMosaic.Lib.ValueIdx

@[expose] public section

noncomputable section

namespace Cert.Head

open Idealize.ShloMosaic

abbrev U0 : Shape := ⟨0, ![]⟩
abbrev U3 : Shape := ⟨3, ![256, 1, 8]⟩
abbrev UA : Shape := ⟨4, ![256, 1, 8, 1]⟩
abbrev UB : Shape := ⟨4, ![256, 1, 1, 8]⟩
abbrev U4 : Shape := ⟨4, ![256, 1, 8, 8]⟩

theorem bU3A : U3.BroadcastsInDim UA (![0, 1, 2] : Fin 3 → Fin UA.rank) := by decide
theorem bU3B : U3.BroadcastsInDim UB (![0, 1, 3] : Fin 3 → Fin UB.rank) := by decide
theorem bUA4 : UA.BroadcastsInDim U4 (![0, 1, 2, 3] : Fin 4 → Fin U4.rank) := by decide
theorem bUB4 : UB.BroadcastsInDim U4 (![0, 1, 2, 3] : Fin 4 → Fin U4.rank) := by decide
theorem bU03 : U0.BroadcastsInDim U3 (![] : Fin 0 → Fin U3.rank) := by decide
theorem rU43 : U4.ReducesTo [3] U3 := by decide
theorem hU0 : 0 < U0.numel := by decide

/-- Where a value differs from another place's, or the places are one. -/
def apart (V : FVec Ideal U3 .f32) : IVec U4 1 :=
  ori (cmpf .une (broadcastInDim U4 ![0, 1, 2, 3] bUA4 (broadcastInDim UA ![0, 1, 2] bU3A V : FVec Ideal UA .f32) : FVec Ideal U4 .f32)
      (broadcastInDim U4 ![0, 1, 2, 3] bUB4 (broadcastInDim UB ![0, 1, 3] bU3B V : FVec Ideal UB .f32) : FVec Ideal U4 .f32))
    (cmpi .eq (iotaInDim U4 32 2) (iotaInDim U4 32 3))
/-- The places whose index is kept. -/
def kept (V : FVec Ideal U3 .f32) : IVec U3 1 :=
  andi (Host.reduce IntOp.andi (apart V) (constantI U0 1 1#1) rU43 hU0)
    (cmpi .slt (iotaInDim U3 32 2) (broadcastInDim U3 ![] bU03 (constantI U0 32 7#32)))
/-- The indices there, and -1 elsewhere. -/
def untied (V : FVec Ideal U3 .f32) (I : IVec U3 32) : IVec U3 32 :=
  select (kept V) I (broadcastInDim U3 ![] bU03 (constantI U0 32 4294967295#32))

theorem and_one : ∀ a b : BitVec 1, IntOp.andi a b = 1#1 ↔ a = 1#1 ∧ b = 1#1 := by decide
theorem or_one : ∀ a b : BitVec 1, IntOp.ori a b = 1#1 ↔ a = 1#1 ∨ b = 1#1 := by decide

theorem fold_and {ι : Type} [DecidableEq ι] (s : Finset ι) (g : ι → BitVec 1) (h : s.fold IntOp.andi 1#1 g = 1#1) : ∀ r ∈ s, g r = 1#1 := by
  induction s using Finset.induction_on with
  | empty => intro r hr; exact absurd hr (Finset.notMem_empty r)
  | insert a s ha ih =>
    rw [Finset.fold_insert ha, and_one] at h
    intro r hr
    rcases Finset.mem_insert.1 hr with rfl | hr
    · exact h.1
    · exact ih h.2 r hr

theorem tag_eq : ∀ q r : Fin 8, IntOp.cmpi .eq (BitVec.ofNat 32 q.val) (BitVec.ofNat 32 r.val) = 1#1 → r = q := by decide
theorem tag_lt : ∀ q : Fin 8, IntOp.cmpi .slt (BitVec.ofNat 32 q.val) 7#32 = 1#1 → q.val < 7 := by decide

theorem apart_at (V : FVec Ideal U3 .f32) (n : Fin 256) (q r : Fin 8) (h : apart V (ix4 n (0 : Fin 1) q r) = 1#1) :
    r = q ∨ (V (ix3 n (0 : Fin 1) q) : EReal) ≠ V (ix3 n (0 : Fin 1) r) := by
  have e1 : (broadcastInDim U4 ![0, 1, 2, 3] bUA4 (broadcastInDim UA ![0, 1, 2] bU3A V : FVec Ideal UA .f32) : FVec Ideal U4 .f32) (ix4 n (0 : Fin 1) q r) = V (ix3 n (0 : Fin 1) q) := by
    pointwise
  have e2 : (broadcastInDim U4 ![0, 1, 2, 3] bUB4 (broadcastInDim UB ![0, 1, 3] bU3B V : FVec Ideal UB .f32) : FVec Ideal U4 .f32) (ix4 n (0 : Fin 1) q r) = V (ix3 n (0 : Fin 1) r) := by
    pointwise
  have h' := (or_one _ _).1 h
  rcases h' with h | h
  · right
    intro he
    have h2 : Ideal.cmp .une ((broadcastInDim U4 ![0, 1, 2, 3] bUA4 (broadcastInDim UA ![0, 1, 2] bU3A V : FVec Ideal UA .f32) : FVec Ideal U4 .f32) (ix4 n (0 : Fin 1) q r))
      ((broadcastInDim U4 ![0, 1, 2, 3] bUB4 (broadcastInDim UB ![0, 1, 3] bU3B V : FVec Ideal UB .f32) : FVec Ideal U4 .f32) (ix4 n (0 : Fin 1) q r)) = 1#1 := h
    rw [e1, e2, he] at h2
    simp [Ideal.cmp] at h2
  · left
    exact tag_eq q r h

/-- A place that is kept is one of the first seven, and no other has its value. -/
theorem kept_at (V : FVec Ideal U3 .f32) (n : Fin 256) (q : Fin 8) (h : kept V (ix3 n (0 : Fin 1) q) = 1#1) :
    q.val < 7 ∧ ∀ r, r ≠ q → (V (ix3 n (0 : Fin 1) q) : EReal) ≠ V (ix3 n (0 : Fin 1) r) := by
  obtain ⟨h1, h2⟩ := (and_one _ _).1 h
  constructor
  · exact tag_lt q h2
  · intro r hr
    rw [Host.reduce_eq_fold, Shape.ReducesTo.fold_fiber_r4_a3] at h1
    exact (apart_at V n q r (fold_and _ _ h1 r (Finset.mem_univ r))).resolve_left hr

theorem untied_at (V : FVec Ideal U3 .f32) (I J : IVec U3 32) (n : Fin 256) (q : Fin 8)
    (h : q.val < 7 → (∀ r, r ≠ q → (V (ix3 n (0 : Fin 1) q) : EReal) ≠ V (ix3 n (0 : Fin 1) r)) → I (ix3 n (0 : Fin 1) q) = J (ix3 n (0 : Fin 1) q)) :
    untied V I (ix3 n (0 : Fin 1) q) = untied V J (ix3 n (0 : Fin 1) q) := by
  unfold untied
  rw [ValueIdx.select_apply, ValueIdx.select_apply]
  by_cases hk : kept V (ix3 n (0 : Fin 1) q) = 1#1
  · obtain ⟨h1, h2⟩ := kept_at V n q hk
    rw [h h1 h2]
  · unfold Scalar.select
    exact (if_neg hk).trans (if_neg hk).symm

end Cert.Head
-- ==== Proof.IResult.lean ====
/- The kernel's results at an index, from its arguments. -/
module

public import proofs.«01_k».proof.Proof.IValRun
public import proofs.«01_k».proof.Proof.Untied
public import Idealize.ShloMosaic.Lib.Pipeline.ValueKit
public import Idealize.ShloMosaic.Lib.ValueLayoutCasts
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)
open Cert.Head

variable (m : (ℓ : Loc nD τ sig) → Buf (Elt Ideal) ℓ) (ρ : Dev nD → PrngReg)

/-- A unit axis put in or taken out in the middle. -/
theorem spread_at {α : Type} {a b : ℕ} (x : (⟨2, ![a, b]⟩ : Shape).Idx → α) (h : (⟨2, ![a, b]⟩ : Shape).ShapeCasts ⟨3, ![a, 1, b]⟩) (i : Fin a) (j : Fin b) :
    shapeCast ⟨3, ![a, 1, b]⟩ x h (ix3 i (0 : Fin 1) j) = x (ix2 i j) :=
  shapeCast_apply x h _ _ (by
    rw [Shape.rowMajor_val_two, Shape.rowMajor_val_three]
    show i.val * b + j.val = (i.val * 1 + 0) * b + j.val
    rw [Nat.mul_one, Nat.add_zero])
theorem squeeze_at {α : Type} {a b : ℕ} (x : (⟨3, ![a, 1, b]⟩ : Shape).Idx → α) (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_two, Shape.rowMajor_val_three]
    show (i.val * 1 + 0) * b + j.val = i.val * b + j.val
    rw [Nat.mul_one, Nat.add_zero])

/-- The arguments: tokens, experts, scales, biases. -/
def a0 (c : Dev nD) : Vec Ideal S256x1x3584 .bf16 := m ((c.tc : Thread nD τ).loc main_arg0)
def a1 (c : Dev nD) : Vec Ideal S38016x3584 .fp8e4m3 := m ((c.tc : Thread nD τ).loc main_arg1)
def a2 (c : Dev nD) : Vec Ideal S38016 .f32 := m ((c.tc : Thread nD τ).loc main_arg2)
def a3 (c : Dev nD) : Vec Ideal S38016 .f32 := m ((c.tc : Thread nD τ).loc main_arg3)

theorem pre0 (X : Valuation τ sig (Elt Ideal)) : after hostOps0 X (Proc.devRef .tc main_v0)
    = (shapeCast S256x3584 (X (Proc.devRef .tc main_arg0) : Vec Ideal S256x1x3584 .bf16) shapeCasts_S256x1x3584_S256x3584 : Vec Ideal S256x3584 .bf16) := by
  after_results
  rfl
theorem pre1 (X : Valuation τ sig (Elt Ideal)) : after hostOps0 X (Proc.devRef .tc main_v1)
    = (shapeCast S1x38016 (X (Proc.devRef .tc main_arg2) : Vec Ideal S38016 .f32) shapeCasts_S38016_S1x38016 : Vec Ideal S1x38016 .f32) := by
  after_results
  rfl
theorem pre2 (X : Valuation τ sig (Elt Ideal)) : after hostOps0 X (Proc.devRef .tc main_v2)
    = (shapeCast S1x38016 (X (Proc.devRef .tc main_arg3) : Vec Ideal S38016 .f32) shapeCasts_S38016_S1x38016 : Vec Ideal S1x38016 .f32) := by
  after_results
  rfl
theorem post5 (X : Valuation τ sig (Elt Ideal)) : after hostOps1 X (Proc.devRef .tc main_v5)
    = (shapeCast S256x1x8 (transpose S256x8 [1, 0] (X (Proc.devRef .tc main_v3_0) : Vec Ideal S8x256 .f32) transposes_S8x256_S256x8_1_0 : Vec Ideal S256x8 .f32) shapeCasts_S256x8_S256x1x8 : Vec Ideal S256x1x8 .f32) := by
  after_results
  rfl
theorem post25 (X : Valuation τ sig (Elt Ideal)) : after hostOps1 X (Proc.devRef .tc main_v25)
    = (untied (shapeCast S256x1x8 (transpose S256x8 [1, 0] (X (Proc.devRef .tc main_v3_0) : Vec Ideal S8x256 .f32) transposes_S8x256_S256x8_1_0 : Vec Ideal S256x8 .f32) shapeCasts_S256x8_S256x1x8)
        (shapeCast S256x1x8 (transpose S256x8 [1, 0] (X (Proc.devRef .tc main_v3_1) : IVec S8x256 32) transposes_S8x256_S256x8_1_0 : IVec S256x8 32) shapeCasts_S256x8_S256x1x8) : IVec S256x1x8 32) := by
  after_results
  rfl
theorem post8 (X : Valuation τ sig (Elt Ideal)) : after hostOps1 X (Proc.devRef .tc main_v8)
    = (shapeCast S256x1x3584 (X (Proc.devRef .tc main_v3_2) : Vec Ideal S256x3584 .fp8e4m3) shapeCasts_S256x3584_S256x1x3584 : Vec Ideal S256x1x3584 .fp8e4m3) := by
  after_results
  rfl
theorem post9 (X : Valuation τ sig (Elt Ideal)) : after hostOps1 X (Proc.devRef .tc main_v9)
    = (transpose S256x1x28 [2, 1, 0] (X (Proc.devRef .tc main_v3_3) : Vec Ideal S28x1x256 .f32) transposes_S28x1x256_S256x1x28_2_1_0 : Vec Ideal S256x1x28 .f32) := by
  after_results

theorem final4 (c : Dev nD) : (vdats m 0 c).arrAt 4 cfg0.N = (selV (lastL m c) : Vec Ideal S8x256 .f32) :=
  (vdats m 0 c).arrAt_eq_of_after_last 4 (⟨74, by decide⟩ : Fin cfg0.N) (by decide +kernel) _ fun j => by
    rw [vafter4]; rfl
theorem final5 (c : Dev nD) : (vdats m 0 c).arrAt 5 cfg0.N = (selI (lastL m c) : IVec S8x256 32) :=
  (vdats m 0 c).arrAt_eq_of_after_last 5 (⟨74, by decide⟩ : Fin cfg0.N) (by decide +kernel) _ fun j => by
    rw [vafter5]; rfl
theorem final6 (c : Dev nD) : (vdats m 0 c).arrAt 6 cfg0.N = (codesF (xAt m c t0) (fun _ => (0 : EReal)) : Vec Ideal S256x3584 .fp8e4m3) :=
  (vdats m 0 c).arrAt_eq_of_after_last 6 (⟨74, by decide⟩ : Fin cfg0.N) (by decide +kernel) _ fun j => by
    rw [vafter6]; rfl
theorem final7 (c : Dev nD) : (vdats m 0 c).arrAt 7 cfg0.N = (scalesF (xAt m c t0) : Vec Ideal S28x1x256 .f32) :=
  (vdats m 0 c).arrAt_eq_of_after_last 7 (⟨74, by decide⟩ : Fin cfg0.N) (by decide +kernel) _ fun j => by
    rw [vafter7]; rfl

theorem arrs_inj : Function.Injective (Pipeline.arrRef spec0) := by decide

/-- The results, -/
theorem end5 (c : Dev nD) : vEnd m c main_v5
    = (shapeCast S256x1x8 (transpose S256x8 [1, 0] (selV (lastL m c) : Vec Ideal S8x256 .f32) transposes_S8x256_S256x8_1_0 : Vec Ideal S256x8 .f32) shapeCasts_S256x8_S256x1x8 : Vec Ideal S256x1x8 .f32) := by
  unfold vEnd Pipeline.afterTail₀
  rw [show List.flatten [hostOps1] = (hostOps1 : List (HloOp τ sig (Elt Ideal))) from List.append_nil _, post5]
  rw [show Pipeline.withArrays (cfgs 0).spec c (V0 m c) (fun w => (vdats m 0 c).arrAt w (cfgs 0).N) (Proc.devRef .tc main_v3_0) = _ from
    (Pipeline.withArrays_arr spec0 arrs_inj c (V0 m c) (fun w => (vdats m 0 c).arrAt w (cfgs 0).N) 4).trans (final4 m c)]
theorem end25 (c : Dev nD) : vEnd m c main_v25
    = (untied (shapeCast S256x1x8 (transpose S256x8 [1, 0] (selV (lastL m c) : Vec Ideal S8x256 .f32) transposes_S8x256_S256x8_1_0 : Vec Ideal S256x8 .f32) shapeCasts_S256x8_S256x1x8)
        (shapeCast S256x1x8 (transpose S256x8 [1, 0] (selI (lastL m c) : IVec S8x256 32) transposes_S8x256_S256x8_1_0 : IVec S256x8 32) shapeCasts_S256x8_S256x1x8) : IVec S256x1x8 32) := by
  unfold vEnd Pipeline.afterTail₀
  rw [show List.flatten [hostOps1] = (hostOps1 : List (HloOp τ sig (Elt Ideal))) from List.append_nil _, post25]
  rw [show Pipeline.withArrays (cfgs 0).spec c (V0 m c) (fun w => (vdats m 0 c).arrAt w (cfgs 0).N) (Proc.devRef .tc main_v3_0) = _ from
    (Pipeline.withArrays_arr spec0 arrs_inj c (V0 m c) (fun w => (vdats m 0 c).arrAt w (cfgs 0).N) 4).trans (final4 m c)]
  rw [show Pipeline.withArrays (cfgs 0).spec c (V0 m c) (fun w => (vdats m 0 c).arrAt w (cfgs 0).N) (Proc.devRef .tc main_v3_1) = _ from
    (Pipeline.withArrays_arr spec0 arrs_inj c (V0 m c) (fun w => (vdats m 0 c).arrAt w (cfgs 0).N) 5).trans (final5 m c)]
theorem end8 (c : Dev nD) : vEnd m c main_v8
    = (shapeCast S256x1x3584 (codesF (xAt m c t0) (fun _ => (0 : EReal)) : Vec Ideal S256x3584 .fp8e4m3) shapeCasts_S256x3584_S256x1x3584 : Vec Ideal S256x1x3584 .fp8e4m3) := by
  unfold vEnd Pipeline.afterTail₀
  rw [show List.flatten [hostOps1] = (hostOps1 : List (HloOp τ sig (Elt Ideal))) from List.append_nil _, post8]
  rw [show Pipeline.withArrays (cfgs 0).spec c (V0 m c) (fun w => (vdats m 0 c).arrAt w (cfgs 0).N) (Proc.devRef .tc main_v3_2) = _ from
    (Pipeline.withArrays_arr spec0 arrs_inj c (V0 m c) (fun w => (vdats m 0 c).arrAt w (cfgs 0).N) 6).trans (final6 m c)]
theorem end9 (c : Dev nD) : vEnd m c main_v9
    = (transpose S256x1x28 [2, 1, 0] (scalesF (xAt m c t0) : Vec Ideal S28x1x256 .f32) transposes_S28x1x256_S256x1x28_2_1_0 : Vec Ideal S256x1x28 .f32) := by
  unfold vEnd Pipeline.afterTail₀
  rw [show List.flatten [hostOps1] = (hostOps1 : List (HloOp τ sig (Elt Ideal))) from List.append_nil _, post9]
  rw [show Pipeline.withArrays (cfgs 0).spec c (V0 m c) (fun w => (vdats m 0 c).arrAt w (cfgs 0).N) (Proc.devRef .tc main_v3_3) = _ from
    (Pipeline.withArrays_arr spec0 arrs_inj c (V0 m c) (fun w => (vdats m 0 c).arrAt w (cfgs 0).N) 7).trans (final7 m c)]

/-- at an index. -/
theorem end5_at (c : Dev nD) (n : Fin 256) (q : Fin 8) : (vEnd m c main_v5 : Vec Ideal S256x1x8 .f32) (ix3 n (0 : Fin 1) q) = selV (lastL m c) (ix2 q n) := by
  rw [end5]
  refine (spread_at _ _ _ _).trans ?_
  pointwise
theorem indices_at (c : Dev nD) (n : Fin 256) (q : Fin 8) :
    (shapeCast S256x1x8 (transpose S256x8 [1, 0] (selI (lastL m c) : IVec S8x256 32) transposes_S8x256_S256x8_1_0 : IVec S256x8 32) shapeCasts_S256x8_S256x1x8 : IVec S256x1x8 32) (ix3 n (0 : Fin 1) q)
      = selI (lastL m c) (ix2 q n) := by
  refine (spread_at _ _ _ _).trans ?_
  pointwise
theorem end8_at (c : Dev nD) (n : Fin 256) (k : Fin 3584) : (vEnd m c main_v8 : Vec Ideal S256x1x3584 .fp8e4m3) (ix3 n (0 : Fin 1) k) = codesF (xAt m c t0) (fun _ => (0 : EReal)) (ix2 n k) := by
  rw [end8]
  exact spread_at _ _ _ _
theorem end9_at (c : Dev nD) (n : Fin 256) (q : Fin 28) : (vEnd m c main_v9 : Vec Ideal S256x1x28 .f32) (ix3 n (0 : Fin 1) q) = scalesF (xAt m c t0) (ix3 q (0 : Fin 1) n) := by
  rw [end9]
  pointwise

/-- The blocks at an index. -/
theorem flat0 : List.flatten [hostOps0] = (hostOps0 : List (HloOp τ sig (Elt Ideal))) := List.append_nil _

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![0, t.val] := by decide +kernel
theorem idx3 : ∀ t : Fin cfg0.N, win0_3.index t = ![0, t.val] := by decide +kernel

theorem xAt_at (c : Dev nD) (t : Fin cfg0.N) (n : Fin 256) (k : Fin 3584) : xAt m c t (ix2 n k) = a0 m c (ix3 n (0 : Fin 1) k) := by
  have hv : (V m c main_v0 : Vec Ideal S256x3584 .bf16) = shapeCast S256x3584 (a0 m c) shapeCasts_S256x1x3584_S256x3584 := by
    show after (List.flatten [hostOps0]) _ _ = _
    rw [flat0, pre0]; rfl
  have hx : xAt m c t (ix2 n k) = (V m c main_v0 : Vec Ideal S256x3584 .bf16) (ix2 n k) := by
    show (V m c main_v0 : Vec Ideal S256x3584 .bf16) (((cfg0.win 0).blk t).view.emb (ix2 n k)) = _
    congr 1
    funext a
    apply Fin.ext
    fin_cases a <;> blk_simp [idx0 t] <;> simp
  rw [hx, hv]
  exact squeeze_at _ _ _ _
theorem wZ_at (c : Dev nD) (t : Fin cfg0.N) (j : Fin 512) (k : Fin 3584) (h : 512 * t.val + j.val < 38016) :
    wZ m c t (ix2 j k) = a1 m c (ix2 ⟨512 * t.val + j.val, h⟩ k) := by
  have hv : (V m c main_arg1 : Vec Ideal S38016x3584 .fp8e4m3) = a1 m c := V_main_arg1 m c
  unfold wZ wAt Window.fill
  rw [dif_pos (moved1 t j k h)]
  show (V m c main_arg1 : Vec Ideal S38016x3584 .fp8e4m3) (((cfg0.win 1).blk t).view.emb _) = _
  rw [hv]
  congr 1
  funext a
  apply Fin.ext
  fin_cases a <;> blk_simp [idx1 t] <;> simp <;> omega
theorem sZ_at (c : Dev nD) (t : Fin cfg0.N) (j : Fin 512) (h : 512 * t.val + j.val < 38016) :
    sZ m c t (ix2 (0 : Fin 1) j) = a2 m c (ix1 ⟨512 * t.val + j.val, h⟩) := by
  have hv : (V m c main_v1 : Vec Ideal S1x38016 .f32) = shapeCast S1x38016 (a2 m c) shapeCasts_S38016_S1x38016 := by
    show after (List.flatten [hostOps0]) _ _ = _
    rw [flat0, pre1]; rfl
  unfold sZ sAt Window.fill
  rw [dif_pos (moved2 t j h)]
  show (V m c main_v1 : Vec Ideal S1x38016 .f32) (((cfg0.win 2).blk t).view.emb _) = _
  rw [hv]
  refine Eq.trans (congrArg _ ?_) (ValueIdx.shapeCast_a_1a_apply (a2 m c) shapeCasts_S38016_S1x38016 (0 : Fin 1) ⟨512 * t.val + j.val, h⟩)
  funext a
  apply Fin.ext
  fin_cases a <;> blk_simp [idx2 t] <;> simp <;> omega
theorem bZ_at (c : Dev nD) (t : Fin cfg0.N) (j : Fin 512) (h : 512 * t.val + j.val < 38016) :
    bZ m c t (ix2 (0 : Fin 1) j) = a3 m c (ix1 ⟨512 * t.val + j.val, h⟩) := by
  have hv : (V m c main_v2 : Vec Ideal S1x38016 .f32) = shapeCast S1x38016 (a3 m c) shapeCasts_S38016_S1x38016 := by
    show after (List.flatten [hostOps0]) _ _ = _
    rw [flat0, pre2]; rfl
  unfold bZ bAt Window.fill
  rw [dif_pos (moved3 t j h)]
  show (V m c main_v2 : Vec Ideal S1x38016 .f32) (((cfg0.win 3).blk t).view.emb _) = _
  rw [hv]
  refine Eq.trans (congrArg _ ?_) (ValueIdx.shapeCast_a_1a_apply (a3 m c) shapeCasts_S38016_S1x38016 (0 : Fin 1) ⟨512 * t.val + j.val, h⟩)
  funext a
  apply Fin.ext
  fin_cases a <;> blk_simp [idx3 t] <;> simp <;> omega

end Cert.KernelIdeal.Hand
-- ==== Proof.IEnd.lean ====
/- The kernel's run, read at its results. -/
module

public import proofs.«01_k».proof.Proof.IResult

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The run ends with those results and the arguments unchanged. -/
theorem ends : θ_run defs (onTc (τ := τ) (main (F := Ideal))) ⟨m, fun _ => 0, ρ⟩ (fun r => ∀ c : Dev nD,
      r.2.mem ((c.tc : Thread nD τ).loc main_v5) = vEnd m c main_v5
      ∧ r.2.mem ((c.tc : Thread nD τ).loc main_v25) = vEnd m c main_v25
      ∧ r.2.mem ((c.tc : Thread nD τ).loc main_v8) = vEnd m c main_v8
      ∧ r.2.mem ((c.tc : Thread nD τ).loc main_v9) = vEnd m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hq c => have h := hq.1
    ⟨(h c).2 main_v5 (Pipeline.mem_restRefs_of main_v5 (by decide) (by decide)),
      (h c).2 main_v25 (Pipeline.mem_restRefs_of main_v25 (by decide) (by decide)),
      (h c).2 main_v8 (Pipeline.mem_restRefs_of main_v8 (by decide) (by decide)),
      (h c).2 main_v9 (Pipeline.mem_restRefs_of main_v9 (by decide) (by decide)),
      ((h c).2 main_arg0 (Pipeline.mem_restRefs_of main_arg0 (by decide) (by decide))).trans (W_main_arg0 m (vdats m) c),
      ((h c).1 1).trans (((vdats m 0 c).arrAt_in 1 rfl _).trans (V_main_arg1 m c)),
      ((h c).2 main_arg2 (Pipeline.mem_restRefs_of main_arg2 (by decide) (by decide))).trans (W_main_arg2 m (vdats m) c),
      ((h c).2 main_arg3 (Pipeline.mem_restRefs_of main_arg3 (by decide) (by decide))).trans (W_main_arg3 m (vdats m) c)⟩) (val_run m ρ)

end Cert.KernelIdeal.Hand
-- ==== Proof.RefRun.lean ====
/- What the reference's host operations leave, as functions of the arguments. -/
module

public import proofs.«01_k».proof.Proof.Gen.ReferenceIdeal.Frame
public import proofs.«01_k».proof.Proof.Untied
public import Idealize.ShloMosaic.Lib.Pipeline.ValueKit
public import Idealize.ShloMosaic.Lib.StableHlo.Run

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

/-- The tokens in groups, and each group's greatest magnitude. -/
def xR (x : FVec Ideal S256x1x3584 .bf16) : FVec Ideal S256x1x28x128 .f32 :=
  shapeCast S256x1x28x128 (extf .f32 x bitsLt_bf16_f32 : FVec Ideal S256x1x3584 .f32) shapeCasts_S256x1x3584_S256x1x28x128
def amaxR (x : FVec Ideal S256x1x3584 .bf16) : FVec Ideal S256x1x28 .f32 :=
  Host.reduce FloatOps.maximumf (Host.absf (xR x)) (constant (F := Ideal) S_ .f32 0xFF800000#32) reducesTo_S256x1x28x128_S256x1x28_d3 h_S_
/-- The exponents tried. -/
def tryR : FVec Ideal S278 .f32 :=
  addf (broadcastInDim S278 ![] bcast_S_S278 (constant (F := Ideal) S_ .f32 0xC3150000#32)) (sitofp .f32 (iotaInDim S278 32 0))
def powR : FVec Ideal S278 .f32 := Host.powf (broadcastInDim S278 ![] bcast_S_S278 (constant (F := Ideal) S_ .f32 0x40000000#32)) tryR
/-- Which powers exceed the group's target. -/
def overR (x : FVec Ideal S256x1x3584 .bf16) : IVec S256x1x28x278 1 :=
  cmpf .olt (broadcastInDim S256x1x28x278 ![0, 1, 2, 3] bcast_S256x1x28x1_S256x1x28x278_0_1_2_3 (broadcastInDim S256x1x28x1 ![0, 1, 2] bcast_S256x1x28_S256x1x28x1_0_1_2
      (mulf (amaxR x) (broadcastInDim S256x1x28 ![] bcast_S_S256x1x28 (constant (F := Ideal) S_ .f32 0x3B124925#32)))))
    (broadcastInDim S256x1x28x278 ![0, 1, 2, 3] bcast_S1x1x1x278_S256x1x28x278_0_1_2_3 (broadcastInDim S1x1x1x278 ![3] bcast_S278_S1x1x1x278_3 powR))
/-- The exponent chosen, before the groups of zeros are set apart. -/
def leastR (x : FVec Ideal S256x1x3584 .bf16) : FVec Ideal S256x1x28 .f32 :=
  Host.reduce FloatOps.minimumf
    (select (overR x) (broadcastInDim S256x1x28x278 ![3] bcast_S278_S256x1x28x278_3 tryR) (broadcastInDim S256x1x28x278 ![] bcast_S_S256x1x28x278 (constant (F := Ideal) S_ .f32 0x7F800000#32)) : FVec Ideal S256x1x28x278 .f32)
    (constant (F := Ideal) S_ .f32 0x7F800000#32) reducesTo_S256x1x28x278_S256x1x28_d3 h_S_
def expR (x : FVec Ideal S256x1x3584 .bf16) : FVec Ideal S256x1x28 .f32 :=
  select (cmpf .oeq (amaxR x) (broadcastInDim S256x1x28 ![] bcast_S_S256x1x28 (constant (F := Ideal) S_ .f32 0x00000000#32)))
    (broadcastInDim S256x1x28 ![] bcast_S_S256x1x28 (constant (F := Ideal) S_ .f32 0x00000000#32)) (leastR x)
def twoR : FVec Ideal S256x1x28 .f32 := broadcastInDim S256x1x28 ![] bcast_S_S256x1x28 (constant (F := Ideal) S_ .f32 0x40000000#32)
/-- Scales and codes. -/
def scaleR (x : FVec Ideal S256x1x3584 .bf16) : FVec Ideal S256x1x28 .f32 := Host.powf twoR (expR x)
def clipR (x : FVec Ideal S256x1x3584 .bf16) : FVec Ideal S256x1x28x128 .f32 :=
  minimumf (broadcastInDim S256x1x28x128 ![] bcast_S_S256x1x28x128 (constant (F := Ideal) S_ .f32 0x43E00000#32))
    (maximumf (broadcastInDim S256x1x28x128 ![] bcast_S_S256x1x28x128 (constant (F := Ideal) S_ .f32 0xC3E00000#32))
      (mulf (xR x) (broadcastInDim S256x1x28x128 ![0, 1, 2, 3] bcast_S256x1x28x1_S256x1x28x128_0_1_2_3 (broadcastInDim S256x1x28x1 ![0, 1, 2] bcast_S256x1x28_S256x1x28x1_0_1_2 (Host.powf twoR (Host.negf (expR x)))))))
def codesR (x : FVec Ideal S256x1x3584 .bf16) : FVec Ideal S256x1x3584 .fp8e4m3 :=
  shapeCast S256x1x3584 (Host.convertf .fp8e4m3 (clipR x) : FVec Ideal S256x1x28x128 .fp8e4m3) shapeCasts_S256x1x28x128_S256x1x3584
def flatCodesR (x : FVec Ideal S256x1x3584 .bf16) : FVec Ideal S256x3584 .fp8e4m3 :=
  shapeCast S256x3584 (codesR x) shapeCasts_S256x1x3584_S256x3584
def flatScaleR (x : FVec Ideal S256x1x3584 .bf16) : FVec Ideal S256x3584 .f32 :=
  shapeCast S256x3584 (broadcastInDim S256x1x28x128 ![0, 1, 2, 3] bcast_S256x1x28x1_S256x1x28x128_0_1_2_3 (broadcastInDim S256x1x28x1 ![0, 1, 2] bcast_S256x1x28_S256x1x28x1_0_1_2 (scaleR x))) shapeCasts_S256x1x28x128_S256x3584
/-- Logits from the products, and the greatest eight of each row. -/
def logitsR (P : FVec Ideal S256x38016 .f32) (s b : FVec Ideal S38016 .f32) : FVec Ideal S256x38016 .f32 :=
  addf (mulf P (broadcastInDim S256x38016 ![0, 1] bcast_S1x38016_S256x38016_0_1 (broadcastInDim S1x38016 ![1] bcast_S38016_S1x38016_1 s)))
    (broadcastInDim S256x38016 ![0, 1] bcast_S1x38016_S256x38016_0_1 (broadcastInDim S1x38016 ![1] bcast_S38016_S1x38016_1 b))
def topR (L : FVec Ideal S256x38016 .f32) : FVec Ideal S256x8 .f32 :=
  (Host.topK S256x8 1 (FloatOps.cmpfTotal .gt) L sliceFits_S256x38016_S256x8).1
def topI (L : FVec Ideal S256x38016 .f32) : IVec S256x8 32 :=
  (Host.topK S256x8 1 (FloatOps.cmpfTotal .gt) L sliceFits_S256x38016_S256x8).2

section reads
variable (X : Valuation τ sig (Elt Ideal))

theorem s0_v1 : after hostOps0 X (Proc.devRef .tc main_v1) = xR (X (Proc.devRef .tc main_arg0)) := by
  after_results; rfl
theorem s0_v3 : after hostOps0 X (Proc.devRef .tc main_v3) = amaxR (X (Proc.devRef .tc main_arg0)) := by
  after_results; rfl
theorem s0_v8 : after hostOps0 X (Proc.devRef .tc main_v8) = tryR := by
  after_results; rfl
theorem s0_v15 : after hostOps0 X (Proc.devRef .tc main_v15) = overR (X (Proc.devRef .tc main_arg0)) := by
  after_results; rfl
theorem s0_c3 : after hostOps0 X (Proc.devRef .tc main_cst_3) = (constant (F := Ideal) S_ .f32 0x7F800000#32 : FVec Ideal S_ .f32) := by
  after_results

theorem s1_v1 : after hostOps0_1 X (Proc.devRef .tc main_v1) = X (Proc.devRef .tc main_v1) := by
  after_results
theorem s1_v3 : after hostOps0_1 X (Proc.devRef .tc main_v3) = X (Proc.devRef .tc main_v3) := by
  after_results
theorem s1_v16 : after hostOps0_1 X (Proc.devRef .tc main_v16) = (select (X (Proc.devRef .tc main_v15) : IVec S256x1x28x278 1) (broadcastInDim S256x1x28x278 ![3] bcast_S278_S256x1x28x278_3 (X (Proc.devRef .tc main_v8) : FVec Ideal S278 .f32)) (broadcastInDim S256x1x28x278 ![] bcast_S_S256x1x28x278 (X (Proc.devRef .tc main_cst_3) : FVec Ideal S_ .f32)) : FVec Ideal S256x1x28x278 .f32) := by
  after_results; rfl
theorem s2_v1 : after hostOps0_2 X (Proc.devRef .tc main_v1) = X (Proc.devRef .tc main_v1) := by
  after_results
theorem s2_v17 : after hostOps0_2 X (Proc.devRef .tc main_v17) = (Host.reduce FloatOps.minimumf (X (Proc.devRef .tc main_v16) : FVec Ideal S256x1x28x278 .f32) (constant (F := Ideal) S_ .f32 0x7F800000#32) reducesTo_S256x1x28x278_S256x1x28_d3 h_S_ : FVec Ideal S256x1x28 .f32) := by
  after_results
theorem s2_v19 : after hostOps0_2 X (Proc.devRef .tc main_v19) = (cmpf .oeq (X (Proc.devRef .tc main_v3) : FVec Ideal S256x1x28 .f32) (broadcastInDim S256x1x28 ![] bcast_S_S256x1x28 (constant (F := Ideal) S_ .f32 0x00000000#32)) : IVec S256x1x28 1) := by
  after_results
theorem s2_c6 : after hostOps0_2 X (Proc.devRef .tc main_cst_6) = (constant (F := Ideal) S_ .f32 0x00000000#32 : FVec Ideal S_ .f32) := by
  after_results
theorem s3_v1 : after hostOps0_3 X (Proc.devRef .tc main_v1) = X (Proc.devRef .tc main_v1) := by
  after_results
theorem s3_v20 : after hostOps0_3 X (Proc.devRef .tc main_v20) = (select (X (Proc.devRef .tc main_v19) : IVec S256x1x28 1) (broadcastInDim S256x1x28 ![] bcast_S_S256x1x28 (X (Proc.devRef .tc main_cst_6) : FVec Ideal S_ .f32)) (X (Proc.devRef .tc main_v17) : FVec Ideal S256x1x28 .f32) : FVec Ideal S256x1x28 .f32) := by
  after_results; rfl
theorem s4_v22 : after hostOps0_4 X (Proc.devRef .tc main_v22) = (Host.powf twoR (X (Proc.devRef .tc main_v20) : FVec Ideal S256x1x28 .f32) : FVec Ideal S256x1x28 .f32) := by
  after_results; rfl
theorem s4_v28 : after hostOps0_4 X (Proc.devRef .tc main_v28) = (mulf (X (Proc.devRef .tc main_v1) : FVec Ideal S256x1x28x128 .f32) (broadcastInDim S256x1x28x128 ![0, 1, 2, 3] bcast_S256x1x28x1_S256x1x28x128_0_1_2_3 (broadcastInDim S256x1x28x1 ![0, 1, 2] bcast_S256x1x28_S256x1x28x1_0_1_2 (Host.powf twoR (Host.negf (X (Proc.devRef .tc main_v20) : FVec Ideal S256x1x28 .f32))))) : FVec Ideal S256x1x28x128 .f32) := by
  after_results; rfl
theorem s4_c9 : after hostOps0_4 X (Proc.devRef .tc main_cst_9) = (constant (F := Ideal) S_ .f32 0xC3E00000#32 : FVec Ideal S_ .f32) := by
  after_results
theorem s4_c10 : after hostOps0_4 X (Proc.devRef .tc main_cst_10) = (constant (F := Ideal) S_ .f32 0x43E00000#32 : FVec Ideal S_ .f32) := by
  after_results
theorem s5_v22 : after hostOps0_5 X (Proc.devRef .tc main_v22) = X (Proc.devRef .tc main_v22) := by
  after_results
theorem s5_v29 : after hostOps0_5 X (Proc.devRef .tc main_v29) = (minimumf (broadcastInDim S256x1x28x128 ![] bcast_S_S256x1x28x128 (X (Proc.devRef .tc main_cst_10) : FVec Ideal S_ .f32)) (maximumf (broadcastInDim S256x1x28x128 ![] bcast_S_S256x1x28x128 (X (Proc.devRef .tc main_cst_9) : FVec Ideal S_ .f32)) (X (Proc.devRef .tc main_v28) : FVec Ideal S256x1x28x128 .f32)) : FVec Ideal S256x1x28x128 .f32) := by
  after_results; rfl
theorem s6_v22 : after hostOps0_6 X (Proc.devRef .tc main_v22) = X (Proc.devRef .tc main_v22) := by
  after_results
theorem s6_v31 : after hostOps0_6 X (Proc.devRef .tc main_v31) = (shapeCast S256x1x3584 (Host.convertf (F := Ideal) (φ := .f32) .fp8e4m3 (X (Proc.devRef .tc main_v29) : FVec Ideal S256x1x28x128 .f32) : FVec Ideal S256x1x28x128 .fp8e4m3) shapeCasts_S256x1x28x128_S256x1x3584 : FVec Ideal S256x1x3584 .fp8e4m3) := by
  after_results; rfl
theorem s6_v34 : after hostOps0_6 X (Proc.devRef .tc main_v34) = (shapeCast S256x3584 (shapeCast S256x1x3584 (Host.convertf (F := Ideal) (φ := .f32) .fp8e4m3 (X (Proc.devRef .tc main_v29) : FVec Ideal S256x1x28x128 .f32) : FVec Ideal S256x1x28x128 .fp8e4m3) shapeCasts_S256x1x28x128_S256x1x3584) shapeCasts_S256x1x3584_S256x3584 : FVec Ideal S256x3584 .fp8e4m3) := by
  after_results; rfl
theorem s6_v35 : after hostOps0_6 X (Proc.devRef .tc main_v35) = (shapeCast S256x3584 (broadcastInDim S256x1x28x128 ![0, 1, 2, 3] bcast_S256x1x28x1_S256x1x28x128_0_1_2_3 (broadcastInDim S256x1x28x1 ![0, 1, 2] bcast_S256x1x28_S256x1x28x1_0_1_2 (X (Proc.devRef .tc main_v22) : FVec Ideal S256x1x28 .f32))) shapeCasts_S256x1x28x128_S256x3584 : FVec Ideal S256x3584 .f32) := by
  after_results; rfl
theorem p_v43 : after hostOps1 X (Proc.devRef .tc main_v43) = (shapeCast S256x1x8 (topR (logitsR (X (Proc.devRef .tc main_v36) : FVec Ideal S256x38016 .f32) (X (Proc.devRef .tc main_arg2) : FVec Ideal S38016 .f32) (X (Proc.devRef .tc main_arg3) : FVec Ideal S38016 .f32))) shapeCasts_S256x8_S256x1x8 : FVec Ideal S256x1x8 .f32) := by
  after_results; rfl
theorem p_v60 : after hostOps1 X (Proc.devRef .tc main_v60)
    = (Cert.Head.untied
        (shapeCast S256x1x8 (topR (logitsR (X (Proc.devRef .tc main_v36) : FVec Ideal S256x38016 .f32) (X (Proc.devRef .tc main_arg2) : FVec Ideal S38016 .f32) (X (Proc.devRef .tc main_arg3) : FVec Ideal S38016 .f32))) shapeCasts_S256x8_S256x1x8 : FVec Ideal S256x1x8 .f32)
        (shapeCast S256x1x8 (topI (logitsR (X (Proc.devRef .tc main_v36) : FVec Ideal S256x38016 .f32) (X (Proc.devRef .tc main_arg2) : FVec Ideal S38016 .f32) (X (Proc.devRef .tc main_arg3) : FVec Ideal S38016 .f32))) shapeCasts_S256x8_S256x1x8 : IVec S256x1x8 32) : IVec S256x1x8 32) := by
  after_results; rfl
theorem p_v31 : after hostOps1 X (Proc.devRef .tc main_v31) = X (Proc.devRef .tc main_v31) := by
  after_results
theorem p_v22 : after hostOps1 X (Proc.devRef .tc main_v22) = X (Proc.devRef .tc main_v22) := by
  after_results

end reads

variable (m : (ℓ : Loc nD τ sig) → Buf (Elt Ideal) ℓ) (ρ : Dev nD → PrngReg)

/-- The arguments: tokens, experts, scales, biases. -/
def a0 (c : Dev nD) : FVec Ideal S256x1x3584 .bf16 := m ((c.tc : Thread nD τ).loc main_arg0)
def a1 (c : Dev nD) : FVec Ideal S38016x3584 .fp8e4m3 := m ((c.tc : Thread nD τ).loc main_arg1)
def a2 (c : Dev nD) : FVec Ideal S38016 .f32 := m ((c.tc : Thread nD τ).loc main_arg2)
def a3 (c : Dev nD) : FVec Ideal S38016 .f32 := m ((c.tc : Thread nD τ).loc main_arg3)

theorem V0_eq (c : Dev nD) : V0 m c = after hostOps0_6 (after hostOps0_5 (after hostOps0_4 (after hostOps0_3 (after hostOps0_2 (after hostOps0_1 (after hostOps0 (fun b => m (c, b)))))))) := by
  show after (hostOps0 ++ (hostOps0_1 ++ (hostOps0_2 ++ (hostOps0_3 ++ (hostOps0_4 ++ (hostOps0_5 ++ (hostOps0_6 ++ []))))))) _ = _
  rw [after_append, after_append, after_append, after_append, after_append, after_append, List.append_nil]

theorem V_v22 (c : Dev nD) : V m c main_v22 = scaleR (a0 m c) := by
  show V0 m c (Proc.devRef .tc main_v22) = _
  rw [V0_eq, s6_v22, s5_v22, s4_v22, s3_v20, s2_v19, s2_c6, s2_v17, s1_v16, s1_v3, s0_v3, s0_v15, s0_v8, s0_c3]
  rfl
theorem V_v31 (c : Dev nD) : V m c main_v31 = codesR (a0 m c) := by
  show V0 m c (Proc.devRef .tc main_v31) = _
  rw [V0_eq, s6_v31, s5_v29, s4_v28, s4_c9, s4_c10, s3_v20, s3_v1, s2_v1, s2_v19, s2_c6, s2_v17, s1_v16, s1_v3, s1_v1, s0_v1, s0_v3, s0_v15, s0_v8, s0_c3]
  rfl
theorem V_v34 (c : Dev nD) : V m c main_v34 = flatCodesR (a0 m c) := by
  show V0 m c (Proc.devRef .tc main_v34) = _
  rw [V0_eq, s6_v34, s5_v29, s4_v28, s4_c9, s4_c10, s3_v20, s3_v1, s2_v1, s2_v19, s2_c6, s2_v17, s1_v16, s1_v3, s1_v1, s0_v1, s0_v3, s0_v15, s0_v8, s0_c3]
  rfl
theorem V_v35 (c : Dev nD) : V m c main_v35 = flatScaleR (a0 m c) := by
  show V0 m c (Proc.devRef .tc main_v35) = _
  rw [V0_eq, s6_v35, s5_v22, s4_v22, s3_v20, s2_v19, s2_c6, s2_v17, s1_v16, s1_v3, s0_v3, s0_v15, s0_v8, s0_c3]
  rfl

end Cert.ReferenceIdeal.Hand
-- ==== Proof.RefOut.lean ====
/- The reference's results, from its arguments. -/
module

public import proofs.«01_k».proof.Proof.RefRun
public import proofs.«01_k».proof.Proof.Logits
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable (m : (ℓ : Loc nD τ sig) → Buf (Elt Ideal) ℓ) (ρ : Dev nD → PrngReg)

/-- The products at an index: codes times scale, against a column's weights. -/
theorem out_at (C : FVec Ideal S256x3584 .fp8e4m3) (S : FVec Ideal S256x3584 .f32) (W : FVec Ideal S38016x3584 .fp8e4m3) (n : Fin 256) (j : Fin 38016) :
    (out0_3 (F := Ideal) C S W (ix2 n j) : EReal) = ∑ k : Fin 3584, (C (ix2 n k) * S (ix2 n k) : EReal) * W (ix2 j k) := by
  have h0 : (![0, 0] : Fin 2 → ℕ) = fun _ => 0 := by funext a; fin_cases a <;> rfl
  unfold out0_3
  rw [View.canon_unit_zero (S := S256x38016) h0, View.ld_unit_zero (S := S256x3584) h0, View.ld_unit_zero (S := S256x3584) h0, View.ld_unit_zero (S := S38016x3584) h0]
  unfold k0_pay1
  rw [shapeCast_self, shapeCast_self]
  refine (Ideal.matmul_transposedRhs_apply (φ₁ := .bf16) (φ₂ := .bf16) (M := 256) (K := 3584) (N := 38016) none _ _ (constant S256x38016 .f32 0x00000000#32) n j).trans ?_
  have : (constant (F := Ideal) S256x38016 .f32 0x00000000#32 (ix2 n j) : EReal) = 0 := Cert.Head.zero32
  exact (congrArg (· + _) this).trans (zero_add _)

theorem logitsR_at (P : FVec Ideal S256x38016 .f32) (s b : FVec Ideal S38016 .f32) (n : Fin 256) (j : Fin 38016) :
    (logitsR P s b (ix2 n j) : EReal) = (P (ix2 n j) : EReal) * s (ix1 j) + b (ix1 j) := by
  have hb : ∀ x : FVec Ideal S38016 .f32, (broadcastInDim S256x38016 ![0, 1] bcast_S1x38016_S256x38016_0_1 (broadcastInDim S1x38016 ![1] bcast_S38016_S1x38016_1 x) : FVec Ideal S256x38016 .f32) (ix2 n j) = x (ix1 j) := fun x => by
    pointwise
  unfold logitsR
  show ((P (ix2 n j) : EReal) * (broadcastInDim S256x38016 ![0, 1] bcast_S1x38016_S256x38016_0_1 (broadcastInDim S1x38016 ![1] bcast_S38016_S1x38016_1 s) : FVec Ideal S256x38016 .f32) (ix2 n j))
    + (broadcastInDim S256x38016 ![0, 1] bcast_S1x38016_S256x38016_0_1 (broadcastInDim S1x38016 ![1] bcast_S38016_S1x38016_1 b) : FVec Ideal S256x38016 .f32) (ix2 n j) = _
  rw [hb, hb]

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel

/-- The one region's blocks are whole arrays. -/
theorem blk0 (c : Dev nD) : (iblk m c 0 t0_0 : FVec Ideal S256x3584 .fp8e4m3) = flatCodesR (a0 m c) := by
  rw [← V_v34]
  funext y
  show (V m c main_v34 : FVec Ideal S256x3584 .fp8e4m3) (((cfg0.win 0).blk t0_0).view.emb y) = _
  congr 1
  funext a
  apply Fin.ext
  fin_cases a <;> blk_simp [idx0 t0_0] <;> simp
theorem blk1 (c : Dev nD) : (iblk m c 1 t0_0 : FVec Ideal S256x3584 .f32) = flatScaleR (a0 m c) := by
  rw [← V_v35]
  funext y
  show (V m c main_v35 : FVec Ideal S256x3584 .f32) (((cfg0.win 1).blk t0_0).view.emb y) = _
  congr 1
  funext a
  apply Fin.ext
  fin_cases a <;> blk_simp [idx1 t0_0] <;> simp
theorem blk2 (c : Dev nD) : (iblk m c 2 t0_0 : FVec Ideal S38016x3584 .fp8e4m3) = a1 m c := by
  rw [show a1 m c = V m c main_arg1 from (V_main_arg1 m c).symm]
  funext y
  show (V m c main_arg1 : FVec Ideal S38016x3584 .fp8e4m3) (((cfg0.win 2).blk t0_0).view.emb y) = _
  congr 1
  funext a
  apply Fin.ext
  fin_cases a <;> blk_simp [idx2 t0_0] <;> simp

def prodR (c : Dev nD) : FVec Ideal S256x38016 .f32 := out0_3 (F := Ideal) (flatCodesR (a0 m c)) (flatScaleR (a0 m c)) (a1 m c)

theorem after3 (c : Dev nD) : (dats m 0 c).after 3 t0_0 = prodR m c := by
  rw [after0_3, blk0, blk1, blk2]
  unfold prodR
  exact Eq.refl _

theorem final3 (c : Dev nD) : (dats m 0 c).arrAt 3 cfg0.N = prodR m c :=
  (dats m 0 c).arrAt_eq_of_after_last 3 t0_0 (by decide +kernel) _ fun j => by
    rw [after3]
    generalize prodR m c = G
    refine congrArg G ?_
    funext a
    apply Fin.ext
    fin_cases a <;> blk_simp [idx3 t0_0] <;> simp

theorem arrs_inj : Function.Injective (Pipeline.arrRef spec0) := by decide

/-- What the program leaves in an unscoped buffer. -/
def vEnd (c : Dev nD) (b : Ref sig .tc) : Buf (Elt Ideal) ((c : Thread nD τ).loc b) :=
  Pipeline.afterTail₀ cfgs (dats m) 0 (V0 m) [hostOps1] c b

theorem end43 (c : Dev nD) : vEnd m c main_v43
    = (shapeCast S256x1x8 (topR (logitsR (prodR m c) (a2 m c) (a3 m c))) shapeCasts_S256x8_S256x1x8 : FVec Ideal S256x1x8 .f32) := by
  unfold vEnd Pipeline.afterTail₀
  rw [show List.flatten [hostOps1] = (hostOps1 : List (HloOp τ sig (Elt Ideal))) from List.append_nil _, p_v43]
  rw [show Pipeline.withArrays (cfgs 0).spec c (V0 m c) (fun w => (dats m 0 c).arrAt w (cfgs 0).N) (Proc.devRef .tc main_v36) = _ from
    (Pipeline.withArrays_arr spec0 arrs_inj c (V0 m c) (fun w => (dats m 0 c).arrAt w (cfgs 0).N) 3).trans (final3 m c)]
  rw [show Pipeline.withArrays (cfgs 0).spec c (V0 m c) (fun w => (dats m 0 c).arrAt w (cfgs 0).N) (Proc.devRef .tc main_arg2) = a2 m c from
    (Pipeline.withArrays_of_ne spec0 c (V0 m c) (fun w => (dats m 0 c).arrAt w (cfgs 0).N) main_arg2 (by decide)).trans (V_main_arg2 m c)]
  rw [show Pipeline.withArrays (cfgs 0).spec c (V0 m c) (fun w => (dats m 0 c).arrAt w (cfgs 0).N) (Proc.devRef .tc main_arg3) = a3 m c from
    (Pipeline.withArrays_of_ne spec0 c (V0 m c) (fun w => (dats m 0 c).arrAt w (cfgs 0).N) main_arg3 (by decide)).trans (V_main_arg3 m c)]
theorem end60 (c : Dev nD) : vEnd m c main_v60
    = (Cert.Head.untied (shapeCast S256x1x8 (topR (logitsR (prodR m c) (a2 m c) (a3 m c))) shapeCasts_S256x8_S256x1x8 : FVec Ideal S256x1x8 .f32)
        (shapeCast S256x1x8 (topI (logitsR (prodR m c) (a2 m c) (a3 m c))) shapeCasts_S256x8_S256x1x8 : IVec S256x1x8 32) : IVec S256x1x8 32) := by
  unfold vEnd Pipeline.afterTail₀
  rw [show List.flatten [hostOps1] = (hostOps1 : List (HloOp τ sig (Elt Ideal))) from List.append_nil _, p_v60]
  rw [show Pipeline.withArrays (cfgs 0).spec c (V0 m c) (fun w => (dats m 0 c).arrAt w (cfgs 0).N) (Proc.devRef .tc main_v36) = _ from
    (Pipeline.withArrays_arr spec0 arrs_inj c (V0 m c) (fun w => (dats m 0 c).arrAt w (cfgs 0).N) 3).trans (final3 m c)]
  rw [show Pipeline.withArrays (cfgs 0).spec c (V0 m c) (fun w => (dats m 0 c).arrAt w (cfgs 0).N) (Proc.devRef .tc main_arg2) = a2 m c from
    (Pipeline.withArrays_of_ne spec0 c (V0 m c) (fun w => (dats m 0 c).arrAt w (cfgs 0).N) main_arg2 (by decide)).trans (V_main_arg2 m c)]
  rw [show Pipeline.withArrays (cfgs 0).spec c (V0 m c) (fun w => (dats m 0 c).arrAt w (cfgs 0).N) (Proc.devRef .tc main_arg3) = a3 m c from
    (Pipeline.withArrays_of_ne spec0 c (V0 m c) (fun w => (dats m 0 c).arrAt w (cfgs 0).N) main_arg3 (by decide)).trans (V_main_arg3 m c)]
theorem end31 (c : Dev nD) : vEnd m c main_v31 = codesR (a0 m c) := by
  unfold vEnd Pipeline.afterTail₀
  rw [show List.flatten [hostOps1] = (hostOps1 : List (HloOp τ sig (Elt Ideal))) from List.append_nil _, p_v31]
  exact (Pipeline.withArrays_of_ne spec0 c (V0 m c) (fun w => (dats m 0 c).arrAt w (cfgs 0).N) main_v31 (by decide)).trans (V_v31 m c)
theorem end22 (c : Dev nD) : vEnd m c main_v22 = scaleR (a0 m c) := by
  unfold vEnd Pipeline.afterTail₀
  rw [show List.flatten [hostOps1] = (hostOps1 : List (HloOp τ sig (Elt Ideal))) from List.append_nil _, p_v22]
  exact (Pipeline.withArrays_of_ne spec0 c (V0 m c) (fun w => (dats m 0 c).arrAt w (cfgs 0).N) main_v22 (by decide)).trans (V_v22 m c)

end Cert.ReferenceIdeal.Hand
-- ==== Proof.Counts.lean ====
/- The greatest values of a row of columns: by sorting, and counted lane by lane. -/
module

public import proofs.«01_k».proof.Proof.Units
public import Idealize.ShloMosaic.Lib.SortFacts

@[expose] public section

noncomputable section

namespace Cert.Head

open Idealize.ShloMosaic

/-- How many columns have their value in `p`. -/
def cols {N : ℕ} (f : Fin N → EReal) (p : EReal → Bool) : ℕ := ∑ j, if p (f j) then 1 else 0

/-- The order a sort puts the columns in. -/
def order {N : ℕ} (f : Fin N → EReal) : Fin N → Fin N := sortedFrom fun k k' => Ideal.cmpTotal .gt (f k) (f k') == 1#1

theorem gt_iff (a b : EReal) : (Ideal.cmpTotal .gt a b == 1#1) = decide (b < a) := by
  show (BitVec.ofBool (decide (b < a)) == 1#1) = _
  by_cases h : b < a <;> simp [h]

theorem order_anti {N : ℕ} (f : Fin N → EReal) {i j : Fin N} (h : i ≤ j) : f (order f j) ≤ f (order f i) := by
  rcases h.lt_or_eq with h | rfl
  · have := sortedFrom_noInversion (fun k k' : Fin N => decide (f k' < f k)) (fun k k' => Ideal.cmpTotal .gt (f k) (f k') == 1#1)
      (fun a b h => by simp only [gt_iff, decide_eq_true_eq, decide_eq_false_iff_not, not_lt] at *; exact h.le)
      (fun a b h => by simp only [gt_iff] at *; exact h)
      (fun a b c h1 h2 => by simp only [decide_eq_false_iff_not, not_lt] at *; exact h1.trans h2) i j h
    exact not_lt.1 (of_decide_eq_false this)
  · exact le_rfl

/-- A sort puts the `q`-th greatest value at place `q`. -/
theorem isKth_order {N : ℕ} (f : Fin N → EReal) (q : Fin N) : IsKth (cols f) q.val (f (order f q)) := fun p hp => by
  have hc : cols f p = (Finset.univ.filter fun i => p (f (order f i)) = true).card := by
    rw [cols, Finset.card_filter]
    exact (Function.Bijective.sum_comp ⟨sortedFrom_injective _, sortedFrom_surjective _⟩ (fun j => if p (f j) then 1 else 0)).symm
  rw [hc]
  constructor
  · intro hq
    rw [← Fin.card_Iio q]
    refine Finset.card_le_card fun i hi => ?_
    rw [Finset.mem_Iio]
    by_contra hn
    have := hp.mono (order_anti f (not_lt.1 hn)) (Finset.mem_filter.1 hi).2
    rw [hq] at this
    exact absurd this (by decide)
  · intro hq
    rw [← Fin.card_Iic q]
    refine Finset.card_le_card fun i hi => ?_
    exact Finset.mem_filter.2 ⟨Finset.mem_univ _, hp.mono (order_anti f (Finset.mem_Iic.1 hi)) hq⟩

theorem countP_sum (P : ℕ → Bool) : ∀ n, (List.range n).countP P = ∑ T ∈ Finset.range n, if P T then 1 else 0
  | 0 => rfl
  | n + 1 => by
    rw [List.range_succ, List.countP_append, countP_sum P n, Finset.sum_range_succ, List.countP_singleton]

/-- Tile `T` of lane `l` is column `128 T + l`. -/
theorem cols_lanes (f : Fin 38016 → EReal) (g : Fin 128 → ℕ → EReal)
    (h1 : ∀ (l : Fin 128) (T : ℕ) (h : T < 297), g l T = f ⟨128 * T + l.val, by omega⟩) (h2 : ∀ l T, 297 ≤ T → g l T = ⊥)
    (p : EReal → Bool) (hp : Up p) : (∑ l, (List.range 300).countP fun T => p (g l T)) = cols f p := by
  have e1 : ∀ l, ((List.range 300).countP fun T => p (g l T)) = ∑ T : Fin 297, if p (f ⟨128 * T.val + l.val, by omega⟩) then 1 else 0 := fun l => by
    rw [countP_sum, ← Finset.sum_subset (Finset.range_subset_range.2 (by decide : 297 ≤ 300)), Finset.sum_range]
    · refine Finset.sum_congr rfl fun T _ => ?_
      rw [h1 l T T.isLt]
    · intro T _ hT
      rw [h2 l T (by simpa using hT), hp.bot]
      rfl
  rw [Finset.sum_congr rfl fun l _ => e1 l, Finset.sum_comm, ← Fintype.sum_prod_type' (f := fun (T : Fin 297) (l : Fin 128) => if p (f ⟨128 * T.val + l.val, by omega⟩) = true then 1 else 0)]
  refine Fintype.sum_equiv (finProdFinEquiv.trans (finCongr (by norm_num : 297 * 128 = 38016))) _ _ fun x => ?_
  have : (finProdFinEquiv.trans (finCongr (by norm_num : 297 * 128 = 38016))) x = ⟨128 * x.1.val + x.2.val, by omega⟩ := Fin.ext (by
    simp [finProdFinEquiv]; omega)
  rw [this]

/-- The selected values are the greatest of the columns. -/
theorem selV_cols (G : ℕ → Vec Ideal SU .f32) (n : Fin 256) (f : Fin 38016 → EReal)
    (hf : ∀ (l : Fin 128) (T : ℕ) (h : T < 297), G (T / 4) (ix2 n (⟨128 * (T % 4) + l.val, by omega⟩ : Fin 512)) = f ⟨128 * T + l.val, by omega⟩) (q : Fin 8) :
    selV (listsAt G 75) (ix2 q n) = f (order f ⟨q.val, by omega⟩) := by
  have ok : ∀ l, LaneOK (laneF' G n l) 300 (rowL (listsAt G 75) n l) := fun l => laneOK_listsAt G n l 75 le_rfl
  have hc := fun p (hp : Up p) => cols_lanes f (laneF' G n)
    (fun l T h => by unfold laneF'; rw [if_pos h]; exact hf l T h) (fun l T h => by unfold laneF'; rw [if_neg (by omega)]) p hp
  refine IsKth.unique (C := cols f) (k := q.val) ?_ (isKth_order f ⟨q.val, by omega⟩)
  refine IsKth.of_enough q.isLt (isKth_selV _ q n (LaneOK.rowOK ok)) fun p hp => ?_
  have := total_enough ok p hp
  rw [hc p hp] at this
  exact this

end Cert.Head
-- ==== Proof.RefEnd.lean ====
/- The reference's run, read at its results; the greatest logits by a sort. -/
module

public import proofs.«01_k».proof.Proof.RefOut
public import proofs.«01_k».proof.Proof.Counts
public import proofs.«01_k».proof.Proof.IResult

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Cert.Head (order)

theorem topR_at (L : FVec Ideal S256x38016 .f32) (n : Fin 256) (q : Fin 8) :
    (topR L (ix2 n q) : EReal) = (fun j : Fin 38016 => (L (ix2 n j) : EReal)) (order (fun j : Fin 38016 => (L (ix2 n j) : EReal)) ⟨q.val, by omega⟩) := by
  have al : ∀ (i : Fin 38016) (k : Fin 38016), (ix2 n i : S256x38016.Idx).along 1 k = ix2 n k := fun i k => by
    funext a
    fin_cases a <;> rfl
  have e : ∀ (I : IVec S256x38016 32) (i : Fin 38016), ((Host.sort2 S256x38016 1 (fun l r => FloatOps.cmpfTotal (F := Ideal) (φ := .f32) .gt l.1 r.1) L I).1 (ix2 n i) : EReal)
      = (fun j : Fin 38016 => (L (ix2 n j) : EReal)) (order (fun j : Fin 38016 => (L (ix2 n j) : EReal)) i) := fun I i => by
    unfold Host.sort2
    rw [dif_pos (by decide : 1 < S256x38016.rank)]
    show (L ((ix2 n i : S256x38016.Idx).along 1 (sortedFrom (fun k k' => FloatOps.cmpfTotal (F := Ideal) (φ := .f32) .gt (L ((ix2 n i : S256x38016.Idx).along 1 k)) (L ((ix2 n i : S256x38016.Idx).along 1 k')) == 1#1) i)) : EReal) = _
    refine (congrArg L (al i _)).trans ?_
    refine congrArg (fun z => (L (ix2 n z) : EReal)) ?_
    unfold order
    refine congrArg (fun r => sortedFrom r i) ?_
    funext k k'
    exact congrArg₂ (fun a b => Ideal.cmpTotal .gt (L a : EReal) (L b : EReal) == 1#1) (al i k) (al i k')
  have sl : ∀ v : FVec Ideal S256x38016 .f32, (extractStridedSlice S256x8 (fun _ => 0) v sliceFits_S256x38016_S256x8 : FVec Ideal S256x8 .f32) (ix2 n q) = v (ix2 n (⟨q.val, by omega⟩ : Fin 38016)) := fun v => by
    unfold extractStridedSlice
    refine congrArg v ?_
    funext a
    fin_cases a <;> exact Fin.ext (Nat.zero_add _)
  unfold topR Host.topK
  exact (sl _).trans (e (fun i => if hd : 1 < S256x38016.rank then iotaInDim S256x38016 32 ⟨1, hd⟩ i else 0#32) _)

theorem topI_at (L : FVec Ideal S256x38016 .f32) (n : Fin 256) (q : Fin 8) :
    topI L (ix2 n q) = BitVec.ofNat 32 (order (fun j : Fin 38016 => (L (ix2 n j) : EReal)) ⟨q.val, by omega⟩).val := by
  have al : ∀ (i : Fin 38016) (k : Fin 38016), (ix2 n i : S256x38016.Idx).along 1 k = ix2 n k := fun i k => by
    funext a
    fin_cases a <;> rfl
  have e : ∀ (I : IVec S256x38016 32) (i : Fin 38016), (Host.sort2 S256x38016 1 (fun l r => FloatOps.cmpfTotal (F := Ideal) (φ := .f32) .gt l.1 r.1) L I).2 (ix2 n i)
      = I (ix2 n (order (fun j : Fin 38016 => (L (ix2 n j) : EReal)) i)) := fun I i => by
    unfold Host.sort2
    rw [dif_pos (by decide : 1 < S256x38016.rank)]
    show I ((ix2 n i : S256x38016.Idx).along 1 (sortedFrom (fun k k' => FloatOps.cmpfTotal (F := Ideal) (φ := .f32) .gt (L ((ix2 n i : S256x38016.Idx).along 1 k)) (L ((ix2 n i : S256x38016.Idx).along 1 k')) == 1#1) i)) = _
    refine (congrArg I (al i _)).trans ?_
    refine congrArg (fun z => I (ix2 n z)) ?_
    unfold order
    refine congrArg (fun r => sortedFrom r i) ?_
    funext k k'
    exact congrArg₂ (fun a b => Ideal.cmpTotal .gt (L a : EReal) (L b : EReal) == 1#1) (al i k) (al i k')
  have sl : ∀ v : IVec S256x38016 32, (extractStridedSlice S256x8 (fun _ => 0) v sliceFits_S256x38016_S256x8 : IVec S256x8 32) (ix2 n q) = v (ix2 n (⟨q.val, by omega⟩ : Fin 38016)) := fun v => by
    unfold extractStridedSlice
    refine congrArg v ?_
    funext a
    fin_cases a <;> exact Fin.ext (Nat.zero_add _)
  have io : ∀ j : Fin 38016, (fun i : S256x38016.Idx => if hd : 1 < S256x38016.rank then iotaInDim S256x38016 32 ⟨1, hd⟩ i else 0#32) (ix2 n j) = BitVec.ofNat 32 j.val := fun j => by
    show (if hd : 1 < S256x38016.rank then iotaInDim S256x38016 32 ⟨1, hd⟩ (ix2 n j) else 0#32) = _
    rw [dif_pos (by decide : 1 < S256x38016.rank)]
    rfl
  unfold topI Host.topK
  exact (sl _).trans ((e (fun i => if hd : 1 < S256x38016.rank then iotaInDim S256x38016 32 ⟨1, hd⟩ i else 0#32) _).trans (io _))

variable (m : (ℓ : Loc nD τ sig) → Buf (Elt Ideal) ℓ) (ρ : Dev nD → PrngReg)

theorem end43_at (c : Dev nD) (n : Fin 256) (q : Fin 8) :
    (vEnd m c main_v43 : FVec Ideal S256x1x8 .f32) (ix3 n (0 : Fin 1) q) = topR (logitsR (prodR m c) (a2 m c) (a3 m c)) (ix2 n q) := by
  rw [end43]
  exact Cert.KernelIdeal.Hand.spread_at _ _ _ _

/-- The run ends with those results and the arguments unchanged. -/
theorem ends : θ_run defs (onTc (τ := τ) (main (F := Ideal))) ⟨m, fun _ => 0, ρ⟩ (fun r => ∀ c : Dev nD,
      r.2.mem ((c.tc : Thread nD τ).loc main_v43) = vEnd m c main_v43
      ∧ r.2.mem ((c.tc : Thread nD τ).loc main_v60) = vEnd m c main_v60
      ∧ r.2.mem ((c.tc : Thread nD τ).loc main_v31) = vEnd m c main_v31
      ∧ r.2.mem ((c.tc : Thread nD τ).loc main_v22) = vEnd m c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hq c => have h := hq.1
    ⟨(h c).2 main_v43 (Pipeline.mem_restRefs_of main_v43 (by decide) (by decide)),
      (h c).2 main_v60 (Pipeline.mem_restRefs_of main_v60 (by decide) (by decide)),
      (h c).2 main_v31 (Pipeline.mem_restRefs_of main_v31 (by decide) (by decide)),
      (h c).2 main_v22 (Pipeline.mem_restRefs_of main_v22 (by decide) (by decide)),
      ((h c).2 main_arg0 (Pipeline.mem_restRefs_of main_arg0 (by decide) (by decide))).trans (W_main_arg0 m (dats m) c),
      ((h c).1 2).trans (((dats m 0 c).arrAt_in 2 rfl _).trans (V_main_arg1 m c)),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main_quiescent m ρ)

end Cert.ReferenceIdeal.Hand
-- ==== Proof.RefQuant.lean ====
/- The reference's quantiser at an index: the least power of two exceeding a group's target, and the codes. -/
module

public import proofs.«01_k».proof.Proof.RefRun
public import proofs.«01_k».proof.Proof.Field

@[expose] public section

set_option maxRecDepth 16384

noncomputable section

namespace Cert.ReferenceIdeal.Hand

open Cert.ReferenceIdeal Cert.ReferenceIdeal.Gen Cert.Head
open Idealize.ShloMosaic

theorem two_eq : (Ideal.ofBits .f32 0x40000000#32 : EReal) = ((2 : ℝ) : EReal) := by
  refine (pow2_eq 128 (by norm_num) (by norm_num)).trans ?_
  norm_num
theorem base_eq : (Ideal.ofBits .f32 0xC3150000#32 : EReal) = ((-149 : ℝ) : EReal) := by
  simp [Ideal.ofBits, Ideal.ieee]
  norm_num
  refine (EReal.coe_mul _ _).symm.trans ?_
  norm_num
theorem inf_eq : (Ideal.ofBits .f32 0x7F800000#32 : EReal) = ⊤ := pow2_255
theorem pow_int (z : ℤ) : Ideal.pow ((2 : ℝ) : EReal) ((z : ℝ) : EReal) = (((2 : ℝ) ^ z : ℝ) : EReal) := by
  show ((Real.rpow 2 (z : ℝ) : ℝ) : EReal) = _
  exact congrArg (fun r : ℝ => (r : EReal)) (Real.rpow_intCast 2 z)

theorem lt_at {s : Shape} (a b : FVec Ideal s .f32) (j : s.Idx) : cmpf .olt a b j = BitVec.ofBool (decide ((a j : EReal) < b j)) := rfl
theorem eqc_at {s : Shape} (a b : FVec Ideal s .f32) (j : s.Idx) : cmpf .oeq a b j = BitVec.ofBool (decide ((a j : EReal) = b j)) := rfl
theorem pow_at {s : Shape} (a b : FVec Ideal s .f32) (j : s.Idx) : (Host.powf a b j : EReal) = Ideal.pow (a j) (b j) := rfl
theorem neg_at {s : Shape} (a : FVec Ideal s .f32) (j : s.Idx) : (Host.negf a j : EReal) = -(a j : EReal) := rfl
theorem least_at (v : FVec Ideal S256x1x28x278 .f32) (i : FVec Ideal S_ .f32) (hi : ∀ j, (i j : EReal) = ⊤) (n : Fin 256) (q : Fin 28) :
    (Host.reduce FloatOps.minimumf v i reducesTo_S256x1x28x278_S256x1x28_d3 h_S_ (ix3 n (0 : Fin 1) q) : Ideal .f32)
      = ((Finset.univ : Finset (Fin 278)).fold min (⊤ : EReal) fun k => (v (ix4 n (0 : Fin 1) q k) : EReal)) := by
  rw [Host.reduce_eq_fold]
  rw [Shape.ReducesTo.fold_fiber_r4_a3]
  exact congrArg (fun z : EReal => Finset.univ.fold min z fun k : Fin 278 => (v (ix4 n (0 : Fin 1) q k) : EReal)) (hi _)

theorem xR_at (x : FVec Ideal S256x1x3584 .bf16) (n : Fin 256) (q : Fin 28) (l : Fin 128) :
    xR x (ix4 n (0 : Fin 1) q l) = x (ix3 n (0 : Fin 1) (feat q l)) := by
  unfold xR
  refine (shapeCast_apply _ _ (ix4 n (0 : Fin 1) q l) (ix3 n (0 : Fin 1) (feat q l)) ?_).trans rfl
  rw [Shape.rowMajor_val_three, Shape.rowMajor_val_four]
  show (n.val * 1 + 0) * 3584 + (128 * q.val + l.val) = ((n.val * 1 + 0) * 28 + q.val) * 128 + l.val
  omega

theorem amaxR_at (x : FVec Ideal S256x1x3584 .bf16) (n : Fin 256) (q : Fin 28) :
    (amaxR x (ix3 n (0 : Fin 1) q) : EReal) = topMag fun l => x (ix3 n (0 : Fin 1) (feat q l)) := by
  simp only [← xR_at]
  unfold amaxR
  rw [Host.reduce_eq_fold]
  rw [Shape.ReducesTo.fold_fiber_r4_a3]
  exact congrArg (fun z : EReal => Finset.univ.fold max z fun l : Fin 128 => (FloatOps.absf (F := Ideal) (φ := .f32) (xR x (ix4 n (0 : Fin 1) q l)) : EReal)) ninf

theorem tryR_at (i : Fin 278) : (tryR (ix1 i) : EReal) = (((i.val : ℤ) - 149 : ℤ) : ℝ) := by
  have e : (broadcastInDim S278 ![] bcast_S_S278 (constant (F := Ideal) S_ .f32 0xC3150000#32) : FVec Ideal S278 .f32) (ix1 i) = (Ideal.ofBits .f32 0xC3150000#32 : EReal) := rfl
  have s : (sitofp .f32 (iotaInDim S278 32 0) : FVec Ideal S278 .f32) (ix1 i) = (((i.val : ℤ) : ℝ) : EReal) := by
    have : (BitVec.ofNat 32 i.val).toInt = (i.val : ℤ) := (by decide +kernel : ∀ i : Fin 278, (BitVec.ofNat 32 i.val).toInt = (i.val : ℤ)) i
    rw [← this]
    rfl
  show ((broadcastInDim S278 ![] bcast_S_S278 (constant (F := Ideal) S_ .f32 0xC3150000#32) : FVec Ideal S278 .f32) (ix1 i) : EReal) + (sitofp .f32 (iotaInDim S278 32 0) : FVec Ideal S278 .f32) (ix1 i) = _
  rw [e, s, base_eq, ← EReal.coe_add]
  refine congrArg (fun r : ℝ => (r : EReal)) ?_
  push_cast
  ring
theorem powR_at (i : Fin 278) : (powR (ix1 i) : EReal) = (((2 : ℝ) ^ ((i.val : ℤ) - 149) : ℝ) : EReal) := by
  have t : ((broadcastInDim S278 ![] bcast_S_S278 (constant (F := Ideal) S_ .f32 0x40000000#32) : FVec Ideal S278 .f32) (ix1 i) : EReal) = ((2 : ℝ) : EReal) := two_eq
  unfold powR
  rw [pow_at, t, tryR_at, pow_int]
theorem twoR_at (j : S256x1x28.Idx) : (twoR j : EReal) = ((2 : ℝ) : EReal) := two_eq

theorem leastR_at (x : FVec Ideal S256x1x3584 .bf16) (n : Fin 256) (q : Fin 28) (e : ℤ) (lo : -125 ≤ e) (hi : e ≤ 120)
    (h1 : (((2 : ℝ) ^ (e - 1) : ℝ) : EReal) ≤ amaxR x (ix3 n (0 : Fin 1) q) * inv448) (h2 : amaxR x (ix3 n (0 : Fin 1) q) * inv448 < (((2 : ℝ) ^ e : ℝ) : EReal)) :
    (leastR x (ix3 n (0 : Fin 1) q) : EReal) = ((e : ℝ) : EReal) := by
  have el : ∀ i : Fin 278, (select (overR x) (broadcastInDim S256x1x28x278 ![3] bcast_S278_S256x1x28x278_3 tryR) (broadcastInDim S256x1x28x278 ![] bcast_S_S256x1x28x278 (constant (F := Ideal) S_ .f32 0x7F800000#32)) : FVec Ideal S256x1x28x278 .f32) (ix4 n (0 : Fin 1) q i)
      = (if (amaxR x (ix3 n (0 : Fin 1) q) : EReal) * inv448 < (((2 : ℝ) ^ ((i.val : ℤ) - 149) : ℝ) : EReal) then ((((i.val : ℤ) - 149 : ℤ) : ℝ) : EReal) else ⊤ : EReal) := fun i => by
    rw [ValueIdx.select_apply]
    have t1 : (broadcastInDim S256x1x28x278 ![3] bcast_S278_S256x1x28x278_3 tryR : FVec Ideal S256x1x28x278 .f32) (ix4 n (0 : Fin 1) q i) = tryR (ix1 i) := by pointwise
    have t2 : (broadcastInDim S256x1x28x278 ![] bcast_S_S256x1x28x278 (constant (F := Ideal) S_ .f32 0x7F800000#32) : FVec Ideal S256x1x28x278 .f32) (ix4 n (0 : Fin 1) q i) = (⊤ : EReal) := inf_eq
    have p1 : (broadcastInDim S256x1x28x278 ![0, 1, 2, 3] bcast_S1x1x1x278_S256x1x28x278_0_1_2_3 (broadcastInDim S1x1x1x278 ![3] bcast_S278_S1x1x1x278_3 powR) : FVec Ideal S256x1x28x278 .f32) (ix4 n (0 : Fin 1) q i) = powR (ix1 i) := by pointwise
    have p2 : ∀ y : FVec Ideal S256x1x28 .f32, (broadcastInDim S256x1x28x278 ![0, 1, 2, 3] bcast_S256x1x28x1_S256x1x28x278_0_1_2_3 (broadcastInDim S256x1x28x1 ![0, 1, 2] bcast_S256x1x28_S256x1x28x1_0_1_2 y) : FVec Ideal S256x1x28x278 .f32) (ix4 n (0 : Fin 1) q i) = y (ix3 n (0 : Fin 1) q) := fun y => by pointwise
    have ov : overR x (ix4 n (0 : Fin 1) q i) = BitVec.ofBool (decide ((amaxR x (ix3 n (0 : Fin 1) q) : EReal) * inv448 < (((2 : ℝ) ^ ((i.val : ℤ) - 149) : ℝ) : EReal))) := by
      have cst : (broadcastInDim S256x1x28 ![] bcast_S_S256x1x28 (constant (F := Ideal) S_ .f32 0x3B124925#32) : FVec Ideal S256x1x28 .f32) (ix3 n (0 : Fin 1) q) = inv448 := rfl
      unfold overR
      rw [lt_at, p2, p1, ValueIdx.mulf_apply, cst, powR_at]
    rw [ov, t1, t2, tryR_at]
    unfold Scalar.select
    by_cases h : (amaxR x (ix3 n (0 : Fin 1) q) : EReal) * inv448 < (((2 : ℝ) ^ ((i.val : ℤ) - 149) : ℝ) : EReal) <;> simp [h]
  have fold : (leastR x (ix3 n (0 : Fin 1) q) : EReal) = (Finset.univ : Finset (Fin 278)).fold min (⊤ : EReal) fun i =>
      (if (amaxR x (ix3 n (0 : Fin 1) q) : EReal) * inv448 < (((2 : ℝ) ^ ((i.val : ℤ) - 149) : ℝ) : EReal) then ((((i.val : ℤ) - 149 : ℤ) : ℝ) : EReal) else ⊤ : EReal) := by
    simp only [← el]
    unfold leastR
    exact least_at _ _ (fun _ => inf_eq) n q
  rw [fold]
  apply le_antisymm
  · rw [Finset.fold_min_le]
    refine .inr ⟨⟨(e + 149).toNat, by omega⟩, Finset.mem_univ _, ?_⟩
    have : (((e + 149).toNat : ℤ) - 149) = e := by omega
    simp only [this]
    rw [if_pos h2]
  · rw [Finset.le_fold_min]
    refine ⟨le_top, fun i _ => ?_⟩
    split_ifs with hc
    · have := h1.trans_lt hc
      rw [EReal.coe_lt_coe_iff] at this
      have := (zpow_lt_zpow_iff_right₀ (by norm_num : (1 : ℝ) < 2)).1 this
      rw [EReal.coe_le_coe_iff]
      exact_mod_cast (by omega : e ≤ (i.val : ℤ) - 149)
    · exact le_top

theorem expR_at (x : FVec Ideal S256x1x3584 .bf16) (n : Fin 256) (q : Fin 28) (e : ℤ) (h : IsExp (topMag fun l => x (ix3 n (0 : Fin 1) (feat q l))) e) :
    (expR x (ix3 n (0 : Fin 1) q) : EReal) = ((e : ℝ) : EReal) := by
  rw [← amaxR_at] at h
  have z : (broadcastInDim S256x1x28 ![] bcast_S_S256x1x28 (constant (F := Ideal) S_ .f32 0x00000000#32) : FVec Ideal S256x1x28 .f32) (ix3 n (0 : Fin 1) q) = (0 : EReal) := zero32
  have c : cmpf .oeq (amaxR x) (broadcastInDim S256x1x28 ![] bcast_S_S256x1x28 (constant (F := Ideal) S_ .f32 0x00000000#32)) (ix3 n (0 : Fin 1) q)
      = BitVec.ofBool (decide ((amaxR x (ix3 n (0 : Fin 1) q) : EReal) = 0)) := by
    rw [eqc_at, z]
  unfold expR
  rw [ValueIdx.select_apply, c, z]
  unfold Scalar.select
  rcases h with ⟨h0, rfl⟩ | ⟨lo, hi, h1, h2⟩
  · rw [decide_eq_true h0]
    simp
  · have h0 : ¬ (amaxR x (ix3 n (0 : Fin 1) q) : EReal) = 0 := fun h0 => by
      rw [h0, zero_mul, ← EReal.coe_zero, EReal.coe_le_coe_iff] at h1
      exact absurd h1 (not_le.2 (by positivity))
    rw [decide_eq_false h0]
    exact leastR_at x n q e lo hi h1 h2

/-- The reference's scales, -/
theorem scaleR_at (x : FVec Ideal S256x1x3584 .bf16) (n : Fin 256) (q : Fin 28) (e : ℤ) (h : IsExp (topMag fun l => x (ix3 n (0 : Fin 1) (feat q l))) e) :
    (scaleR x (ix3 n (0 : Fin 1) q) : EReal) = (((2 : ℝ) ^ e : ℝ) : EReal) := by
  unfold scaleR
  rw [pow_at, twoR_at, expR_at x n q e h, pow_int]
/-- and its codes, -/
theorem codesR_at (x : FVec Ideal S256x1x3584 .bf16) (n : Fin 256) (q : Fin 28) (l : Fin 128) (e : ℤ) (h : IsExp (topMag fun l => x (ix3 n (0 : Fin 1) (feat q l))) e) :
    (codesR x (ix3 n (0 : Fin 1) (feat q l)) : EReal) = min (Ideal.ofBits .f32 0x43E00000#32 : EReal) (max (Ideal.ofBits .f32 0xC3E00000#32 : EReal)
      ((x (ix3 n (0 : Fin 1) (feat q l)) : EReal) * (((2 : ℝ) ^ (-e) : ℝ) : EReal))) := by
  have c : codesR x (ix3 n (0 : Fin 1) (feat q l)) = clipR x (ix4 n (0 : Fin 1) q l) := by
    unfold codesR
    refine (shapeCast_apply _ _ (ix3 n (0 : Fin 1) (feat q l)) (ix4 n (0 : Fin 1) q l) ?_).trans rfl
    rw [Shape.rowMajor_val_three, Shape.rowMajor_val_four]
    show ((n.val * 1 + 0) * 28 + q.val) * 128 + l.val = (n.val * 1 + 0) * 3584 + (128 * q.val + l.val)
    omega
  have p : ∀ y : FVec Ideal S256x1x28 .f32, (broadcastInDim S256x1x28x128 ![0, 1, 2, 3] bcast_S256x1x28x1_S256x1x28x128_0_1_2_3 (broadcastInDim S256x1x28x1 ![0, 1, 2] bcast_S256x1x28_S256x1x28x1_0_1_2 y) : FVec Ideal S256x1x28x128 .f32) (ix4 n (0 : Fin 1) q l) = y (ix3 n (0 : Fin 1) q) := fun y => by pointwise
  have i : (Host.powf twoR (Host.negf (expR x)) (ix3 n (0 : Fin 1) q) : EReal) = (((2 : ℝ) ^ (-e) : ℝ) : EReal) := by
    rw [pow_at, twoR_at, neg_at, expR_at x n q e h, ← EReal.coe_neg, show -((e : ℤ) : ℝ) = ((-e : ℤ) : ℝ) by push_cast; rfl, pow_int]
  have k : ∀ b, (broadcastInDim S256x1x28x128 ![] bcast_S_S256x1x28x128 (constant (F := Ideal) S_ .f32 b) : FVec Ideal S256x1x28x128 .f32) (ix4 n (0 : Fin 1) q l) = Ideal.ofBits .f32 b := fun _ => rfl
  rw [c]
  unfold clipR
  rw [ValueIdx.minimumf_apply, ValueIdx.maximumf_apply, ValueIdx.mulf_apply, k, k, p, i, xR_at]
/-- as the matrix product reads them. -/
theorem flatCodesR_at (x : FVec Ideal S256x1x3584 .bf16) (n : Fin 256) (k : Fin 3584) : flatCodesR x (ix2 n k) = codesR x (ix3 n (0 : Fin 1) k) := by
  unfold flatCodesR
  refine shapeCast_apply _ _ (ix2 n k) (ix3 n (0 : Fin 1) k) ?_
  rw [Shape.rowMajor_val_three, Shape.rowMajor_val_two]
  show (n.val * 1 + 0) * 3584 + k.val = n.val * 3584 + k.val
  omega
theorem flatScaleR_at (x : FVec Ideal S256x1x3584 .bf16) (n : Fin 256) (q : Fin 28) (l : Fin 128) : flatScaleR x (ix2 n (feat q l)) = scaleR x (ix3 n (0 : Fin 1) q) := by
  have p : ∀ y : FVec Ideal S256x1x28 .f32, (broadcastInDim S256x1x28x128 ![0, 1, 2, 3] bcast_S256x1x28x1_S256x1x28x128_0_1_2_3 (broadcastInDim S256x1x28x1 ![0, 1, 2] bcast_S256x1x28_S256x1x28x1_0_1_2 y) : FVec Ideal S256x1x28x128 .f32) (ix4 n (0 : Fin 1) q l) = y (ix3 n (0 : Fin 1) q) := fun y => by pointwise
  unfold flatScaleR
  refine (shapeCast_apply _ _ (ix2 n (feat q l)) (ix4 n (0 : Fin 1) q l) ?_).trans (p _)
  rw [Shape.rowMajor_val_two, Shape.rowMajor_val_four]
  show ((n.val * 1 + 0) * 28 + q.val) * 128 + l.val = n.val * 3584 + (128 * q.val + l.val)
  omega

end Cert.ReferenceIdeal.Hand
-- ==== Proof.Quant.lean ====
/- The kernel's scales, codes and dequantised tokens are the reference's. -/
module

public import proofs.«01_k».proof.Proof.RefQuant
public import proofs.«01_k».proof.Proof.Groups

@[expose] public section

set_option maxRecDepth 16384

noncomputable section

namespace Cert.Head

open Idealize.ShloMosaic
open Cert.ReferenceIdeal.Hand (scaleR codesR flatCodesR flatScaleR scaleR_at codesR_at flatCodesR_at flatScaleR_at)

variable (X : Vec Ideal SX .bf16) (x : FVec Ideal Cert.ReferenceIdeal.S256x1x3584 .bf16)

/-- A group's features, widened. -/
theorem grpX_at (q : Fin 28) (n : Fin 256) (l : Fin 128) : (grpX X q.val q.isLt (ix2 n l) : EReal) = X (ix2 n (feat q l)) := by
  have e : ∀ v : FVec Ideal ST .bf16, (xfOf (F := Ideal) v (ix2 n l) : EReal) = v (ix2 n l) := fun v => by
    unfold xfOf
    rw [shapeCast_self]
    rfl
  unfold grpX
  rw [e]
  exact grp_at X q n l

/-- The group's exponent, for both. -/
theorem exp_at (hX : ∀ n k, X (ix2 n k) = x (ix3 n (0 : Fin 1) k)) (n : Fin 256) (q : Fin 28) (hn : Normal (topMag fun l => x (ix3 n (0 : Fin 1) (feat q l)))) :
    ∃ e : ℤ, IsExp (topMag fun l => x (ix3 n (0 : Fin 1) (feat q l))) e ∧ ∀ l : Fin 128,
      (scaleOf (F := Ideal) (grpE X q.val q.isLt) (ix2 n l) : EReal) = (((2 : ℝ) ^ e : ℝ) : EReal)
      ∧ (invOf (F := Ideal) (grpE X q.val q.isLt) (ix2 n l) : EReal) = (((2 : ℝ) ^ (-e) : ℝ) : EReal) := by
  have h := grpExp_at (grpX X q.val q.isLt) n
  have e : (fun k => (grpX X q.val q.isLt (ix2 n k) : EReal)) = fun l => x (ix3 n (0 : Fin 1) (feat q l)) := by
    funext l
    rw [grpX_at, hX]
  rw [e] at h
  exact h hn

variable (hX : ∀ n k, X (ix2 n k) = x (ix3 n (0 : Fin 1) k)) (hn : ∀ n q, Normal (topMag fun l => x (ix3 n (0 : Fin 1) (feat q l))))
include hX hn

theorem scale_eq (n : Fin 256) (q : Fin 28) : (scalesF X (ix3 q (0 : Fin 1) n) : EReal) = scaleR x (ix3 n (0 : Fin 1) q) := by
  obtain ⟨e, he, hs⟩ := exp_at X x hX n q (hn n q)
  rw [scalesF_at, scaleR_at x n q e he]
  exact (hs _).1

theorem code_at (n : Fin 256) (q : Fin 28) (l : Fin 128) :
    (codesOf (grpX X q.val q.isLt) (grpE X q.val q.isLt) (ix2 n l) : EReal) = codesR x (ix3 n (0 : Fin 1) (feat q l)) := by
  obtain ⟨e, he, hs⟩ := exp_at X x hX n q (hn n q)
  have c : ∀ (xf : FVec Ideal ST .f32) (E : IVec ST 32), (codesOf xf E (ix2 n l) : EReal)
      = min (Ideal.ofBits .f32 0x43E00000#32 : EReal) (max (Ideal.ofBits .f32 0xC3E00000#32 : EReal) ((xf (ix2 n l) : EReal) * (invOf (F := Ideal) E (ix2 n l) : EReal))) := fun xf E => by
    have b : ∀ w, (bcf (F := Ideal) w (ix2 n l) : EReal) = Ideal.ofBits .f32 w := fun _ => rfl
    unfold codesOf
    rw [ValueIdx.truncf_apply, ValueIdx.minimumf_apply, ValueIdx.maximumf_apply, ValueIdx.mulf_apply, b, b]
  rw [c, codesR_at x n q l e he, (hs l).2, grpX_at, hX]

theorem code_eq (C : Vec Ideal SX .fp8e4m3) (n : Fin 256) (k : Fin 3584) : (codesF X C (ix2 n k) : EReal) = codesR x (ix3 n (0 : Fin 1) k) := by
  obtain ⟨q, l, rfl⟩ := feat_of k
  rw [codesF_at]
  exact code_at X x hX hn n q l

theorem token_eq (B : Vec Ideal SX .bf16) (n : Fin 256) (k : Fin 3584) :
    (xbF X B (ix2 n k) : EReal) = (flatCodesR x (ix2 n k) : EReal) * flatScaleR x (ix2 n k) := by
  obtain ⟨q, l, rfl⟩ := feat_of k
  obtain ⟨e, he, hs⟩ := exp_at X x hX n q (hn n q)
  have b : ∀ (xf : FVec Ideal ST .f32) (E : IVec ST 32), (xbOf xf E (ix2 n l) : EReal) = (codesOf xf E (ix2 n l) : EReal) * (scaleOf (F := Ideal) E (ix2 n l) : EReal) := fun _ _ => by
    unfold xbOf
    rw [ValueIdx.mulf_apply, ValueIdx.extf_apply, ValueIdx.truncf_apply]
  rw [xbF_at, b, code_at X x hX hn, (hs l).1, flatCodesR_at, flatScaleR_at, scaleR_at x n q e he]

end Cert.Head
-- ==== Proof.Places.lean ====
/- The columns the selected indices name: an index selected for a value above all padding is that of a column
   of this value, and of the one a sort puts there where the value is found once. -/
module

public import proofs.«01_k».proof.Proof.Counts

@[expose] public section

noncomputable section

namespace Cert.Head

open Idealize.ShloMosaic

/-- The lists hold tiles' values with the tiles' numbers, apart from padding. -/
def Tagged (g : Fin 128 → ℕ → EReal) (Q : Row) : Prop :=
  (∀ l j, Q l j ≠ []) ∧ ∀ l j, ∀ e ∈ Q l j, ⊥ < e.1 → ∃ T < 300, e = entOf (g l) T

theorem tagged_round {g : Fin 128 → ℕ → EReal} {L : LL Ideal} {n : Fin 256} (h : Tagged g (rowL L n)) : ∀ k, Tagged g (rowL (roundN L k) n)
  | 0 => h
  | k + 1 => by
    have ih := tagged_round h k
    refine ⟨fun l j => ?_, fun l j e he hv => ?_⟩
    · rw [roundN, lane_roundP]
      unfold popIf
      split_ifs
      · simp
      · exact ih.1 l j
    · rw [roundN, lane_roundP] at he
      rcases @mem_popIf _ (Classical.propDecidable _) _ _ he with he | rfl
      · exact ih.2 l j e he hv
      · exact absurd hv (lt_irrefl _)

/-- The index taken is that of a tile and lane of the value taken. -/
theorem place_of {g : Fin 128 → ℕ → EReal} {Q : Row} (h : Tagged g Q) {b ix : EReal} (hb : IsBest Q b) (hi : IsLeast' Q b ix) (hbot : ⊥ < b) :
    ∃ (l : Fin 128) (T : ℕ), T < 300 ∧ g l T = b ∧ ix = (((128 * T + l.val : ℕ) : ℝ) : EReal) := by
  have top : ix < ⊤ := by
    obtain ⟨l, j, hl⟩ := hb.att
    have hle := hi.le l j
    rw [cand, if_pos hl] at hle
    obtain ⟨T, -, hT⟩ := h.2 l j _ (hd_mem (h.1 l j)) (by rw [hl]; exact hbot)
    refine lt_of_le_of_lt hle ?_
    rw [hT]
    show ((T : ℝ) : EReal) * ((128 : ℝ) : EReal) + ((l.val : ℝ) : EReal) < ⊤
    rw [← EReal.coe_mul, ← EReal.coe_add]
    exact EReal.coe_lt_top _
  obtain ⟨l, j, hc⟩ := hi.att
  have hv : (hd (Q l j)).1 = b := by
    by_contra hne
    rw [cand, if_neg hne] at hc
    rw [← hc] at top
    exact absurd top (lt_irrefl _)
  obtain ⟨T, hT, he⟩ := h.2 l j _ (hd_mem (h.1 l j)) (by rw [hv]; exact hbot)
  refine ⟨l, T, hT, ?_, ?_⟩
  · rw [← hv, he]; rfl
  · rw [← hc, cand, if_pos hv, he]
    show ((T : ℝ) : EReal) * ((128 : ℝ) : EReal) + ((l.val : ℝ) : EReal) = _
    rw [← EReal.coe_mul, ← EReal.coe_add]
    congr 1
    push_cast
    ring

theorem word_of (N : ℕ) (h : N < 2 ^ 31) : Ideal.fptosi 32 (((N : ℝ) : EReal)) = BitVec.ofNat 32 N := by
  have e : (if (0 : ℝ) ≤ (N : ℝ) then ⌊(N : ℝ)⌋ else ⌈(N : ℝ)⌉) = (N : ℤ) := by
    rw [if_pos (Nat.cast_nonneg N), Int.floor_natCast]
  unfold Ideal.fptosi
  rw [Ideal.toIntClamped_coe]
  norm_num
  rw [min_eq_right (by omega)]
  exact BitVec.ofInt_natCast 32 N

theorem roundsI_at (n : Fin 256) (l : Fin 128) : ∀ (m k : Nat) (hk : k + m ≤ 128) (o : FVec Ideal ST .f32) (L : LL Ideal),
    roundsI m k o L (ix2 n l) = if k ≤ l.val ∧ l.val < k + m then leastP (roundN L (l.val - k)) (ix2 n (0 : Fin 1)) else o (ix2 n l)
  | 0, k, _, o, L => by unfold roundsI; rw [if_neg (by omega)]
  | m + 1, k, hk, o, L => by
    unfold roundsI
    rw [roundsI_at n l m (k + 1) (by omega), putLane_at k (by omega), roundN_add]
    by_cases h : l.val = k
    · rw [if_neg (by omega), if_pos h, if_pos (by omega), h, Nat.sub_self]; rfl
    · by_cases h2 : k ≤ l.val ∧ l.val < k + (m + 1)
      · rw [if_pos (by omega), if_pos h2, show l.val - (k + 1) + 1 = l.val - k by omega]
      · rw [if_neg (by omega), if_neg h, if_neg h2]

theorem selI_at (L : LL Ideal) (q : Fin 8) (n : Fin 256) :
    selI L (ix2 q n) = Ideal.fptosi 32 (leastP (roundN L q.val) (ix2 n (0 : Fin 1)) : EReal) := by
  unfold selI rowsO
  have e : ∀ x : FVec Ideal ST .f32, extractStridedSlice SO ![0, 0] (transpose STt [1, 0] x trT) slO (ix2 q n) = x (ix2 n ⟨q.val, by omega⟩) := fun x => by
    pointwise
  refine congrArg (Ideal.fptosi 32) ((e _).trans ?_)
  rw [roundsI_at n _ 8 0 (by omega), if_pos ⟨Nat.zero_le _, by simp⟩]
  rfl

/-- The index selected beside a value above all padding is a column's of that value. -/
theorem selI_col (G : ℕ → Vec Ideal SU .f32) (n : Fin 256) (f : Fin 38016 → EReal)
    (hf : ∀ (l : Fin 128) (T : ℕ) (h : T < 297), G (T / 4) (ix2 n (⟨128 * (T % 4) + l.val, by omega⟩ : Fin 512)) = f ⟨128 * T + l.val, by omega⟩) (q : Fin 8)
    (hv : (⊥ : EReal) < selV (listsAt G 75) (ix2 q n)) :
    ∃ j : Fin 38016, f j = selV (listsAt G 75) (ix2 q n) ∧ selI (listsAt G 75) (ix2 q n) = BitVec.ofNat 32 j.val := by
  have ok : ∀ l, LaneOK (laneF' G n l) 300 (rowL (listsAt G 75) n l) := fun l => laneOK_listsAt G n l 75 le_rfl
  have tg : Tagged (laneF' G n) (rowL (listsAt G 75) n) := ⟨(LaneOK.rowOK ok).ne, fun l j => (ok l).tag j⟩
  rw [selV_at] at hv ⊢
  obtain ⟨l, T, hT, hg, hx⟩ := place_of (tagged_round tg q.val) (isBest_bestP _ n) (isLeast_leastP _ n) hv
  have h297 : T < 297 := by
    by_contra hn
    unfold laneF' at hg
    rw [if_neg hn] at hg
    rw [← hg] at hv
    exact absurd hv (lt_irrefl _)
  refine ⟨⟨128 * T + l.val, by omega⟩, ?_, ?_⟩
  · rw [← hf l T h297, ← hg]
    unfold laneF'
    rw [if_pos h297]
  · rw [selI_at, hx]
    exact word_of _ (by omega)

/-- Where one of the first seven values is found once among the eight, its index is the one a sort gives. -/
theorem selI_order (G : ℕ → Vec Ideal SU .f32) (n : Fin 256) (f : Fin 38016 → EReal)
    (hf : ∀ (l : Fin 128) (T : ℕ) (h : T < 297), G (T / 4) (ix2 n (⟨128 * (T % 4) + l.val, by omega⟩ : Fin 512)) = f ⟨128 * T + l.val, by omega⟩) (q : Fin 8)
    (hq : q.val < 7) (ha : ∀ r, r ≠ q → (selV (listsAt G 75) (ix2 q n) : EReal) ≠ selV (listsAt G 75) (ix2 r n)) :
    selI (listsAt G 75) (ix2 q n) = BitVec.ofNat 32 (order f ⟨q.val, by omega⟩).val := by
  have ha' : ∀ r : Fin 8, r ≠ q → f (order f ⟨q.val, by omega⟩) ≠ f (order f ⟨r.val, by omega⟩) := fun r hr => by
    rw [← selV_cols G n f hf q, ← selV_cols G n f hf r]
    exact ha r hr
  have hnext : f (order f ⟨q.val + 1, by omega⟩) < f (order f ⟨q.val, by omega⟩) :=
    lt_of_le_of_ne (order_anti f (Fin.mk_le_mk.2 (Nat.le_succ _))) (Ne.symm (ha' ⟨q.val + 1, by omega⟩ (fun h => by
      have := congrArg Fin.val h
      simp at this)))
  obtain ⟨j, hj, hw⟩ := selI_col G n f hf q (by rw [selV_cols G n f hf q]; exact lt_of_le_of_lt bot_le hnext)
  rw [selV_cols G n f hf q] at hj
  obtain ⟨i, hi⟩ := sortedFrom_surjective (fun k k' => Ideal.cmpTotal .gt (f k) (f k') == 1#1) j
  have hi : order f i = j := hi
  rw [hw]
  have key : i = ⟨q.val, by omega⟩ := by
    rw [← hi] at hj
    rcases lt_trichotomy i.val q.val with h | h | h
    · have h1 : f (order f ⟨q.val, by omega⟩) ≤ f (order f ⟨q.val - 1, by omega⟩) := order_anti f (Fin.mk_le_mk.2 (by omega))
      have h2 : f (order f ⟨q.val - 1, by omega⟩) ≤ f (order f i) := order_anti f (Fin.le_def.2 (by show i.val ≤ q.val - 1; omega))
      exact absurd (le_antisymm h1 (h2.trans hj.le)) (ha' ⟨q.val - 1, by omega⟩ (fun h' => by
        have := congrArg Fin.val h'
        simp at this
        omega))
    · exact Fin.ext h
    · have h1 : f (order f i) ≤ f (order f ⟨q.val + 1, by omega⟩) := order_anti f (Fin.le_def.2 (by show q.val + 1 ≤ i.val; omega))
      exact absurd (hj.symm.le.trans h1) (not_le.2 hnext)
  rw [← hi, key]

end Cert.Head
-- ==== Proof.Equal.lean ====
/- The kernel's results are the reference's, from the same arguments. -/
module

public import proofs.«01_k».proof.Proof.IEnd
public import proofs.«01_k».proof.Proof.RefEnd
public import proofs.«01_k».proof.Proof.Quant
public import proofs.«01_k».proof.Proof.Places

@[expose] public section

set_option maxRecDepth 16384

noncomputable section

namespace Cert.Same

open Cert.Head
open Idealize.ShloMosaic Idealize.ShloMosaic.TcCoe
open Cert.KernelIdeal.Hand (xAt xAt_at wZ_at sZ_at bZ_at t0 xbV gAt lastL indices_at end5_at end8_at end9_at)
open Cert.ReferenceIdeal.Hand (prodR logitsR topR topI)

/-- An array of one middle coordinate is known by its rows. -/
theorem mid_ext {α : Type} {a b : ℕ} {x y : (⟨3, ![a, 1, b]⟩ : Shape).Idx → α} (h : ∀ n q, x (ix3 n (0 : Fin 1) q) = y (ix3 n (0 : Fin 1) q)) : x = y := by
  funext j
  have hj : j = ix3 (j 0) (0 : Fin 1) (j 2) := by
    funext i
    fin_cases i
    · rfl
    · exact Subsingleton.elim (α := Fin 1) _ _
    · rfl
  rw [hj]
  exact h _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : (Cert.ReferenceIdeal.Hand.a0 m' c : FVec Ideal Cert.ReferenceIdeal.S256x1x3584 .bf16) = Cert.KernelIdeal.Hand.a0 m c)
  (h1 : (Cert.ReferenceIdeal.Hand.a1 m' c : FVec Ideal Cert.ReferenceIdeal.S38016x3584 .fp8e4m3) = Cert.KernelIdeal.Hand.a1 m c)
  (h2 : (Cert.ReferenceIdeal.Hand.a2 m' c : FVec Ideal Cert.ReferenceIdeal.S38016 .f32) = Cert.KernelIdeal.Hand.a2 m c)
  (h3 : (Cert.ReferenceIdeal.Hand.a3 m' c : FVec Ideal Cert.ReferenceIdeal.S38016 .f32) = Cert.KernelIdeal.Hand.a3 m c)
  (hn : ∀ (n : Fin 256) (q : Fin 28), Normal (topMag fun l => Cert.ReferenceIdeal.Hand.a0 m' c (ix3 n (0 : Fin 1) (feat q l))))

include h0 in
theorem tokens (n : Fin 256) (k : Fin 3584) : xAt m c t0 (ix2 n k) = Cert.ReferenceIdeal.Hand.a0 m' c (ix3 n (0 : Fin 1) k) := by
  rw [h0]
  exact xAt_at m c t0 n k

include h0 hn in
theorem scales_same : (Cert.KernelIdeal.Hand.vEnd m c Cert.KernelIdeal.main_v9 : FVec Ideal Cert.KernelIdeal.S256x1x28 .f32) = Cert.ReferenceIdeal.Hand.vEnd m' c Cert.ReferenceIdeal.main_v22 := by
  rw [Cert.ReferenceIdeal.Hand.end22]
  refine mid_ext fun n q => ?_
  exact (end9_at m c n q).trans (scale_eq _ _ (tokens m m' c h0) hn n q)

include h0 hn in
theorem codes_same : (Cert.KernelIdeal.Hand.vEnd m c Cert.KernelIdeal.main_v8 : FVec Ideal Cert.KernelIdeal.S256x1x3584 .fp8e4m3) = Cert.ReferenceIdeal.Hand.vEnd m' c Cert.ReferenceIdeal.main_v31 := by
  rw [Cert.ReferenceIdeal.Hand.end31]
  refine mid_ext fun n k => ?_
  exact (end8_at m c n k).trans (code_eq _ _ (tokens m m' c h0) hn _ n k)

include h0 h1 h2 h3 hn in
/-- A unit's logits are the reference's. -/
theorem logits_same (n : Fin 256) (l : Fin 128) (T : ℕ) (h : T < 297) :
    (gAt m c (T / 4) (ix2 n (⟨128 * (T % 4) + l.val, by omega⟩ : Fin 512)) : EReal)
      = logitsR (prodR m' c) (Cert.ReferenceIdeal.Hand.a2 m' c) (Cert.ReferenceIdeal.Hand.a3 m' c) (ix2 n (⟨128 * T + l.val, by omega⟩ : Fin 38016)) := by
  have ht : T / 4 < Cert.KernelIdeal.cfg0.N := by
    show T / 4 < 75
    omega
  have hj : 512 * (⟨T / 4, ht⟩ : Fin Cert.KernelIdeal.cfg0.N).val + (⟨128 * (T % 4) + l.val, by omega⟩ : Fin 512).val < 38016 := by
    show 512 * (T / 4) + (128 * (T % 4) + l.val) < 38016
    omega
  have e : (⟨512 * (⟨T / 4, ht⟩ : Fin Cert.KernelIdeal.cfg0.N).val + (⟨128 * (T % 4) + l.val, by omega⟩ : Fin 512).val, hj⟩ : Fin 38016) = ⟨128 * T + l.val, by omega⟩ := by
    apply Fin.ext
    show 512 * (T / 4) + (128 * (T % 4) + l.val) = 128 * T + l.val
    omega
  unfold gAt
  rw [dif_pos ht, logitsOf_at, Cert.ReferenceIdeal.Hand.logitsR_at, sZ_at m c _ _ hj, bZ_at m c _ _ hj, e, h2, h3]
  have w : ∀ k, Cert.KernelIdeal.Hand.wZ m c ⟨T / 4, ht⟩ (ix2 (⟨128 * (T % 4) + l.val, by omega⟩ : Fin 512) k) = Cert.KernelIdeal.Hand.a1 m c (ix2 (⟨128 * T + l.val, by omega⟩ : Fin 38016) k) := fun k => by
    rw [wZ_at m c _ _ k hj, e]
  have p : (prodR m' c (ix2 n (⟨128 * T + l.val, by omega⟩ : Fin 38016)) : EReal)
      = ∑ k : Fin 3584, (xbV m c (ix2 n k) : EReal) * Cert.KernelIdeal.Hand.wZ m c ⟨T / 4, ht⟩ (ix2 (⟨128 * (T % 4) + l.val, by omega⟩ : Fin 512) k) := by
    unfold prodR
    rw [Cert.ReferenceIdeal.Hand.out_at]
    refine Finset.sum_congr rfl fun k _ => ?_
    rw [w, h1]
    refine congrArg (fun z : EReal => z * Cert.KernelIdeal.Hand.a1 m c (ix2 (⟨128 * T + l.val, by omega⟩ : Fin 38016) k)) ?_
    exact (token_eq _ _ (tokens m m' c h0) hn _ n k).symm
  rw [p]
  rfl

include h0 h1 h2 h3 hn in
theorem values_same : (Cert.KernelIdeal.Hand.vEnd m c Cert.KernelIdeal.main_v5 : FVec Ideal Cert.KernelIdeal.S256x1x8 .f32) = Cert.ReferenceIdeal.Hand.vEnd m' c Cert.ReferenceIdeal.main_v43 := by
  refine mid_ext fun n q => ?_
  have k : selV (lastL m c) (ix2 q n) = topR (logitsR (prodR m' c) (Cert.ReferenceIdeal.Hand.a2 m' c) (Cert.ReferenceIdeal.Hand.a3 m' c)) (ix2 n q) := by
    rw [Cert.ReferenceIdeal.Hand.topR_at]
    have hf := fun l T h => logits_same m m' c h0 h1 h2 h3 hn n l T h
    generalize logitsR (prodR m' c) (Cert.ReferenceIdeal.Hand.a2 m' c) (Cert.ReferenceIdeal.Hand.a3 m' c) = L at hf ⊢
    exact selV_cols (gAt m c) n (fun j : Fin 38016 => (L (ix2 n j) : EReal)) hf q
  rw [end5_at, k]
  exact (Cert.ReferenceIdeal.Hand.end43_at m' c n q).symm

include h0 h1 h2 h3 hn in
theorem indices_same : (Cert.KernelIdeal.Hand.vEnd m c Cert.KernelIdeal.main_v25 : IVec Cert.KernelIdeal.S256x1x8 32) = Cert.ReferenceIdeal.Hand.vEnd m' c Cert.ReferenceIdeal.main_v60 := by
  have hv := values_same m m' c h0 h1 h2 h3 hn
  rw [Cert.KernelIdeal.Hand.end5, Cert.ReferenceIdeal.Hand.end43] at hv
  rw [Cert.KernelIdeal.Hand.end25, Cert.ReferenceIdeal.Hand.end60, ← hv]
  refine mid_ext fun n q => untied_at _ _ _ n q fun hq ha => ?_
  have hf := fun l T h => logits_same m m' c h0 h1 h2 h3 hn n l T h
  have hs : ∀ r : Fin 8, (shapeCast Cert.KernelIdeal.S256x1x8 (transpose Cert.KernelIdeal.S256x8 [1, 0] (selV (lastL m c) : Vec Ideal Cert.KernelIdeal.S8x256 .f32) Cert.KernelIdeal.Gen.transposes_S8x256_S256x8_1_0 : Vec Ideal Cert.KernelIdeal.S256x8 .f32) Cert.KernelIdeal.Gen.shapeCasts_S256x8_S256x1x8 : Vec Ideal Cert.KernelIdeal.S256x1x8 .f32) (ix3 n (0 : Fin 1) r) = selV (lastL m c) (ix2 r n) := fun r => by
    rw [← Cert.KernelIdeal.Hand.end5]
    exact end5_at m c n r
  refine (indices_at m c n q).trans ((?_ : _ = topI (logitsR (prodR m' c) (Cert.ReferenceIdeal.Hand.a2 m' c) (Cert.ReferenceIdeal.Hand.a3 m' c)) (ix2 n q)).trans (Cert.KernelIdeal.Hand.spread_at _ _ _ _).symm)
  rw [Cert.ReferenceIdeal.Hand.topI_at]
  generalize logitsR (prodR m' c) (Cert.ReferenceIdeal.Hand.a2 m' c) (Cert.ReferenceIdeal.Hand.a3 m' c) = L at hf ⊢
  refine selI_order (gAt m c) n (fun j : Fin 38016 => (L (ix2 n j) : EReal)) hf q hq fun r hr he => ha r hr ?_
  exact (hs q).trans (Eq.trans he (hs r).symm)

end Cert.Same
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.IFrame
public import proofs.«01_k».proof.Proof.Precond
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Kernel and reference end with the same greatest logits, their indices, codes and scales. -/
theorem same : Cert.algebraic_KernelIdeal_ReferenceIdeal_pre_normal_groups (hKernelIdeal := Cert.KernelIdeal.Gen.facts)
    (hReferenceIdeal := Cert.ReferenceIdeal.Gen.facts) (hPre_normal_groups := Cert.Pre_normal_groups.Hand.facts) := by
  intro m g m' g' hpre hargs
  have hn : ∀ (c : Dev Cert.KernelIdeal.nD) (n : Fin 256) (q : Fin 28),
      Cert.Head.Normal (Cert.Head.topMag fun l => Cert.ReferenceIdeal.Hand.a0 m' c (ix3 n (0 : Fin 1) (Cert.Head.feat q l))) := fun c n q => by
    have h0 : Cert.ReferenceIdeal.Hand.a0 m' c = Cert.KernelIdeal.Hand.a0 m c := (hargs c).1
    rw [h0]
    exact Cert.Pre_normal_groups.Hand.normal_of _ _ _ _ (hpre c) n q
  refine ⟨fun c => Cert.KernelIdeal.Hand.vEnd m c Cert.KernelIdeal.main_v5, fun c => Cert.KernelIdeal.Hand.vEnd m c Cert.KernelIdeal.main_v25,
    fun c => Cert.KernelIdeal.Hand.vEnd m c Cert.KernelIdeal.main_v8,
    fun c => Cert.KernelIdeal.Hand.vEnd m c Cert.KernelIdeal.main_v9, Cert.KernelIdeal.Hand.ends m g, ?_⟩
  refine (θ_run _ _ _).mono (fun r h c => ?_) (Cert.ReferenceIdeal.Hand.ends m' g')
  obtain ⟨r1, r2, r3, r4, rest⟩ := h c
  obtain ⟨h0, h1, h2, h3⟩ := hargs c
  exact ⟨r1.trans (Cert.Same.values_same m m' c h0 h1 h2 h3 (hn c)).symm, r2.trans (Cert.Same.indices_same m m' c h0 h1 h2 h3 (hn c)).symm,
    r3.trans (Cert.Same.codes_same m m' c h0 (hn c)).symm, r4.trans (Cert.Same.scales_same m m' c h0 (hn c)).symm, rest⟩

/-- The claims of `Cert.Claim`, in its order. -/
theorem claim : Cert.Claim := ⟨Cert.Kernel.Gen.facts, Cert.KernelIdeal.Gen.facts, Cert.ReferenceIdeal.Gen.facts, Cert.Pre_normal_groups.Hand.facts,
  fun m g _ => Cert.Kernel.Hand.frame_run m g, fun m g _ => Cert.KernelIdeal.Hand.frame_run m g, fun m g _ => Cert.KernelIdeal.Hand.frame_run m g,
  fun m g _ => Cert.ReferenceIdeal.Gen.frame m g, fun m g _ => Cert.ReferenceIdeal.Gen.frame m g, trivial, same⟩

end Cert.Proof

end
